-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "score_scale_log2e" .f32 0x3DD53B95#32 (((Real.sqrt 192)⁻¹ * (Real.log 2)⁻¹ : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S64x1x128x512 : Shape := ⟨4, ![64, 1, 128, 512]⟩
abbrev S64x1x128x64 : Shape := ⟨4, ![64, 1, 128, 64]⟩
abbrev S64x1x512 : Shape := ⟨3, ![64, 1, 512]⟩
abbrev S64x1x64 : Shape := ⟨3, ![64, 1, 64]⟩
abbrev S64x2048x512 : Shape := ⟨3, ![64, 2048, 512]⟩
abbrev S64x2048x4 : Shape := ⟨3, ![64, 2048, 4]⟩
abbrev S64x2048x64 : Shape := ⟨3, ![64, 2048, 64]⟩
abbrev S_ : Shape := ⟨0, ![]⟩

class Facts : Prop where
  bcast_S_S64x1x512 : S_.BroadcastsInDim S64x1x512 (![] : Fin 0 → Fin S64x1x512.rank)

variable [Facts]

def fn {F : FTy → Type} [FloatOps F] (main_arg0 : FVec F S64x1x128x512 .bf16) (main_arg1 : FVec F S64x1x128x64 .bf16) (main_arg2 : FVec F S64x1x512 .bf16) (main_arg3 : FVec F S64x1x64 .bf16) (main_arg4 : FVec F S64x2048x512 .fp8e4m3) (main_arg5 : FVec F S64x2048x4 .f32) (main_arg6 : FVec F S64x2048x64 .bf16) (main_arg7 : IVec S64x1x512 32) : IVec S64x1x512 1 :=
  let main_c : IVec S_ 32 := constantI S_ 32 2048#32
  let main_v0 : IVec S64x1x512 32 := broadcastInDim S64x1x512 ![] bcast_S_S64x1x512 main_c
  let main_v1 : IVec S64x1x512 1 := cmpi .slt main_arg7 main_v0
  main_v1
-- ==== Kernel.lean ====
abbrev S64x1x128x512 : Shape := ⟨4, ![64, 1, 128, 512]⟩
abbrev S64x1x128x64 : Shape := ⟨4, ![64, 1, 128, 64]⟩
abbrev S64x1x512 : Shape := ⟨3, ![64, 1, 512]⟩
abbrev S64x1x64 : Shape := ⟨3, ![64, 1, 64]⟩
abbrev S64x2048x512 : Shape := ⟨3, ![64, 2048, 512]⟩
abbrev S64x2048x4 : Shape := ⟨3, ![64, 2048, 4]⟩
abbrev S64x2048x64 : Shape := ⟨3, ![64, 2048, 64]⟩
abbrev S64x1x64x128 : Shape := ⟨4, ![64, 1, 64, 128]⟩
abbrev S64x4x2048 : Shape := ⟨3, ![64, 4, 2048]⟩
abbrev S64x64x2048 : Shape := ⟨3, ![64, 64, 2048]⟩
abbrev S1x1x128x512 : Shape := ⟨4, ![1, 1, 128, 512]⟩
abbrev S1x1x64x128 : Shape := ⟨4, ![1, 1, 64, 128]⟩
abbrev S1x1x512 : Shape := ⟨3, ![1, 1, 512]⟩
abbrev S1x1x64 : Shape := ⟨3, ![1, 1, 64]⟩
abbrev S1x2048x512 : Shape := ⟨3, ![1, 2048, 512]⟩
abbrev S1x4x2048 : Shape := ⟨3, ![1, 4, 2048]⟩
abbrev S1x64x2048 : Shape := ⟨3, ![1, 64, 2048]⟩
abbrev S8x128x256 : Shape := ⟨3, ![8, 128, 256]⟩
abbrev S2048x512 : Shape := ⟨2, ![2048, 512]⟩
abbrev S16x1x128 : Shape := ⟨3, ![16, 1, 128]⟩
abbrev S1x512 : Shape := ⟨2, ![1, 512]⟩
abbrev S16x512 : Shape := ⟨2, ![16, 512]⟩
abbrev S128x512 : Shape := ⟨2, ![128, 512]⟩
abbrev S16x128 : Shape := ⟨2, ![16, 128]⟩
abbrev S1 : Shape := ⟨1, ![1]⟩
abbrev S1x1x1 : Shape := ⟨3, ![1, 1, 1]⟩
abbrev S64x128 : Shape := ⟨2, ![64, 128]⟩
abbrev S128x64 : Shape := ⟨2, ![128, 64]⟩
abbrev S128 : Shape := ⟨1, ![128]⟩
abbrev S128x1 : Shape := ⟨2, ![128, 1]⟩
abbrev S1x64 : Shape := ⟨2, ![1, 64]⟩
abbrev S1x256x512 : Shape := ⟨3, ![1, 256, 512]⟩
abbrev S256x512 : Shape := ⟨2, ![256, 512]⟩
abbrev S1x4x256 : Shape := ⟨3, ![1, 4, 256]⟩
abbrev S4x256 : Shape := ⟨2, ![4, 256]⟩
abbrev S256x4 : Shape := ⟨2, ![256, 4]⟩
abbrev S256x128 : Shape := ⟨2, ![256, 128]⟩
abbrev S256x1 : Shape := ⟨2, ![256, 1]⟩
abbrev S128x256 : Shape := ⟨2, ![128, 256]⟩
abbrev S1x64x256 : Shape := ⟨3, ![1, 64, 256]⟩
abbrev S64x256 : Shape := ⟨2, ![64, 256]⟩
abbrev S128x128 : Shape := ⟨2, ![128, 128]⟩
abbrev S1x1x128 : Shape := ⟨3, ![1, 1, 128]⟩
abbrev S1x128 : Shape := ⟨2, ![1, 128]⟩
abbrev S1x128x256 : Shape := ⟨3, ![1, 128, 256]⟩

abbrev nBuf : Space → Nat
  | .hbm => 12
  | .vmem => 21
  | .smem => 0
  | _ => 0

abbrev bufTy : (tb : Table) → Fin (tcTables nBuf tb) → BufTy
  | .hbm, ⟨0, _⟩ => ⟨S64x1x128x512, .bf16⟩
  | .hbm, ⟨1, _⟩ => ⟨S64x1x128x64, .bf16⟩
  | .hbm, ⟨2, _⟩ => ⟨S64x1x512, .bf16⟩
  | .hbm, ⟨3, _⟩ => ⟨S64x1x64, .bf16⟩
  | .hbm, ⟨4, _⟩ => ⟨S64x2048x512, .fp8e4m3⟩
  | .hbm, ⟨5, _⟩ => ⟨S64x2048x4, .f32⟩
  | .hbm, ⟨6, _⟩ => ⟨S64x2048x64, .bf16⟩
  | .hbm, ⟨7, _⟩ => ⟨S64x1x512, .i32⟩
  | .hbm, ⟨8, _⟩ => ⟨S64x1x64x128, .bf16⟩
  | .hbm, ⟨9, _⟩ => ⟨S64x4x2048, .f32⟩
  | .hbm, ⟨10, _⟩ => ⟨S64x64x2048, .bf16⟩
  | .hbm, ⟨11, _⟩ => ⟨S64x1x128x512, .bf16⟩
  | .local _ .vmem, ⟨0, _⟩ => ⟨S1x1x128x512, .bf16⟩
  | .local _ .vmem, ⟨1, _⟩ => ⟨S1x1x128x512, .bf16⟩
  | .local _ .vmem, ⟨2, _⟩ => ⟨S1x1x64x128, .bf16⟩
  | .local _ .vmem, ⟨3, _⟩ => ⟨S1x1x64x128, .bf16⟩
  | .local _ .vmem, ⟨4, _⟩ => ⟨S1x1x512, .bf16⟩
  | .local _ .vmem, ⟨5, _⟩ => ⟨S1x1x512, .bf16⟩
  | .local _ .vmem, ⟨6, _⟩ => ⟨S1x1x64, .bf16⟩
  | .local _ .vmem, ⟨7, _⟩ => ⟨S1x1x64, .bf16⟩
  | .local _ .vmem, ⟨8, _⟩ => ⟨S1x2048x512, .fp8e4m3⟩
  | .local _ .vmem, ⟨9, _⟩ => ⟨S1x2048x512, .fp8e4m3⟩
  | .local _ .vmem, ⟨10, _⟩ => ⟨S1x4x2048, .f32⟩
  | .local _ .vmem, ⟨11, _⟩ => ⟨S1x4x2048, .f32⟩
  | .local _ .vmem, ⟨12, _⟩ => ⟨S1x64x2048, .bf16⟩
  | .local _ .vmem, ⟨13, _⟩ => ⟨S1x64x2048, .bf16⟩
  | .local _ .vmem, ⟨14, _⟩ => ⟨S1x1x512, .i32⟩
  | .local _ .vmem, ⟨15, _⟩ => ⟨S1x1x512, .i32⟩
  | .local _ .vmem, ⟨16, _⟩ => ⟨S1x1x128x512, .bf16⟩
  | .local _ .vmem, ⟨17, _⟩ => ⟨S1x1x128x512, .bf16⟩
  | .local _ .vmem, ⟨18, _⟩ => ⟨S8x128x256, .f32⟩
  | .local _ .vmem, ⟨19, _⟩ => ⟨S2048x512, .bf16⟩
  | .local _ .vmem, ⟨20, _⟩ => ⟨S16x1x128, .f32⟩
  | _, _ => ⟨S64x1x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![64], ![false]⟩

@[reducible] def k0_t1_loop (v73 : BitVec 32) : Scf.Loop 32 :=
  let c0_i32_44 : BitVec 32 := 0#32
  let c0_i32_20 : BitVec 32 := 0#32
  let v75 : BitVec 1 := Scalar.cmpi .sgt v73 c0_i32_20
  let v76 : BitVec 32 := Scalar.extui v75
  let c0_i32_21 : BitVec 32 := 0#32
  let v77 : BitVec 1 := Scalar.cmpi .slt v73 c0_i32_21
  let v78 : BitVec 32 := Scalar.extui v77
  let v79 : BitVec 32 := Scalar.subi v76 v78
  let c256_i32 : BitVec 32 := 256#32
  let c0_i32_22 : BitVec 32 := 0#32
  let v80 : BitVec 1 := Scalar.cmpi .sgt c256_i32 c0_i32_22
  let v81 : BitVec 32 := Scalar.extui v80
  let c0_i32_23 : BitVec 32 := 0#32
  let v82 : BitVec 1 := Scalar.cmpi .slt c256_i32 c0_i32_23
  let v83 : BitVec 32 := Scalar.extui v82
  let v84 : BitVec 32 := Scalar.subi v81 v83
  let v85 : BitVec 1 := Scalar.cmpi .ne v79 v84
  let v86 : BitVec 32 := Scalar.remsi v73 c256_i32
  let c0_i32_24 : BitVec 32 := 0#32
  let v87 : BitVec 1 := Scalar.cmpi .ne v86 c0_i32_24
  let v88 : BitVec 1 := Scalar.andi v85 v87
  let v74 : BitVec 32 := Scalar.divsi v73 c256_i32
  let c1_i32_25 : BitVec 32 := 1#32
  let v89 : BitVec 32 := Scalar.subi v74 c1_i32_25
  let v90 : BitVec 32 := Scalar.select v88 v89 v74
  let c1_i32_26 : BitVec 32 := 1#32
  let v91 : BitVec 32 := Scalar.addi v90 c1_i32_26
  let v118 : BitVec 32 := Scalar.subi v91 c0_i32_44
  let c1_i32_45 : BitVec 32 := 1#32
  let v120 : BitVec 32 := Scalar.divsi v118 c1_i32_45
  let v121 : BitVec 32 := Scalar.muli v120 c1_i32_45
  let v122 : BitVec 32 := Scalar.addi c0_i32_44 v121
  let c1_i32_46 : BitVec 32 := 1#32
  ⟨c0_i32_44, v122, c1_i32_46⟩

def k0_mult1 (v73 : BitVec 32) (k0_t1 : Fin (k0_t1_loop v73).trips) : BitVec 32 :=
  let c0_i32_44 : BitVec 32 := 0#32
  let c1_i32_46 : BitVec 32 := 1#32
  let arg13 : BitVec 32 := Scf.iv c0_i32_44 c1_i32_46 k0_t1
  let c256_i32_64 : BitVec 32 := 256#32
  let v156 : BitVec 32 := Scalar.muli arg13 c256_i32_64
  v156
def k0_off1 (v73 : BitVec 32) (k0_t1 : Fin (k0_t1_loop v73).trips) : Fin 3 → Nat :=
  let c0_65 : Index := 0#32
  let c0_i32_44 : BitVec 32 := 0#32
  let c1_i32_46 : BitVec 32 := 1#32
  let arg13 : BitVec 32 := Scf.iv c0_i32_44 c1_i32_46 k0_t1
  let c256_i32_64 : BitVec 32 := 256#32
  let v156 : BitVec 32 := Scalar.muli arg13 c256_i32_64
  let v157 : BitVec 32 := v156
  let v158 : Index := Scalar.indexCast v157
  let c0_66 : Index := 0#32
  ![0, v158.toNat, 0]
def k0_off2 (v73 : BitVec 32) (k0_t1 : Fin (k0_t1_loop v73).trips) : Fin 3 → Nat :=
  let c0_67 : Index := 0#32
  let c0_68 : Index := 0#32
  let c0_i32_44 : BitVec 32 := 0#32
  let c1_i32_46 : BitVec 32 := 1#32
  let arg13 : BitVec 32 := Scf.iv c0_i32_44 c1_i32_46 k0_t1
  let c256_i32_64 : BitVec 32 := 256#32
  let v156 : BitVec 32 := Scalar.muli arg13 c256_i32_64
  let v157 : BitVec 32 := v156
  let v162 : Index := Scalar.indexCast v157
  ![0, 0, v162.toNat]
def k0_off3 (v73 : BitVec 32) (k0_t1 : Fin (k0_t1_loop v73).trips) : Fin 2 → Nat :=
  let c0_i32_44 : BitVec 32 := 0#32
  let c1_i32_46 : BitVec 32 := 1#32
  let arg13 : BitVec 32 := Scf.iv c0_i32_44 c1_i32_46 k0_t1
  let c256_i32_64 : BitVec 32 := 256#32
  let v156 : BitVec 32 := Scalar.muli arg13 c256_i32_64
  let v157 : BitVec 32 := v156
  let v184 : Index := Scalar.indexCast v157
  let c0_69 : Index := 0#32
  ![v184.toNat, 0]
def k0_off4 (v73 : BitVec 32) (k0_t1 : Fin (k0_t1_loop v73).trips) : Fin 3 → Nat :=
  let c0_71 : Index := 0#32
  let c0_72 : Index := 0#32
  let c0_i32_44 : BitVec 32 := 0#32
  let c1_i32_46 : BitVec 32 := 1#32
  let arg13 : BitVec 32 := Scf.iv c0_i32_44 c1_i32_46 k0_t1
  let c256_i32_64 : BitVec 32 := 256#32
  let v156 : BitVec 32 := Scalar.muli arg13 c256_i32_64
  let v157 : BitVec 32 := v156
  let v189 : Index := Scalar.indexCast v157
  ![0, 0, v189.toNat]
def k0_off5 (v73 : BitVec 32) (k0_t1 : Fin (k0_t1_loop v73).trips) (c0_i32_75 : BitVec 32) : Fin 3 → Nat :=
  let c0_i32_44 : BitVec 32 := 0#32
  let c1_i32_46 : BitVec 32 := 1#32
  let arg13 : BitVec 32 := Scf.iv c0_i32_44 c1_i32_46 k0_t1
  let c2_i32 : BitVec 32 := 2#32
  let v196 : BitVec 32 := Scalar.muli arg13 c2_i32
  let v198 : BitVec 32 := Scalar.addi v196 c0_i32_75
  let v199 : Index := Scalar.indexCast v198
  let c0_76 : Index := 0#32
  let c0_77 : Index := 0#32
  ![v199.toNat, 0, 0]
def k0_off6 (v73 : BitVec 32) (k0_t1 : Fin (k0_t1_loop v73).trips) : Fin 3 → Nat :=
  let c0_i32_44 : BitVec 32 := 0#32
  let c1_i32_46 : BitVec 32 := 1#32
  let arg13 : BitVec 32 := Scf.iv c0_i32_44 c1_i32_46 k0_t1
  let v212 : Index := Scalar.indexCast arg13
  let c0_81 : Index := 0#32
  let c0_82 : Index := 0#32
  ![v212.toNat, 0, 0]
@[reducible] def k0_t2_loop (v73 : BitVec 32) : Scf.Loop 32 :=
  let c0_i32_44 : BitVec 32 := 0#32
  let c0_i32_20 : BitVec 32 := 0#32
  let v75 : BitVec 1 := Scalar.cmpi .sgt v73 c0_i32_20
  let v76 : BitVec 32 := Scalar.extui v75
  let c0_i32_21 : BitVec 32 := 0#32
  let v77 : BitVec 1 := Scalar.cmpi .slt v73 c0_i32_21
  let v78 : BitVec 32 := Scalar.extui v77
  let v79 : BitVec 32 := Scalar.subi v76 v78
  let c256_i32 : BitVec 32 := 256#32
  let c0_i32_22 : BitVec 32 := 0#32
  let v80 : BitVec 1 := Scalar.cmpi .sgt c256_i32 c0_i32_22
  let v81 : BitVec 32 := Scalar.extui v80
  let c0_i32_23 : BitVec 32 := 0#32
  let v82 : BitVec 1 := Scalar.cmpi .slt c256_i32 c0_i32_23
  let v83 : BitVec 32 := Scalar.extui v82
  let v84 : BitVec 32 := Scalar.subi v81 v83
  let v85 : BitVec 1 := Scalar.cmpi .ne v79 v84
  let v86 : BitVec 32 := Scalar.remsi v73 c256_i32
  let c0_i32_24 : BitVec 32 := 0#32
  let v87 : BitVec 1 := Scalar.cmpi .ne v86 c0_i32_24
  let v88 : BitVec 1 := Scalar.andi v85 v87
  let v74 : BitVec 32 := Scalar.divsi v73 c256_i32
  let c1_i32_25 : BitVec 32 := 1#32
  let v89 : BitVec 32 := Scalar.subi v74 c1_i32_25
  let v90 : BitVec 32 := Scalar.select v88 v89 v74
  let c1_i32_26 : BitVec 32 := 1#32
  let v91 : BitVec 32 := Scalar.addi v90 c1_i32_26
  let v118 : BitVec 32 := Scalar.subi v91 c0_i32_44
  let c1_i32_45 : BitVec 32 := 1#32
  let v120 : BitVec 32 := Scalar.divsi v118 c1_i32_45
  let v121 : BitVec 32 := Scalar.muli v120 c1_i32_45
  let v122 : BitVec 32 := Scalar.addi c0_i32_44 v121
  let v119 : BitVec 32 := Scalar.addi c0_i32_44 v118
  let c1_i32_47 : BitVec 32 := 1#32
  ⟨v122, v119, c1_i32_47⟩
def k0_mult2 (v73 : BitVec 32) (k0_t2 : Fin (k0_t2_loop v73).trips) : BitVec 32 :=
  let c0_i32_44 : BitVec 32 := 0#32
  let c0_i32_20 : BitVec 32 := 0#32
  let v75 : BitVec 1 := Scalar.cmpi .sgt v73 c0_i32_20
  let v76 : BitVec 32 := Scalar.extui v75
  let c0_i32_21 : BitVec 32 := 0#32
  let v77 : BitVec 1 := Scalar.cmpi .slt v73 c0_i32_21
  let v78 : BitVec 32 := Scalar.extui v77
  let v79 : BitVec 32 := Scalar.subi v76 v78
  let c256_i32 : BitVec 32 := 256#32
  let c0_i32_22 : BitVec 32 := 0#32
  let v80 : BitVec 1 := Scalar.cmpi .sgt c256_i32 c0_i32_22
  let v81 : BitVec 32 := Scalar.extui v80
  let c0_i32_23 : BitVec 32 := 0#32
  let v82 : BitVec 1 := Scalar.cmpi .slt c256_i32 c0_i32_23
  let v83 : BitVec 32 := Scalar.extui v82
  let v84 : BitVec 32 := Scalar.subi v81 v83
  let v85 : BitVec 1 := Scalar.cmpi .ne v79 v84
  let v86 : BitVec 32 := Scalar.remsi v73 c256_i32
  let c0_i32_24 : BitVec 32 := 0#32
  let v87 : BitVec 1 := Scalar.cmpi .ne v86 c0_i32_24
  let v88 : BitVec 1 := Scalar.andi v85 v87
  let v74 : BitVec 32 := Scalar.divsi v73 c256_i32
  let c1_i32_25 : BitVec 32 := 1#32
  let v89 : BitVec 32 := Scalar.subi v74 c1_i32_25
  let v90 : BitVec 32 := Scalar.select v88 v89 v74
  let c1_i32_26 : BitVec 32 := 1#32
  let v91 : BitVec 32 := Scalar.addi v90 c1_i32_26
  let v118 : BitVec 32 := Scalar.subi v91 c0_i32_44
  let c1_i32_45 : BitVec 32 := 1#32
  let v120 : BitVec 32 := Scalar.divsi v118 c1_i32_45
  let v121 : BitVec 32 := Scalar.muli v120 c1_i32_45
  let v122 : BitVec 32 := Scalar.addi c0_i32_44 v121
  let c1_i32_47 : BitVec 32 := 1#32
  let arg13 : BitVec 32 := Scf.iv v122 c1_i32_47 k0_t2
  let c256_i32_64 : BitVec 32 := 256#32
  let v156 : BitVec 32 := Scalar.muli arg13 c256_i32_64
  v156
def k0_off7 (v73 : BitVec 32) (k0_t2 : Fin (k0_t2_loop v73).trips) : Fin 3 → Nat :=
  let c0_65 : Index := 0#32
  let c0_i32_44 : BitVec 32 := 0#32
  let c0_i32_20 : BitVec 32 := 0#32
  let v75 : BitVec 1 := Scalar.cmpi .sgt v73 c0_i32_20
  let v76 : BitVec 32 := Scalar.extui v75
  let c0_i32_21 : BitVec 32 := 0#32
  let v77 : BitVec 1 := Scalar.cmpi .slt v73 c0_i32_21
  let v78 : BitVec 32 := Scalar.extui v77
  let v79 : BitVec 32 := Scalar.subi v76 v78
  let c256_i32 : BitVec 32 := 256#32
  let c0_i32_22 : BitVec 32 := 0#32
  let v80 : BitVec 1 := Scalar.cmpi .sgt c256_i32 c0_i32_22
  let v81 : BitVec 32 := Scalar.extui v80
  let c0_i32_23 : BitVec 32 := 0#32
  let v82 : BitVec 1 := Scalar.cmpi .slt c256_i32 c0_i32_23
  let v83 : BitVec 32 := Scalar.extui v82
  let v84 : BitVec 32 := Scalar.subi v81 v83
  let v85 : BitVec 1 := Scalar.cmpi .ne v79 v84
  let v86 : BitVec 32 := Scalar.remsi v73 c256_i32
  let c0_i32_24 : BitVec 32 := 0#32
  let v87 : BitVec 1 := Scalar.cmpi .ne v86 c0_i32_24
  let v88 : BitVec 1 := Scalar.andi v85 v87
  let v74 : BitVec 32 := Scalar.divsi v73 c256_i32
  let c1_i32_25 : BitVec 32 := 1#32
  let v89 : BitVec 32 := Scalar.subi v74 c1_i32_25
  let v90 : BitVec 32 := Scalar.select v88 v89 v74
  let c1_i32_26 : BitVec 32 := 1#32
  let v91 : BitVec 32 := Scalar.addi v90 c1_i32_26
  let v118 : BitVec 32 := Scalar.subi v91 c0_i32_44
  let c1_i32_45 : BitVec 32 := 1#32
  let v120 : BitVec 32 := Scalar.divsi v118 c1_i32_45
  let v121 : BitVec 32 := Scalar.muli v120 c1_i32_45
  let v122 : BitVec 32 := Scalar.addi c0_i32_44 v121
  let c1_i32_47 : BitVec 32 := 1#32
  let arg13 : BitVec 32 := Scf.iv v122 c1_i32_47 k0_t2
  let c256_i32_64 : BitVec 32 := 256#32
  let v156 : BitVec 32 := Scalar.muli arg13 c256_i32_64
  let v157 : BitVec 32 := v156
  let v158 : Index := Scalar.indexCast v157
  let c0_66 : Index := 0#32
  ![0, v158.toNat, 0]
def k0_off8 (v73 : BitVec 32) (k0_t2 : Fin (k0_t2_loop v73).trips) : Fin 3 → Nat :=
  let c0_67 : Index := 0#32
  let c0_68 : Index := 0#32
  let c0_i32_44 : BitVec 32 := 0#32
  let c0_i32_20 : BitVec 32 := 0#32
  let v75 : BitVec 1 := Scalar.cmpi .sgt v73 c0_i32_20
  let v76 : BitVec 32 := Scalar.extui v75
  let c0_i32_21 : BitVec 32 := 0#32
  let v77 : BitVec 1 := Scalar.cmpi .slt v73 c0_i32_21
  let v78 : BitVec 32 := Scalar.extui v77
  let v79 : BitVec 32 := Scalar.subi v76 v78
  let c256_i32 : BitVec 32 := 256#32
  let c0_i32_22 : BitVec 32 := 0#32
  let v80 : BitVec 1 := Scalar.cmpi .sgt c256_i32 c0_i32_22
  let v81 : BitVec 32 := Scalar.extui v80
  let c0_i32_23 : BitVec 32 := 0#32
  let v82 : BitVec 1 := Scalar.cmpi .slt c256_i32 c0_i32_23
  let v83 : BitVec 32 := Scalar.extui v82
  let v84 : BitVec 32 := Scalar.subi v81 v83
  let v85 : BitVec 1 := Scalar.cmpi .ne v79 v84
  let v86 : BitVec 32 := Scalar.remsi v73 c256_i32
  let c0_i32_24 : BitVec 32 := 0#32
  let v87 : BitVec 1 := Scalar.cmpi .ne v86 c0_i32_24
  let v88 : BitVec 1 := Scalar.andi v85 v87
  let v74 : BitVec 32 := Scalar.divsi v73 c256_i32
  let c1_i32_25 : BitVec 32 := 1#32
  let v89 : BitVec 32 := Scalar.subi v74 c1_i32_25
  let v90 : BitVec 32 := Scalar.select v88 v89 v74
  let c1_i32_26 : BitVec 32 := 1#32
  let v91 : BitVec 32 := Scalar.addi v90 c1_i32_26
  let v118 : BitVec 32 := Scalar.subi v91 c0_i32_44
  let c1_i32_45 : BitVec 32 := 1#32
  let v120 : BitVec 32 := Scalar.divsi v118 c1_i32_45
  let v121 : BitVec 32 := Scalar.muli v120 c1_i32_45
  let v122 : BitVec 32 := Scalar.addi c0_i32_44 v121
  let c1_i32_47 : BitVec 32 := 1#32
  let arg13 : BitVec 32 := Scf.iv v122 c1_i32_47 k0_t2
  let c256_i32_64 : BitVec 32 := 256#32
  let v156 : BitVec 32 := Scalar.muli arg13 c256_i32_64
  let v157 : BitVec 32 := v156
  let v162 : Index := Scalar.indexCast v157
  ![0, 0, v162.toNat]
def k0_off9 (v73 : BitVec 32) (k0_t2 : Fin (k0_t2_loop v73).trips) : Fin 2 → Nat :=
  let c0_i32_44 : BitVec 32 := 0#32
  let c0_i32_20 : BitVec 32 := 0#32
  let v75 : BitVec 1 := Scalar.cmpi .sgt v73 c0_i32_20
  let v76 : BitVec 32 := Scalar.extui v75
  let c0_i32_21 : BitVec 32 := 0#32
  let v77 : BitVec 1 := Scalar.cmpi .slt v73 c0_i32_21
  let v78 : BitVec 32 := Scalar.extui v77
  let v79 : BitVec 32 := Scalar.subi v76 v78
  let c256_i32 : BitVec 32 := 256#32
  let c0_i32_22 : BitVec 32 := 0#32
  let v80 : BitVec 1 := Scalar.cmpi .sgt c256_i32 c0_i32_22
  let v81 : BitVec 32 := Scalar.extui v80
  let c0_i32_23 : BitVec 32 := 0#32
  let v82 : BitVec 1 := Scalar.cmpi .slt c256_i32 c0_i32_23
  let v83 : BitVec 32 := Scalar.extui v82
  let v84 : BitVec 32 := Scalar.subi v81 v83
  let v85 : BitVec 1 := Scalar.cmpi .ne v79 v84
  let v86 : BitVec 32 := Scalar.remsi v73 c256_i32
  let c0_i32_24 : BitVec 32 := 0#32
  let v87 : BitVec 1 := Scalar.cmpi .ne v86 c0_i32_24
  let v88 : BitVec 1 := Scalar.andi v85 v87
  let v74 : BitVec 32 := Scalar.divsi v73 c256_i32
  let c1_i32_25 : BitVec 32 := 1#32
  let v89 : BitVec 32 := Scalar.subi v74 c1_i32_25
  let v90 : BitVec 32 := Scalar.select v88 v89 v74
  let c1_i32_26 : BitVec 32 := 1#32
  let v91 : BitVec 32 := Scalar.addi v90 c1_i32_26
  let v118 : BitVec 32 := Scalar.subi v91 c0_i32_44
  let c1_i32_45 : BitVec 32 := 1#32
  let v120 : BitVec 32 := Scalar.divsi v118 c1_i32_45
  let v121 : BitVec 32 := Scalar.muli v120 c1_i32_45
  let v122 : BitVec 32 := Scalar.addi c0_i32_44 v121
  let c1_i32_47 : BitVec 32 := 1#32
  let arg13 : BitVec 32 := Scf.iv v122 c1_i32_47 k0_t2
  let c256_i32_64 : BitVec 32 := 256#32
  let v156 : BitVec 32 := Scalar.muli arg13 c256_i32_64
  let v157 : BitVec 32 := v156
  let v184 : Index := Scalar.indexCast v157
  let c0_69 : Index := 0#32
  ![v184.toNat, 0]
def k0_off10 (v73 : BitVec 32) (k0_t2 : Fin (k0_t2_loop v73).trips) : Fin 3 → Nat :=
  let c0_71 : Index := 0#32
  let c0_72 : Index := 0#32
  let c0_i32_44 : BitVec 32 := 0#32
  let c0_i32_20 : BitVec 32 := 0#32
  let v75 : BitVec 1 := Scalar.cmpi .sgt v73 c0_i32_20
  let v76 : BitVec 32 := Scalar.extui v75
  let c0_i32_21 : BitVec 32 := 0#32
  let v77 : BitVec 1 := Scalar.cmpi .slt v73 c0_i32_21
  let v78 : BitVec 32 := Scalar.extui v77
  let v79 : BitVec 32 := Scalar.subi v76 v78
  let c256_i32 : BitVec 32 := 256#32
  let c0_i32_22 : BitVec 32 := 0#32
  let v80 : BitVec 1 := Scalar.cmpi .sgt c256_i32 c0_i32_22
  let v81 : BitVec 32 := Scalar.extui v80
  let c0_i32_23 : BitVec 32 := 0#32
  let v82 : BitVec 1 := Scalar.cmpi .slt c256_i32 c0_i32_23
  let v83 : BitVec 32 := Scalar.extui v82
  let v84 : BitVec 32 := Scalar.subi v81 v83
  let v85 : BitVec 1 := Scalar.cmpi .ne v79 v84
  let v86 : BitVec 32 := Scalar.remsi v73 c256_i32
  let c0_i32_24 : BitVec 32 := 0#32
  let v87 : BitVec 1 := Scalar.cmpi .ne v86 c0_i32_24
  let v88 : BitVec 1 := Scalar.andi v85 v87
  let v74 : BitVec 32 := Scalar.divsi v73 c256_i32
  let c1_i32_25 : BitVec 32 := 1#32
  let v89 : BitVec 32 := Scalar.subi v74 c1_i32_25
  let v90 : BitVec 32 := Scalar.select v88 v89 v74
  let c1_i32_26 : BitVec 32 := 1#32
  let v91 : BitVec 32 := Scalar.addi v90 c1_i32_26
  let v118 : BitVec 32 := Scalar.subi v91 c0_i32_44
  let c1_i32_45 : BitVec 32 := 1#32
  let v120 : BitVec 32 := Scalar.divsi v118 c1_i32_45
  let v121 : BitVec 32 := Scalar.muli v120 c1_i32_45
  let v122 : BitVec 32 := Scalar.addi c0_i32_44 v121
  let c1_i32_47 : BitVec 32 := 1#32
  let arg13 : BitVec 32 := Scf.iv v122 c1_i32_47 k0_t2
  let c256_i32_64 : BitVec 32 := 256#32
  let v156 : BitVec 32 := Scalar.muli arg13 c256_i32_64
  let v157 : BitVec 32 := v156
  let v189 : Index := Scalar.indexCast v157
  ![0, 0, v189.toNat]
def k0_off11 (v73 : BitVec 32) (k0_t2 : Fin (k0_t2_loop v73).trips) (c0_i32_75 : BitVec 32) : Fin 3 → Nat :=
  let c0_i32_44 : BitVec 32 := 0#32
  let c0_i32_20 : BitVec 32 := 0#32
  let v75 : BitVec 1 := Scalar.cmpi .sgt v73 c0_i32_20
  let v76 : BitVec 32 := Scalar.extui v75
  let c0_i32_21 : BitVec 32 := 0#32
  let v77 : BitVec 1 := Scalar.cmpi .slt v73 c0_i32_21
  let v78 : BitVec 32 := Scalar.extui v77
  let v79 : BitVec 32 := Scalar.subi v76 v78
  let c256_i32 : BitVec 32 := 256#32
  let c0_i32_22 : BitVec 32 := 0#32
  let v80 : BitVec 1 := Scalar.cmpi .sgt c256_i32 c0_i32_22
  let v81 : BitVec 32 := Scalar.extui v80
  let c0_i32_23 : BitVec 32 := 0#32
  let v82 : BitVec 1 := Scalar.cmpi .slt c256_i32 c0_i32_23
  let v83 : BitVec 32 := Scalar.extui v82
  let v84 : BitVec 32 := Scalar.subi v81 v83
  let v85 : BitVec 1 := Scalar.cmpi .ne v79 v84
  let v86 : BitVec 32 := Scalar.remsi v73 c256_i32
  let c0_i32_24 : BitVec 32 := 0#32
  let v87 : BitVec 1 := Scalar.cmpi .ne v86 c0_i32_24
  let v88 : BitVec 1 := Scalar.andi v85 v87
  let v74 : BitVec 32 := Scalar.divsi v73 c256_i32
  let c1_i32_25 : BitVec 32 := 1#32
  let v89 : BitVec 32 := Scalar.subi v74 c1_i32_25
  let v90 : BitVec 32 := Scalar.select v88 v89 v74
  let c1_i32_26 : BitVec 32 := 1#32
  let v91 : BitVec 32 := Scalar.addi v90 c1_i32_26
  let v118 : BitVec 32 := Scalar.subi v91 c0_i32_44
  let c1_i32_45 : BitVec 32 := 1#32
  let v120 : BitVec 32 := Scalar.divsi v118 c1_i32_45
  let v121 : BitVec 32 := Scalar.muli v120 c1_i32_45
  let v122 : BitVec 32 := Scalar.addi c0_i32_44 v121
  let c1_i32_47 : BitVec 32 := 1#32
  let arg13 : BitVec 32 := Scf.iv v122 c1_i32_47 k0_t2
  let c2_i32 : BitVec 32 := 2#32
  let v196 : BitVec 32 := Scalar.muli arg13 c2_i32
  let v198 : BitVec 32 := Scalar.addi v196 c0_i32_75
  let v199 : Index := Scalar.indexCast v198
  let c0_76 : Index := 0#32
  let c0_77 : Index := 0#32
  ![v199.toNat, 0, 0]
def k0_off12 (v73 : BitVec 32) (k0_t2 : Fin (k0_t2_loop v73).trips) : Fin 3 → Nat :=
  let c0_i32_44 : BitVec 32 := 0#32
  let c0_i32_20 : BitVec 32 := 0#32
  let v75 : BitVec 1 := Scalar.cmpi .sgt v73 c0_i32_20
  let v76 : BitVec 32 := Scalar.extui v75
  let c0_i32_21 : BitVec 32 := 0#32
  let v77 : BitVec 1 := Scalar.cmpi .slt v73 c0_i32_21
  let v78 : BitVec 32 := Scalar.extui v77
  let v79 : BitVec 32 := Scalar.subi v76 v78
  let c256_i32 : BitVec 32 := 256#32
  let c0_i32_22 : BitVec 32 := 0#32
  let v80 : BitVec 1 := Scalar.cmpi .sgt c256_i32 c0_i32_22
  let v81 : BitVec 32 := Scalar.extui v80
  let c0_i32_23 : BitVec 32 := 0#32
  let v82 : BitVec 1 := Scalar.cmpi .slt c256_i32 c0_i32_23
  let v83 : BitVec 32 := Scalar.extui v82
  let v84 : BitVec 32 := Scalar.subi v81 v83
  let v85 : BitVec 1 := Scalar.cmpi .ne v79 v84
  let v86 : BitVec 32 := Scalar.remsi v73 c256_i32
  let c0_i32_24 : BitVec 32 := 0#32
  let v87 : BitVec 1 := Scalar.cmpi .ne v86 c0_i32_24
  let v88 : BitVec 1 := Scalar.andi v85 v87
  let v74 : BitVec 32 := Scalar.divsi v73 c256_i32
  let c1_i32_25 : BitVec 32 := 1#32
  let v89 : BitVec 32 := Scalar.subi v74 c1_i32_25
  let v90 : BitVec 32 := Scalar.select v88 v89 v74
  let c1_i32_26 : BitVec 32 := 1#32
  let v91 : BitVec 32 := Scalar.addi v90 c1_i32_26
  let v118 : BitVec 32 := Scalar.subi v91 c0_i32_44
  let c1_i32_45 : BitVec 32 := 1#32
  let v120 : BitVec 32 := Scalar.divsi v118 c1_i32_45
  let v121 : BitVec 32 := Scalar.muli v120 c1_i32_45
  let v122 : BitVec 32 := Scalar.addi c0_i32_44 v121
  let c1_i32_47 : BitVec 32 := 1#32
  let arg13 : BitVec 32 := Scf.iv v122 c1_i32_47 k0_t2
  let v212 : Index := Scalar.indexCast arg13
  let c0_81 : Index := 0#32
  let c0_82 : Index := 0#32
  ![v212.toNat, 0, 0]
@[reducible] def k0_t3_loop (v73 : BitVec 32) : Scf.Loop 32 :=
  let c0_i32_48 : BitVec 32 := 0#32
  let c0_i32_20 : BitVec 32 := 0#32
  let v75 : BitVec 1 := Scalar.cmpi .sgt v73 c0_i32_20
  let v76 : BitVec 32 := Scalar.extui v75
  let c0_i32_21 : BitVec 32 := 0#32
  let v77 : BitVec 1 := Scalar.cmpi .slt v73 c0_i32_21
  let v78 : BitVec 32 := Scalar.extui v77
  let v79 : BitVec 32 := Scalar.subi v76 v78
  let c256_i32 : BitVec 32 := 256#32
  let c0_i32_22 : BitVec 32 := 0#32
  let v80 : BitVec 1 := Scalar.cmpi .sgt c256_i32 c0_i32_22
  let v81 : BitVec 32 := Scalar.extui v80
  let c0_i32_23 : BitVec 32 := 0#32
  let v82 : BitVec 1 := Scalar.cmpi .slt c256_i32 c0_i32_23
  let v83 : BitVec 32 := Scalar.extui v82
  let v84 : BitVec 32 := Scalar.subi v81 v83
  let v85 : BitVec 1 := Scalar.cmpi .ne v79 v84
  let v86 : BitVec 32 := Scalar.remsi v73 c256_i32
  let c0_i32_24 : BitVec 32 := 0#32
  let v87 : BitVec 1 := Scalar.cmpi .ne v86 c0_i32_24
  let v88 : BitVec 1 := Scalar.andi v85 v87
  let v74 : BitVec 32 := Scalar.divsi v73 c256_i32
  let c1_i32_25 : BitVec 32 := 1#32
  let v89 : BitVec 32 := Scalar.subi v74 c1_i32_25
  let v90 : BitVec 32 := Scalar.select v88 v89 v74
  let c1_i32_26 : BitVec 32 := 1#32
  let v91 : BitVec 32 := Scalar.addi v90 c1_i32_26
  let v127 : BitVec 32 := Scalar.subi v91 c0_i32_48
  let c1_i32_49 : BitVec 32 := 1#32
  let v129 : BitVec 32 := Scalar.divsi v127 c1_i32_49
  let v130 : BitVec 32 := Scalar.muli v129 c1_i32_49
  let v131 : BitVec 32 := Scalar.addi c0_i32_48 v130
  let c1_i32_50 : BitVec 32 := 1#32
  ⟨c0_i32_48, v131, c1_i32_50⟩
def k0_off13 (v73 : BitVec 32) (k0_t3 : Fin (k0_t3_loop v73).trips) : Fin 3 → Nat :=
  let c0_i32_48 : BitVec 32 := 0#32
  let c1_i32_50 : BitVec 32 := 1#32
  let arg13 : BitVec 32 := Scf.iv c0_i32_48 c1_i32_50 k0_t3
  let v156 : Index := Scalar.indexCast arg13
  let c0_64 : Index := 0#32
  let c0_65 : Index := 0#32
  ![v156.toNat, 0, 0]
@[reducible] def k0_t4_loop (v73 : BitVec 32) : Scf.Loop 32 :=
  let c0_i32_48 : BitVec 32 := 0#32
  let c0_i32_20 : BitVec 32 := 0#32
  let v75 : BitVec 1 := Scalar.cmpi .sgt v73 c0_i32_20
  let v76 : BitVec 32 := Scalar.extui v75
  let c0_i32_21 : BitVec 32 := 0#32
  let v77 : BitVec 1 := Scalar.cmpi .slt v73 c0_i32_21
  let v78 : BitVec 32 := Scalar.extui v77
  let v79 : BitVec 32 := Scalar.subi v76 v78
  let c256_i32 : BitVec 32 := 256#32
  let c0_i32_22 : BitVec 32 := 0#32
  let v80 : BitVec 1 := Scalar.cmpi .sgt c256_i32 c0_i32_22
  let v81 : BitVec 32 := Scalar.extui v80
  let c0_i32_23 : BitVec 32 := 0#32
  let v82 : BitVec 1 := Scalar.cmpi .slt c256_i32 c0_i32_23
  let v83 : BitVec 32 := Scalar.extui v82
  let v84 : BitVec 32 := Scalar.subi v81 v83
  let v85 : BitVec 1 := Scalar.cmpi .ne v79 v84
  let v86 : BitVec 32 := Scalar.remsi v73 c256_i32
  let c0_i32_24 : BitVec 32 := 0#32
  let v87 : BitVec 1 := Scalar.cmpi .ne v86 c0_i32_24
  let v88 : BitVec 1 := Scalar.andi v85 v87
  let v74 : BitVec 32 := Scalar.divsi v73 c256_i32
  let c1_i32_25 : BitVec 32 := 1#32
  let v89 : BitVec 32 := Scalar.subi v74 c1_i32_25
  let v90 : BitVec 32 := Scalar.select v88 v89 v74
  let c1_i32_26 : BitVec 32 := 1#32
  let v91 : BitVec 32 := Scalar.addi v90 c1_i32_26
  let v127 : BitVec 32 := Scalar.subi v91 c0_i32_48
  let c1_i32_49 : BitVec 32 := 1#32
  let v129 : BitVec 32 := Scalar.divsi v127 c1_i32_49
  let v130 : BitVec 32 := Scalar.muli v129 c1_i32_49
  let v131 : BitVec 32 := Scalar.addi c0_i32_48 v130
  let v128 : BitVec 32 := Scalar.addi c0_i32_48 v127
  let c1_i32_51 : BitVec 32 := 1#32
  ⟨v131, v128, c1_i32_51⟩
def k0_off14 (v73 : BitVec 32) (k0_t4 : Fin (k0_t4_loop v73).trips) : Fin 3 → Nat :=
  let c0_i32_48 : BitVec 32 := 0#32
  let c0_i32_20 : BitVec 32 := 0#32
  let v75 : BitVec 1 := Scalar.cmpi .sgt v73 c0_i32_20
  let v76 : BitVec 32 := Scalar.extui v75
  let c0_i32_21 : BitVec 32 := 0#32
  let v77 : BitVec 1 := Scalar.cmpi .slt v73 c0_i32_21
  let v78 : BitVec 32 := Scalar.extui v77
  let v79 : BitVec 32 := Scalar.subi v76 v78
  let c256_i32 : BitVec 32 := 256#32
  let c0_i32_22 : BitVec 32 := 0#32
  let v80 : BitVec 1 := Scalar.cmpi .sgt c256_i32 c0_i32_22
  let v81 : BitVec 32 := Scalar.extui v80
  let c0_i32_23 : BitVec 32 := 0#32
  let v82 : BitVec 1 := Scalar.cmpi .slt c256_i32 c0_i32_23
  let v83 : BitVec 32 := Scalar.extui v82
  let v84 : BitVec 32 := Scalar.subi v81 v83
  let v85 : BitVec 1 := Scalar.cmpi .ne v79 v84
  let v86 : BitVec 32 := Scalar.remsi v73 c256_i32
  let c0_i32_24 : BitVec 32 := 0#32
  let v87 : BitVec 1 := Scalar.cmpi .ne v86 c0_i32_24
  let v88 : BitVec 1 := Scalar.andi v85 v87
  let v74 : BitVec 32 := Scalar.divsi v73 c256_i32
  let c1_i32_25 : BitVec 32 := 1#32
  let v89 : BitVec 32 := Scalar.subi v74 c1_i32_25
  let v90 : BitVec 32 := Scalar.select v88 v89 v74
  let c1_i32_26 : BitVec 32 := 1#32
  let v91 : BitVec 32 := Scalar.addi v90 c1_i32_26
  let v127 : BitVec 32 := Scalar.subi v91 c0_i32_48
  let c1_i32_49 : BitVec 32 := 1#32
  let v129 : BitVec 32 := Scalar.divsi v127 c1_i32_49
  let v130 : BitVec 32 := Scalar.muli v129 c1_i32_49
  let v131 : BitVec 32 := Scalar.addi c0_i32_48 v130
  let c1_i32_51 : BitVec 32 := 1#32
  let arg13 : BitVec 32 := Scf.iv v131 c1_i32_51 k0_t4
  let v156 : Index := Scalar.indexCast arg13
  let c0_64 : Index := 0#32
  let c0_65 : Index := 0#32
  ![v156.toNat, 0, 0]
@[reducible] def k0_t5_loop (v73 : BitVec 32) : Scf.Loop 32 :=
  let c0_i32_56 : BitVec 32 := 0#32
  let c0_i32_20 : BitVec 32 := 0#32
  let v75 : BitVec 1 := Scalar.cmpi .sgt v73 c0_i32_20
  let v76 : BitVec 32 := Scalar.extui v75
  let c0_i32_21 : BitVec 32 := 0#32
  let v77 : BitVec 1 := Scalar.cmpi .slt v73 c0_i32_21
  let v78 : BitVec 32 := Scalar.extui v77
  let v79 : BitVec 32 := Scalar.subi v76 v78
  let c256_i32 : BitVec 32 := 256#32
  let c0_i32_22 : BitVec 32 := 0#32
  let v80 : BitVec 1 := Scalar.cmpi .sgt c256_i32 c0_i32_22
  let v81 : BitVec 32 := Scalar.extui v80
  let c0_i32_23 : BitVec 32 := 0#32
  let v82 : BitVec 1 := Scalar.cmpi .slt c256_i32 c0_i32_23
  let v83 : BitVec 32 := Scalar.extui v82
  let v84 : BitVec 32 := Scalar.subi v81 v83
  let v85 : BitVec 1 := Scalar.cmpi .ne v79 v84
  let v86 : BitVec 32 := Scalar.remsi v73 c256_i32
  let c0_i32_24 : BitVec 32 := 0#32
  let v87 : BitVec 1 := Scalar.cmpi .ne v86 c0_i32_24
  let v88 : BitVec 1 := Scalar.andi v85 v87
  let v74 : BitVec 32 := Scalar.divsi v73 c256_i32
  let c1_i32_25 : BitVec 32 := 1#32
  let v89 : BitVec 32 := Scalar.subi v74 c1_i32_25
  let v90 : BitVec 32 := Scalar.select v88 v89 v74
  let c1_i32_26 : BitVec 32 := 1#32
  let v91 : BitVec 32 := Scalar.addi v90 c1_i32_26
  let v145 : BitVec 32 := Scalar.subi v91 c0_i32_56
  let c1_i32_57 : BitVec 32 := 1#32
  let v147 : BitVec 32 := Scalar.divsi v145 c1_i32_57
  let v148 : BitVec 32 := Scalar.muli v147 c1_i32_57
  let v149 : BitVec 32 := Scalar.addi c0_i32_56 v148
  let c1_i32_58 : BitVec 32 := 1#32
  ⟨c0_i32_56, v149, c1_i32_58⟩
def k0_mult3 (v73 : BitVec 32) (k0_t5 : Fin (k0_t5_loop v73).trips) : BitVec 32 :=
  let c0_i32_56 : BitVec 32 := 0#32
  let c1_i32_58 : BitVec 32 := 1#32
  let arg13 : BitVec 32 := Scf.iv c0_i32_56 c1_i32_58 k0_t5
  let c256_i32_64 : BitVec 32 := 256#32
  let v156 : BitVec 32 := Scalar.muli arg13 c256_i32_64
  v156
def k0_off15 (v73 : BitVec 32) (k0_t5 : Fin (k0_t5_loop v73).trips) : Fin 3 → Nat :=
  let c0_i32_56 : BitVec 32 := 0#32
  let c1_i32_58 : BitVec 32 := 1#32
  let arg13 : BitVec 32 := Scf.iv c0_i32_56 c1_i32_58 k0_t5
  let v158 : Index := Scalar.indexCast arg13
  let c0_65 : Index := 0#32
  let c0_66 : Index := 0#32
  ![v158.toNat, 0, 0]
def k0_off16 (v73 : BitVec 32) (k0_t5 : Fin (k0_t5_loop v73).trips) : Fin 2 → Nat :=
  let c0_i32_56 : BitVec 32 := 0#32
  let c1_i32_58 : BitVec 32 := 1#32
  let arg13 : BitVec 32 := Scf.iv c0_i32_56 c1_i32_58 k0_t5
  let c256_i32_64 : BitVec 32 := 256#32
  let v156 : BitVec 32 := Scalar.muli arg13 c256_i32_64
  let v157 : BitVec 32 := v156
  let v164 : Index := Scalar.indexCast v157
  let c0_67 : Index := 0#32
  ![v164.toNat, 0]
@[reducible] def k0_t6_loop (v73 : BitVec 32) : Scf.Loop 32 :=
  let c0_i32_56 : BitVec 32 := 0#32
  let c0_i32_20 : BitVec 32 := 0#32
  let v75 : BitVec 1 := Scalar.cmpi .sgt v73 c0_i32_20
  let v76 : BitVec 32 := Scalar.extui v75
  let c0_i32_21 : BitVec 32 := 0#32
  let v77 : BitVec 1 := Scalar.cmpi .slt v73 c0_i32_21
  let v78 : BitVec 32 := Scalar.extui v77
  let v79 : BitVec 32 := Scalar.subi v76 v78
  let c256_i32 : BitVec 32 := 256#32
  let c0_i32_22 : BitVec 32 := 0#32
  let v80 : BitVec 1 := Scalar.cmpi .sgt c256_i32 c0_i32_22
  let v81 : BitVec 32 := Scalar.extui v80
  let c0_i32_23 : BitVec 32 := 0#32
  let v82 : BitVec 1 := Scalar.cmpi .slt c256_i32 c0_i32_23
  let v83 : BitVec 32 := Scalar.extui v82
  let v84 : BitVec 32 := Scalar.subi v81 v83
  let v85 : BitVec 1 := Scalar.cmpi .ne v79 v84
  let v86 : BitVec 32 := Scalar.remsi v73 c256_i32
  let c0_i32_24 : BitVec 32 := 0#32
  let v87 : BitVec 1 := Scalar.cmpi .ne v86 c0_i32_24
  let v88 : BitVec 1 := Scalar.andi v85 v87
  let v74 : BitVec 32 := Scalar.divsi v73 c256_i32
  let c1_i32_25 : BitVec 32 := 1#32
  let v89 : BitVec 32 := Scalar.subi v74 c1_i32_25
  let v90 : BitVec 32 := Scalar.select v88 v89 v74
  let c1_i32_26 : BitVec 32 := 1#32
  let v91 : BitVec 32 := Scalar.addi v90 c1_i32_26
  let v145 : BitVec 32 := Scalar.subi v91 c0_i32_56
  let c1_i32_57 : BitVec 32 := 1#32
  let v147 : BitVec 32 := Scalar.divsi v145 c1_i32_57
  let v148 : BitVec 32 := Scalar.muli v147 c1_i32_57
  let v149 : BitVec 32 := Scalar.addi c0_i32_56 v148
  let v146 : BitVec 32 := Scalar.addi c0_i32_56 v145
  let c1_i32_59 : BitVec 32 := 1#32
  ⟨v149, v146, c1_i32_59⟩
def k0_mult4 (v73 : BitVec 32) (k0_t6 : Fin (k0_t6_loop v73).trips) : BitVec 32 :=
  let c0_i32_56 : BitVec 32 := 0#32
  let c0_i32_20 : BitVec 32 := 0#32
  let v75 : BitVec 1 := Scalar.cmpi .sgt v73 c0_i32_20
  let v76 : BitVec 32 := Scalar.extui v75
  let c0_i32_21 : BitVec 32 := 0#32
  let v77 : BitVec 1 := Scalar.cmpi .slt v73 c0_i32_21
  let v78 : BitVec 32 := Scalar.extui v77
  let v79 : BitVec 32 := Scalar.subi v76 v78
  let c256_i32 : BitVec 32 := 256#32
  let c0_i32_22 : BitVec 32 := 0#32
  let v80 : BitVec 1 := Scalar.cmpi .sgt c256_i32 c0_i32_22
  let v81 : BitVec 32 := Scalar.extui v80
  let c0_i32_23 : BitVec 32 := 0#32
  let v82 : BitVec 1 := Scalar.cmpi .slt c256_i32 c0_i32_23
  let v83 : BitVec 32 := Scalar.extui v82
  let v84 : BitVec 32 := Scalar.subi v81 v83
  let v85 : BitVec 1 := Scalar.cmpi .ne v79 v84
  let v86 : BitVec 32 := Scalar.remsi v73 c256_i32
  let c0_i32_24 : BitVec 32 := 0#32
  let v87 : BitVec 1 := Scalar.cmpi .ne v86 c0_i32_24
  let v88 : BitVec 1 := Scalar.andi v85 v87
  let v74 : BitVec 32 := Scalar.divsi v73 c256_i32
  let c1_i32_25 : BitVec 32 := 1#32
  let v89 : BitVec 32 := Scalar.subi v74 c1_i32_25
  let v90 : BitVec 32 := Scalar.select v88 v89 v74
  let c1_i32_26 : BitVec 32 := 1#32
  let v91 : BitVec 32 := Scalar.addi v90 c1_i32_26
  let v145 : BitVec 32 := Scalar.subi v91 c0_i32_56
  let c1_i32_57 : BitVec 32 := 1#32
  let v147 : BitVec 32 := Scalar.divsi v145 c1_i32_57
  let v148 : BitVec 32 := Scalar.muli v147 c1_i32_57
  let v149 : BitVec 32 := Scalar.addi c0_i32_56 v148
  let c1_i32_59 : BitVec 32 := 1#32
  let arg13 : BitVec 32 := Scf.iv v149 c1_i32_59 k0_t6
  let c256_i32_64 : BitVec 32 := 256#32
  let v156 : BitVec 32 := Scalar.muli arg13 c256_i32_64
  v156
def k0_off17 (v73 : BitVec 32) (k0_t6 : Fin (k0_t6_loop v73).trips) : Fin 3 → Nat :=
  let c0_i32_56 : BitVec 32 := 0#32
  let c0_i32_20 : BitVec 32 := 0#32
  let v75 : BitVec 1 := Scalar.cmpi .sgt v73 c0_i32_20
  let v76 : BitVec 32 := Scalar.extui v75
  let c0_i32_21 : BitVec 32 := 0#32
  let v77 : BitVec 1 := Scalar.cmpi .slt v73 c0_i32_21
  let v78 : BitVec 32 := Scalar.extui v77
  let v79 : BitVec 32 := Scalar.subi v76 v78
  let c256_i32 : BitVec 32 := 256#32
  let c0_i32_22 : BitVec 32 := 0#32
  let v80 : BitVec 1 := Scalar.cmpi .sgt c256_i32 c0_i32_22
  let v81 : BitVec 32 := Scalar.extui v80
  let c0_i32_23 : BitVec 32 := 0#32
  let v82 : BitVec 1 := Scalar.cmpi .slt c256_i32 c0_i32_23
  let v83 : BitVec 32 := Scalar.extui v82
  let v84 : BitVec 32 := Scalar.subi v81 v83
  let v85 : BitVec 1 := Scalar.cmpi .ne v79 v84
  let v86 : BitVec 32 := Scalar.remsi v73 c256_i32
  let c0_i32_24 : BitVec 32 := 0#32
  let v87 : BitVec 1 := Scalar.cmpi .ne v86 c0_i32_24
  let v88 : BitVec 1 := Scalar.andi v85 v87
  let v74 : BitVec 32 := Scalar.divsi v73 c256_i32
  let c1_i32_25 : BitVec 32 := 1#32
  let v89 : BitVec 32 := Scalar.subi v74 c1_i32_25
  let v90 : BitVec 32 := Scalar.select v88 v89 v74
  let c1_i32_26 : BitVec 32 := 1#32
  let v91 : BitVec 32 := Scalar.addi v90 c1_i32_26
  let v145 : BitVec 32 := Scalar.subi v91 c0_i32_56
  let c1_i32_57 : BitVec 32 := 1#32
  let v147 : BitVec 32 := Scalar.divsi v145 c1_i32_57
  let v148 : BitVec 32 := Scalar.muli v147 c1_i32_57
  let v149 : BitVec 32 := Scalar.addi c0_i32_56 v148
  let c1_i32_59 : BitVec 32 := 1#32
  let arg13 : BitVec 32 := Scf.iv v149 c1_i32_59 k0_t6
  let v158 : Index := Scalar.indexCast arg13
  let c0_65 : Index := 0#32
  let c0_66 : Index := 0#32
  ![v158.toNat, 0, 0]
def k0_off18 (v73 : BitVec 32) (k0_t6 : Fin (k0_t6_loop v73).trips) : Fin 2 → Nat :=
  let c0_i32_56 : BitVec 32 := 0#32
  let c0_i32_20 : BitVec 32 := 0#32
  let v75 : BitVec 1 := Scalar.cmpi .sgt v73 c0_i32_20
  let v76 : BitVec 32 := Scalar.extui v75
  let c0_i32_21 : BitVec 32 := 0#32
  let v77 : BitVec 1 := Scalar.cmpi .slt v73 c0_i32_21
  let v78 : BitVec 32 := Scalar.extui v77
  let v79 : BitVec 32 := Scalar.subi v76 v78
  let c256_i32 : BitVec 32 := 256#32
  let c0_i32_22 : BitVec 32 := 0#32
  let v80 : BitVec 1 := Scalar.cmpi .sgt c256_i32 c0_i32_22
  let v81 : BitVec 32 := Scalar.extui v80
  let c0_i32_23 : BitVec 32 := 0#32
  let v82 : BitVec 1 := Scalar.cmpi .slt c256_i32 c0_i32_23
  let v83 : BitVec 32 := Scalar.extui v82
  let v84 : BitVec 32 := Scalar.subi v81 v83
  let v85 : BitVec 1 := Scalar.cmpi .ne v79 v84
  let v86 : BitVec 32 := Scalar.remsi v73 c256_i32
  let c0_i32_24 : BitVec 32 := 0#32
  let v87 : BitVec 1 := Scalar.cmpi .ne v86 c0_i32_24
  let v88 : BitVec 1 := Scalar.andi v85 v87
  let v74 : BitVec 32 := Scalar.divsi v73 c256_i32
  let c1_i32_25 : BitVec 32 := 1#32
  let v89 : BitVec 32 := Scalar.subi v74 c1_i32_25
  let v90 : BitVec 32 := Scalar.select v88 v89 v74
  let c1_i32_26 : BitVec 32 := 1#32
  let v91 : BitVec 32 := Scalar.addi v90 c1_i32_26
  let v145 : BitVec 32 := Scalar.subi v91 c0_i32_56
  let c1_i32_57 : BitVec 32 := 1#32
  let v147 : BitVec 32 := Scalar.divsi v145 c1_i32_57
  let v148 : BitVec 32 := Scalar.muli v147 c1_i32_57
  let v149 : BitVec 32 := Scalar.addi c0_i32_56 v148
  let c1_i32_59 : BitVec 32 := 1#32
  let arg13 : BitVec 32 := Scf.iv v149 c1_i32_59 k0_t6
  let c256_i32_64 : BitVec 32 := 256#32
  let v156 : BitVec 32 := Scalar.muli arg13 c256_i32_64
  let v157 : BitVec 32 := v156
  let v164 : Index := Scalar.indexCast v157
  let c0_67 : Index := 0#32
  ![v164.toNat, 0]

def k0_chk1 (v73 : BitVec 32) : Prop :=
  ((k0_t1_loop v73).OK) ∧
  (∀ k0_t1 : Fin (k0_t1_loop v73).trips, 256 ∣ (k0_mult1 v73 k0_t1).toNat) ∧
  (∀ k0_t1 : Fin (k0_t1_loop v73).trips, ∀ a, (k0_off1 v73 k0_t1) a + S1x256x512.size a ≤ S1x2048x512.size a) ∧
  (∀ k0_t1 : Fin (k0_t1_loop v73).trips, ∀ a, (k0_off2 v73 k0_t1) a + S1x4x256.size a ≤ S1x4x2048.size a) ∧
  (∀ k0_t1 : Fin (k0_t1_loop v73).trips, ∀ a, (k0_off3 v73 k0_t1) a + S256x512.size a ≤ S2048x512.size a) ∧
  (∀ k0_t1 : Fin (k0_t1_loop v73).trips, ∀ (hinb : ∀ a, (k0_off3 v73 k0_t1) a + S256x512.size a ≤ S2048x512.size a), (Rect.unit (s := S2048x512) (k0_off3 v73 k0_t1) S256x512.size hinb).PackedRows (EltTy.packing .bf16)) ∧
  (∀ k0_t1 : Fin (k0_t1_loop v73).trips, ∀ a, (k0_off4 v73 k0_t1) a + S1x64x256.size a ≤ S1x64x2048.size a) ∧
  (∀ k0_t1 : Fin (k0_t1_loop v73).trips, ∀ (r : Fin 2), ∀ a, (k0_off5 v73 k0_t1 (BitVec.ofNat 32 r.val)) a + S1x1x128.size a ≤ S16x1x128.size a) ∧
  (∀ k0_t1 : Fin (k0_t1_loop v73).trips, ∀ a, (k0_off6 v73 k0_t1) a + S1x128x256.size a ≤ S8x128x256.size a) ∧
  ((k0_t2_loop v73).OK) ∧
  (∀ k0_t2 : Fin (k0_t2_loop v73).trips, 256 ∣ (k0_mult2 v73 k0_t2).toNat) ∧
  (∀ k0_t2 : Fin (k0_t2_loop v73).trips, ∀ a, (k0_off7 v73 k0_t2) a + S1x256x512.size a ≤ S1x2048x512.size a) ∧
  (∀ k0_t2 : Fin (k0_t2_loop v73).trips, ∀ a, (k0_off8 v73 k0_t2) a + S1x4x256.size a ≤ S1x4x2048.size a) ∧
  (∀ k0_t2 : Fin (k0_t2_loop v73).trips, ∀ a, (k0_off9 v73 k0_t2) a + S256x512.size a ≤ S2048x512.size a) ∧
  (∀ k0_t2 : Fin (k0_t2_loop v73).trips, ∀ (hinb : ∀ a, (k0_off9 v73 k0_t2) a + S256x512.size a ≤ S2048x512.size a), (Rect.unit (s := S2048x512) (k0_off9 v73 k0_t2) S256x512.size hinb).PackedRows (EltTy.packing .bf16)) ∧
  (∀ k0_t2 : Fin (k0_t2_loop v73).trips, ∀ a, (k0_off10 v73 k0_t2) a + S1x64x256.size a ≤ S1x64x2048.size a) ∧
  (∀ k0_t2 : Fin (k0_t2_loop v73).trips, ∀ (r : Fin 2), ∀ a, (k0_off11 v73 k0_t2 (BitVec.ofNat 32 r.val)) a + S1x1x128.size a ≤ S16x1x128.size a) ∧
  (∀ k0_t2 : Fin (k0_t2_loop v73).trips, ∀ a, (k0_off12 v73 k0_t2) a + S1x128x256.size a ≤ S8x128x256.size a) ∧
  ((k0_t3_loop v73).OK) ∧
  (∀ k0_t3 : Fin (k0_t3_loop v73).trips, ∀ a, (k0_off13 v73 k0_t3) a + S1x128x256.size a ≤ S8x128x256.size a) ∧
  ((k0_t4_loop v73).OK) ∧
  (∀ k0_t4 : Fin (k0_t4_loop v73).trips, ∀ a, (k0_off14 v73 k0_t4) a + S1x128x256.size a ≤ S8x128x256.size a) ∧
  ((k0_t5_loop v73).OK) ∧
  (∀ k0_t5 : Fin (k0_t5_loop v73).trips, 256 ∣ (k0_mult3 v73 k0_t5).toNat) ∧
  (∀ k0_t5 : Fin (k0_t5_loop v73).trips, ∀ a, (k0_off15 v73 k0_t5) a + S1x128x256.size a ≤ S8x128x256.size a) ∧
  (∀ k0_t5 : Fin (k0_t5_loop v73).trips, ∀ a, (k0_off16 v73 k0_t5) a + S256x512.size a ≤ S2048x512.size a) ∧
  ((k0_t6_loop v73).OK) ∧
  (∀ k0_t6 : Fin (k0_t6_loop v73).trips, 256 ∣ (k0_mult4 v73 k0_t6).toNat) ∧
  (∀ k0_t6 : Fin (k0_t6_loop v73).trips, ∀ a, (k0_off17 v73 k0_t6) a + S1x128x256.size a ≤ S8x128x256.size a) ∧
  (∀ k0_t6 : Fin (k0_t6_loop v73).trips, ∀ a, (k0_off18 v73 k0_t6) a + S256x512.size a ≤ S2048x512.size a)
theorem k0_t1_ok : ∀ (v73 : BitVec 32) (k0_hw1 : k0_chk1 v73), (k0_t1_loop v73).OK := fun v73 k0_hw1 => k0_hw1.1
theorem k0_mult1_dvd : ∀ (v73 : BitVec 32) (k0_hw1 : k0_chk1 v73) (k0_t1 : Fin (k0_t1_loop v73).trips), 256 ∣ (k0_mult1 v73 k0_t1).toNat := fun v73 k0_hw1 k0_t1 => k0_hw1.2.1 k0_t1
theorem k0_off1_inb : ∀ (v73 : BitVec 32) (k0_hw1 : k0_chk1 v73) (k0_t1 : Fin (k0_t1_loop v73).trips), ∀ a, (k0_off1 v73 k0_t1) a + S1x256x512.size a ≤ S1x2048x512.size a := fun v73 k0_hw1 k0_t1 => k0_hw1.2.2.1 k0_t1
theorem k0_off2_inb : ∀ (v73 : BitVec 32) (k0_hw1 : k0_chk1 v73) (k0_t1 : Fin (k0_t1_loop v73).trips), ∀ a, (k0_off2 v73 k0_t1) a + S1x4x256.size a ≤ S1x4x2048.size a := fun v73 k0_hw1 k0_t1 => k0_hw1.2.2.2.1 k0_t1
theorem k0_off3_inb : ∀ (v73 : BitVec 32) (k0_hw1 : k0_chk1 v73) (k0_t1 : Fin (k0_t1_loop v73).trips), ∀ a, (k0_off3 v73 k0_t1) a + S256x512.size a ≤ S2048x512.size a := fun v73 k0_hw1 k0_t1 => k0_hw1.2.2.2.2.1 k0_t1
theorem k0_off3_packedbf16 : ∀ (v73 : BitVec 32) (k0_hw1 : k0_chk1 v73) (k0_t1 : Fin (k0_t1_loop v73).trips), (Rect.unit (s := S2048x512) (k0_off3 v73 k0_t1) S256x512.size (k0_off3_inb v73 k0_hw1 k0_t1)).PackedRows (EltTy.packing .bf16) := fun v73 k0_hw1 k0_t1 => k0_hw1.2.2.2.2.2.1 k0_t1 (k0_off3_inb v73 k0_hw1 k0_t1)
theorem k0_off4_inb : ∀ (v73 : BitVec 32) (k0_hw1 : k0_chk1 v73) (k0_t1 : Fin (k0_t1_loop v73).trips), ∀ a, (k0_off4 v73 k0_t1) a + S1x64x256.size a ≤ S1x64x2048.size a := fun v73 k0_hw1 k0_t1 => k0_hw1.2.2.2.2.2.2.1 k0_t1
theorem k0_off5_inb : ∀ (v73 : BitVec 32) (k0_hw1 : k0_chk1 v73) (k0_t1 : Fin (k0_t1_loop v73).trips), ∀ (r : Fin 2), ∀ a, (k0_off5 v73 k0_t1 (BitVec.ofNat 32 r.val)) a + S1x1x128.size a ≤ S16x1x128.size a := fun v73 k0_hw1 k0_t1 r => k0_hw1.2.2.2.2.2.2.2.1 k0_t1 r
theorem k0_off6_inb : ∀ (v73 : BitVec 32) (k0_hw1 : k0_chk1 v73) (k0_t1 : Fin (k0_t1_loop v73).trips), ∀ a, (k0_off6 v73 k0_t1) a + S1x128x256.size a ≤ S8x128x256.size a := fun v73 k0_hw1 k0_t1 => k0_hw1.2.2.2.2.2.2.2.2.1 k0_t1
theorem k0_t2_ok : ∀ (v73 : BitVec 32) (k0_hw1 : k0_chk1 v73), (k0_t2_loop v73).OK := fun v73 k0_hw1 => k0_hw1.2.2.2.2.2.2.2.2.2.1
theorem k0_mult2_dvd : ∀ (v73 : BitVec 32) (k0_hw1 : k0_chk1 v73) (k0_t2 : Fin (k0_t2_loop v73).trips), 256 ∣ (k0_mult2 v73 k0_t2).toNat := fun v73 k0_hw1 k0_t2 => k0_hw1.2.2.2.2.2.2.2.2.2.2.1 k0_t2
theorem k0_off7_inb : ∀ (v73 : BitVec 32) (k0_hw1 : k0_chk1 v73) (k0_t2 : Fin (k0_t2_loop v73).trips), ∀ a, (k0_off7 v73 k0_t2) a + S1x256x512.size a ≤ S1x2048x512.size a := fun v73 k0_hw1 k0_t2 => k0_hw1.2.2.2.2.2.2.2.2.2.2.2.1 k0_t2
theorem k0_off8_inb : ∀ (v73 : BitVec 32) (k0_hw1 : k0_chk1 v73) (k0_t2 : Fin (k0_t2_loop v73).trips), ∀ a, (k0_off8 v73 k0_t2) a + S1x4x256.size a ≤ S1x4x2048.size a := fun v73 k0_hw1 k0_t2 => k0_hw1.2.2.2.2.2.2.2.2.2.2.2.2.1 k0_t2
theorem k0_off9_inb : ∀ (v73 : BitVec 32) (k0_hw1 : k0_chk1 v73) (k0_t2 : Fin (k0_t2_loop v73).trips), ∀ a, (k0_off9 v73 k0_t2) a + S256x512.size a ≤ S2048x512.size a := fun v73 k0_hw1 k0_t2 => k0_hw1.2.2.2.2.2.2.2.2.2.2.2.2.2.1 k0_t2
theorem k0_off9_packedbf16 : ∀ (v73 : BitVec 32) (k0_hw1 : k0_chk1 v73) (k0_t2 : Fin (k0_t2_loop v73).trips), (Rect.unit (s := S2048x512) (k0_off9 v73 k0_t2) S256x512.size (k0_off9_inb v73 k0_hw1 k0_t2)).PackedRows (EltTy.packing .bf16) := fun v73 k0_hw1 k0_t2 => k0_hw1.2.2.2.2.2.2.2.2.2.2.2.2.2.2.1 k0_t2 (k0_off9_inb v73 k0_hw1 k0_t2)
theorem k0_off10_inb : ∀ (v73 : BitVec 32) (k0_hw1 : k0_chk1 v73) (k0_t2 : Fin (k0_t2_loop v73).trips), ∀ a, (k0_off10 v73 k0_t2) a + S1x64x256.size a ≤ S1x64x2048.size a := fun v73 k0_hw1 k0_t2 => k0_hw1.2.2.2.2.2.2.2.2.2.2.2.2.2.2.2.1 k0_t2
theorem k0_off11_inb : ∀ (v73 : BitVec 32) (k0_hw1 : k0_chk1 v73) (k0_t2 : Fin (k0_t2_loop v73).trips), ∀ (r : Fin 2), ∀ a, (k0_off11 v73 k0_t2 (BitVec.ofNat 32 r.val)) a + S1x1x128.size a ≤ S16x1x128.size a := fun v73 k0_hw1 k0_t2 r => k0_hw1.2.2.2.2.2.2.2.2.2.2.2.2.2.2.2.2.1 k0_t2 r
theorem k0_off12_inb : ∀ (v73 : BitVec 32) (k0_hw1 : k0_chk1 v73) (k0_t2 : Fin (k0_t2_loop v73).trips), ∀ a, (k0_off12 v73 k0_t2) a + S1x128x256.size a ≤ S8x128x256.size a := fun v73 k0_hw1 k0_t2 => k0_hw1.2.2.2.2.2.2.2.2.2.2.2.2.2.2.2.2.2.1 k0_t2
theorem k0_t3_ok : ∀ (v73 : BitVec 32) (k0_hw1 : k0_chk1 v73), (k0_t3_loop v73).OK := fun v73 k0_hw1 => k0_hw1.2.2.2.2.2.2.2.2.2.2.2.2.2.2.2.2.2.2.1
theorem k0_off13_inb : ∀ (v73 : BitVec 32) (k0_hw1 : k0_chk1 v73) (k0_t3 : Fin (k0_t3_loop v73).trips), ∀ a, (k0_off13 v73 k0_t3) a + S1x128x256.size a ≤ S8x128x256.size a := fun v73 k0_hw1 k0_t3 => k0_hw1.2.2.2.2.2.2.2.2.2.2.2.2.2.2.2.2.2.2.2.1 k0_t3
theorem k0_t4_ok : ∀ (v73 : BitVec 32) (k0_hw1 : k0_chk1 v73), (k0_t4_loop v73).OK := fun v73 k0_hw1 => k0_hw1.2.2.2.2.2.2.2.2.2.2.2.2.2.2.2.2.2.2.2.2.1
theorem k0_off14_inb : ∀ (v73 : BitVec 32) (k0_hw1 : k0_chk1 v73) (k0_t4 : Fin (k0_t4_loop v73).trips), ∀ a, (k0_off14 v73 k0_t4) a + S1x128x256.size a ≤ S8x128x256.size a := fun v73 k0_hw1 k0_t4 => k0_hw1.2.2.2.2.2.2.2.2.2.2.2.2.2.2.2.2.2.2.2.2.2.1 k0_t4
theorem k0_t5_ok : ∀ (v73 : BitVec 32) (k0_hw1 : k0_chk1 v73), (k0_t5_loop v73).OK := fun v73 k0_hw1 => k0_hw1.2.2.2.2.2.2.2.2.2.2.2.2.2.2.2.2.2.2.2.2.2.2.1
theorem k0_mult3_dvd : ∀ (v73 : BitVec 32) (k0_hw1 : k0_chk1 v73) (k0_t5 : Fin (k0_t5_loop v73).trips), 256 ∣ (k0_mult3 v73 k0_t5).toNat := fun v73 k0_hw1 k0_t5 => k0_hw1.2.2.2.2.2.2.2.2.2.2.2.2.2.2.2.2.2.2.2.2.2.2.2.1 k0_t5
theorem k0_off15_inb : ∀ (v73 : BitVec 32) (k0_hw1 : k0_chk1 v73) (k0_t5 : Fin (k0_t5_loop v73).trips), ∀ a, (k0_off15 v73 k0_t5) a + S1x128x256.size a ≤ S8x128x256.size a := fun v73 k0_hw1 k0_t5 => k0_hw1.2.2.2.2.2.2.2.2.2.2.2.2.2.2.2.2.2.2.2.2.2.2.2.2.1 k0_t5
theorem k0_off16_inb : ∀ (v73 : BitVec 32) (k0_hw1 : k0_chk1 v73) (k0_t5 : Fin (k0_t5_loop v73).trips), ∀ a, (k0_off16 v73 k0_t5) a + S256x512.size a ≤ S2048x512.size a := fun v73 k0_hw1 k0_t5 => k0_hw1.2.2.2.2.2.2.2.2.2.2.2.2.2.2.2.2.2.2.2.2.2.2.2.2.2.1 k0_t5
theorem k0_t6_ok : ∀ (v73 : BitVec 32) (k0_hw1 : k0_chk1 v73), (k0_t6_loop v73).OK := fun v73 k0_hw1 => k0_hw1.2.2.2.2.2.2.2.2.2.2.2.2.2.2.2.2.2.2.2.2.2.2.2.2.2.2.1
theorem k0_mult4_dvd : ∀ (v73 : BitVec 32) (k0_hw1 : k0_chk1 v73) (k0_t6 : Fin (k0_t6_loop v73).trips), 256 ∣ (k0_mult4 v73 k0_t6).toNat := fun v73 k0_hw1 k0_t6 => k0_hw1.2.2.2.2.2.2.2.2.2.2.2.2.2.2.2.2.2.2.2.2.2.2.2.2.2.2.2.1 k0_t6
theorem k0_off17_inb : ∀ (v73 : BitVec 32) (k0_hw1 : k0_chk1 v73) (k0_t6 : Fin (k0_t6_loop v73).trips), ∀ a, (k0_off17 v73 k0_t6) a + S1x128x256.size a ≤ S8x128x256.size a := fun v73 k0_hw1 k0_t6 => k0_hw1.2.2.2.2.2.2.2.2.2.2.2.2.2.2.2.2.2.2.2.2.2.2.2.2.2.2.2.2.1 k0_t6
theorem k0_off18_inb : ∀ (v73 : BitVec 32) (k0_hw1 : k0_chk1 v73) (k0_t6 : Fin (k0_t6_loop v73).trips), ∀ a, (k0_off18 v73 k0_t6) a + S256x512.size a ≤ S2048x512.size a := fun v73 k0_hw1 k0_t6 => k0_hw1.2.2.2.2.2.2.2.2.2.2.2.2.2.2.2.2.2.2.2.2.2.2.2.2.2.2.2.2.2 k0_t6

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "log2e" => some (((Real.log 2)⁻¹ : ℝ) : EReal)
  | "score_scale_log2e" => some (((Real.sqrt 192)⁻¹ * (Real.log 2)⁻¹ : ℝ) : EReal)
  | _ => none
-- ==== ReferenceIdeal.lean ====
abbrev S64x1x128x512 : Shape := ⟨4, ![64, 1, 128, 512]⟩
abbrev S64x1x128x64 : Shape := ⟨4, ![64, 1, 128, 64]⟩
abbrev S64x1x512 : Shape := ⟨3, ![64, 1, 512]⟩
abbrev S64x1x64 : Shape := ⟨3, ![64, 1, 64]⟩
abbrev S64x2048x512 : Shape := ⟨3, ![64, 2048, 512]⟩
abbrev S64x2048x4 : Shape := ⟨3, ![64, 2048, 4]⟩
abbrev S64x2048x64 : Shape := ⟨3, ![64, 2048, 64]⟩
abbrev S_ : Shape := ⟨0, ![]⟩
abbrev S64 : Shape := ⟨1, ![64]⟩
abbrev S64x1x1 : Shape := ⟨3, ![64, 1, 1]⟩
abbrev S64x1x512x1 : Shape := ⟨4, ![64, 1, 512, 1]⟩
abbrev S64x1x512x2 : Shape := ⟨4, ![64, 1, 512, 2]⟩
abbrev S64x1x512x512 : Shape := ⟨4, ![64, 1, 512, 512]⟩
abbrev S64x1x512x4 : Shape := ⟨4, ![64, 1, 512, 4]⟩
abbrev S64x1x512x64 : Shape := ⟨4, ![64, 1, 512, 64]⟩
abbrev S64x1x512x4x128 : Shape := ⟨5, ![64, 1, 512, 4, 128]⟩
abbrev S64x1x512x4x1 : Shape := ⟨5, ![64, 1, 512, 4, 1]⟩
abbrev S64x1x1x512 : Shape := ⟨4, ![64, 1, 1, 512]⟩
abbrev S64x1x128x1 : Shape := ⟨4, ![64, 1, 128, 1]⟩
abbrev S1x1 : Shape := ⟨2, ![1, 1]⟩
abbrev S1x1x1x1 : Shape := ⟨4, ![1, 1, 1, 1]⟩
abbrev S64x1x128 : Shape := ⟨3, ![64, 1, 128]⟩

abbrev nBuf : Space → Nat
  | .hbm => 146
  | .vmem => 2
  | .smem => 0
  | _ => 0

abbrev hbmTy0_0 (i : Nat) : BufTy := match i % 128 with
  | 0 => ⟨S64x1x128x512, .bf16⟩
  | 1 => ⟨S64x1x128x64, .bf16⟩
  | 2 => ⟨S64x1x512, .bf16⟩
  | 3 => ⟨S64x1x64, .bf16⟩
  | 4 => ⟨S64x2048x512, .fp8e4m3⟩
  | 5 => ⟨S64x2048x4, .f32⟩
  | 6 => ⟨S64x2048x64, .bf16⟩
  | 7 => ⟨S64x1x512, .i32⟩
  | 8 => ⟨S_, .f32⟩
  | 9 => ⟨S_, .f32⟩
  | 10 => ⟨S64x2048x512, .bf16⟩
  | 11 => ⟨S64, .i32⟩
  | 12 => ⟨S64x1x1, .i32⟩
  | 13 => ⟨S_, .i32⟩
  | 14 => ⟨S64x1x512, .i32⟩
  | 15 => ⟨S64x1x512, .i32⟩
  | 16 => ⟨S_, .i32⟩
  | 17 => ⟨S64x1x1, .i32⟩
  | 18 => ⟨S64x1x1, .i1⟩
  | 19 => ⟨S_, .i32⟩
  | 20 => ⟨S64x1x1, .i32⟩
  | 21 => ⟨S64x1x1, .i32⟩
  | 22 => ⟨S64x1x1, .i32⟩
  | 23 => ⟨S_, .i32⟩
  | 24 => ⟨S64x1x512, .i32⟩
  | 25 => ⟨S64x1x512, .i1⟩
  | 26 => ⟨S_, .i32⟩
  | 27 => ⟨S64x1x512, .i32⟩
  | 28 => ⟨S64x1x512, .i32⟩
  | 29 => ⟨S64x1x512, .i32⟩
  | 30 => ⟨S64x1x512, .i32⟩
  | 31 => ⟨S64x1x512x1, .i32⟩
  | 32 => ⟨S64x1x512x1, .i32⟩
  | 33 => ⟨S64x1x512x2, .i32⟩
  | 34 => ⟨S64x1x512x512, .bf16⟩
  | 35 => ⟨S_, .i32⟩
  | 36 => ⟨S64x1x1, .i32⟩
  | 37 => ⟨S64x1x1, .i1⟩
  | 38 => ⟨S_, .i32⟩
  | 39 => ⟨S64x1x1, .i32⟩
  | 40 => ⟨S64x1x1, .i32⟩
  | 41 => ⟨S64x1x1, .i32⟩
  | 42 => ⟨S_, .i32⟩
  | 43 => ⟨S64x1x512, .i32⟩
  | 44 => ⟨S64x1x512, .i1⟩
  | 45 => ⟨S_, .i32⟩
  | 46 => ⟨S64x1x512, .i32⟩
  | 47 => ⟨S64x1x512, .i32⟩
  | 48 => ⟨S64x1x512, .i32⟩
  | 49 => ⟨S64x1x512, .i32⟩
  | 50 => ⟨S64x1x512x1, .i32⟩
  | 51 => ⟨S64x1x512x1, .i32⟩
  | 52 => ⟨S64x1x512x2, .i32⟩
  | 53 => ⟨S64x1x512x4, .f32⟩
  | 54 => ⟨S_, .i32⟩
  | 55 => ⟨S64x1x1, .i32⟩
  | 56 => ⟨S64x1x1, .i1⟩
  | 57 => ⟨S_, .i32⟩
  | 58 => ⟨S64x1x1, .i32⟩
  | 59 => ⟨S64x1x1, .i32⟩
  | 60 => ⟨S64x1x1, .i32⟩
  | 61 => ⟨S_, .i32⟩
  | 62 => ⟨S64x1x512, .i32⟩
  | 63 => ⟨S64x1x512, .i1⟩
  | 64 => ⟨S_, .i32⟩
  | 65 => ⟨S64x1x512, .i32⟩
  | 66 => ⟨S64x1x512, .i32⟩
  | 67 => ⟨S64x1x512, .i32⟩
  | 68 => ⟨S64x1x512, .i32⟩
  | 69 => ⟨S64x1x512x1, .i32⟩
  | 70 => ⟨S64x1x512x1, .i32⟩
  | 71 => ⟨S64x1x512x2, .i32⟩
  | 72 => ⟨S64x1x512x64, .bf16⟩
  | 73 => ⟨S64x1x512x4x128, .bf16⟩
  | 74 => ⟨S64x1x512x4, .bf16⟩
  | 75 => ⟨S64x1x512x4x1, .bf16⟩
  | 76 => ⟨S64x1x512x4x128, .bf16⟩
  | 77 => ⟨S64x1x512x4x128, .bf16⟩
  | 78 => ⟨S64x1x512x512, .bf16⟩
  | 79 => ⟨S64x1x128x512, .f32⟩
  | 80 => ⟨S64x1x128x512, .f32⟩
  | 81 => ⟨S64x1x128x512, .f32⟩
  | 82 => ⟨S64x1x128x512, .f32⟩
  | 83 => ⟨S64x1x128x512, .f32⟩
  | 84 => ⟨S_, .i32⟩
  | 85 => ⟨S64x1x512, .i32⟩
  | 86 => ⟨S64x1x512, .i1⟩
  | 87 => ⟨S64x1x1x512, .i1⟩
  | 88 => ⟨S_, .f32⟩
  | 89 => ⟨S_, .f32⟩
  | 90 => ⟨S64x1x128x512, .i1⟩
  | 91 => ⟨S64x1x128x512, .f32⟩
  | 92 => ⟨S64x1x128x512, .f32⟩
  | 93 => ⟨S64x1x128x1, .f32⟩
  | 94 => ⟨S64x1x128x1, .f32⟩
  | 95 => ⟨S64x1x128x1, .f32⟩
  | 96 => ⟨S64x1x128x1, .f32⟩
  | 97 => ⟨S64x1x128x1, .f32⟩
  | 98 => ⟨S_, .i1⟩
  | 99 => ⟨S1x1, .i1⟩
  | 100 => ⟨S1x1, .i32⟩
  | 101 => ⟨S_, .i32⟩
  | 102 => ⟨S1x1, .i32⟩
  | 103 => ⟨S1x1, .i32⟩
  | 104 => ⟨S1x1, .i32⟩
  | 105 => ⟨S1x1, .i1⟩
  | 106 => ⟨S_, .i1⟩
  | 107 => ⟨S1x1, .i1⟩
  | 108 => ⟨S1x1, .i1⟩
  | 109 => ⟨S1x1x1x1, .i1⟩
  | 110 => ⟨S_, .f32⟩
  | 111 => ⟨S_, .f32⟩
  | 112 => ⟨S64x1x128x1, .i1⟩
  | 113 => ⟨S64x1x128x1, .f32⟩
  | 114 => ⟨S64x1x128x1, .f32⟩
  | 115 => ⟨S_, .f32⟩
  | 116 => ⟨S64x1x128, .f32⟩
  | 117 => ⟨S64x1x128x1, .f32⟩
  | 118 => ⟨S_, .f32⟩
  | 119 => ⟨S64x1x128, .f32⟩
  | 120 => ⟨S64x1x128x1, .f32⟩
  | 121 => ⟨S64x1x128x1, .f32⟩
  | 122 => ⟨S64x1x128x512, .f32⟩
  | 123 => ⟨S64x1x128x512, .f32⟩
  | 124 => ⟨S64x1x128x512, .f32⟩
  | 125 => ⟨S64x1x128x1, .f32⟩
  | 126 => ⟨S64x1x128x1, .f32⟩
  | 127 => ⟨S_, .f32⟩
  | _ => ⟨S64x1x128x512, .bf16⟩

abbrev hbmTy0_1 (i : Nat) : BufTy := match i % 128 with
  | 0 => ⟨S64x1x128, .f32⟩
  | 1 => ⟨S64x1x128x1, .f32⟩
  | 2 => ⟨S_, .f32⟩
  | 3 => ⟨S64x1x128, .f32⟩
  | 4 => ⟨S64x1x128x1, .f32⟩
  | 5 => ⟨S64x1x128x1, .f32⟩
  | 6 => ⟨S_, .f32⟩
  | 7 => ⟨S64x1x128x1, .f32⟩
  | 8 => ⟨S64x1x128x1, .f32⟩
  | 9 => ⟨S64x1x128x512, .f32⟩
  | 10 => ⟨S64x1x128x512, .f32⟩
  | 11 => ⟨S64x1x128x512, .bf16⟩
  | 12 => ⟨S64x1x128x1, .f32⟩
  | 13 => ⟨S64x1x128x1, .bf16⟩
  | 14 => ⟨S64x1x128x512, .f32⟩
  | 15 => ⟨S64x1x128x512, .f32⟩
  | 16 => ⟨S64x1x128x512, .f32⟩
  | 17 => ⟨S64x1x128x512, .bf16⟩
  | _ => ⟨S64x1x128x512, .bf16⟩

abbrev hbmTy (i : Nat) : BufTy := match i / 128 with
  | 0 => hbmTy0_0 i
  | 1 => hbmTy0_1 i
  | _ => ⟨S64x1x128x512, .bf16⟩

abbrev bufTy : (tb : Table) → Fin (tcTables nBuf tb) → BufTy
  | .hbm, ⟨i, _⟩ => hbmTy i
  | .local _ .vmem, ⟨0, _⟩ => ⟨S64x2048x512, .fp8e4m3⟩
  | .local _ .vmem, ⟨1, _⟩ => ⟨S64x2048x512, .bf16⟩
  | _, _ => ⟨S64x1x128x512, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_c_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_10 : Ref sig .tc := ⟨.hbm, 61, rfl⟩
abbrev main_v41 : Ref sig .tc := ⟨.hbm, 62, rfl⟩
abbrev main_v42 : Ref sig .tc := ⟨.hbm, 63, rfl⟩
abbrev main_c_11 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_12 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_13 : Ref sig .tc := ⟨.hbm, 88, rfl⟩
abbrev main_call0_v0 : Ref sig .tc := ⟨.hbm, 89, rfl⟩
abbrev main_call0_v1 : Ref sig .tc := ⟨.hbm, 90, rfl⟩
abbrev main_call0_v2 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_14 : Ref sig .tc := ⟨.hbm, 98, rfl⟩
abbrev main_v71 : Ref sig .tc := ⟨.hbm, 99, rfl⟩
abbrev main_call1_v0 : Ref sig .tc := ⟨.hbm, 100, rfl⟩
abbrev main_call1_c : Ref sig .tc := ⟨.hbm, 101, rfl⟩
abbrev main_call1_v1 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_call1_c_0 : Ref sig .tc := ⟨.hbm, 106, rfl⟩
abbrev main_call1_v5 : Ref sig .tc := ⟨.hbm, 107, rfl⟩
abbrev main_v72 : Ref sig .tc := ⟨.hbm, 108, rfl⟩
abbrev main_v73 : Ref sig .tc := ⟨.hbm, 109, rfl⟩
abbrev main_cst_15 : Ref sig .tc := ⟨.hbm, 110, rfl⟩
abbrev main_call2_v0 : Ref sig .tc := ⟨.hbm, 111, rfl⟩
abbrev main_call2_v1 : Ref sig .tc := ⟨.hbm, 112, rfl⟩
abbrev main_call2_v2 : Ref sig .tc := ⟨.hbm, 113, rfl⟩
abbrev main_v74 : Ref sig .tc := ⟨.hbm, 114, rfl⟩
abbrev main_cst_16 : Ref sig .tc := ⟨.hbm, 115, rfl⟩
abbrev main_v75 : Ref sig .tc := ⟨.hbm, 116, rfl⟩
abbrev main_v76 : Ref sig .tc := ⟨.hbm, 117, rfl⟩
abbrev main_cst_17 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_18 : Ref sig .tc := ⟨.hbm, 127, rfl⟩
abbrev main_v85 : Ref sig .tc := ⟨.hbm, 128, rfl⟩
abbrev main_v86 : Ref sig .tc := ⟨.hbm, 129, rfl⟩
abbrev main_cst_19 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_cst_20 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S64x2048x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Machine.Trips.lean ====
module

public import proofs.«01_k».proof.Proof.Gen.Kernel.Skeleton
public import Idealize.ShloMosaic.Lib.Exec
public import Idealize.ShloMosaic.Lib.Tactic
public import Idealize.ShloMosaic.Lib.LoopRemainder

@[expose] public section

set_option maxRecDepth 8192
set_option maxHeartbeats 4000000

namespace Cert.Kernel.Hand
open Cert.Kernel Cert.Kernel.Gen
open Idealize.ShloMosaic Idealize.ShloMosaic.TcCoe Idealize.ShloMosaic.Tactic

/-- The number of 256-row tiles the kernel visits when the greatest selected row is `v`, as it computes it. -/
abbrev tiles (v : BitVec 32) : ℕ := (k0_t1_loop v).trips

/-- The number of blocks for a position below 2048. -/
theorem tiles_nat : ∀ n : Fin 2048, tiles (BitVec.ofNat 32 n.val) = n.val / 256 + 1 := by decide +kernel

/-- A greatest row `v` with `0 ≤ v < 2048` gives `v / 256 + 1` tiles. -/
theorem tiles_of_nonneg (v : BitVec 32) (h : v.toInt < 2048) (h0 : 0 ≤ v.toInt) : tiles v = v.toInt.toNat / 256 + 1 := by
  have hb : v.toNat < 2048 := by
    have hc := BitVec.toInt_eq_toNat_cond v
    have := v.isLt
    split at hc <;> omega
  have hi : v.toInt = v.toNat := by
    have hc := BitVec.toInt_eq_toNat_cond v
    have := v.isLt
    split at hc <;> omega
  have := tiles_nat ⟨v.toNat, hb⟩
  rw [hi]
  simpa using this

/-- A negative greatest row gives no tile. -/
theorem tiles_of_neg (v : BitVec 32) (h0 : v.toInt < 0) : tiles v = 0 := by
  have e : (256#32 : BitVec 32).toInt = 256 := by decide
  have c1 : Scalar.cmpi .sgt v 0#32 = 0#1 := by
    have h : ¬ (0 < v.toInt) := by omega
    show BitVec.ofBool (decide ((0#32 : BitVec 32).toInt < v.toInt)) = 0#1
    rw [decide_eq_false (by rw [show (0#32 : BitVec 32).toInt = 0 from by decide]; exact h)]; rfl
  have c2 : Scalar.cmpi .slt v 0#32 = 1#1 := by
    simp [Scalar.cmpi, IntOp.cmpi, BitVec.slt, h0]
  have c3 : Scalar.cmpi .ne (Scalar.subi (Scalar.extui (Scalar.cmpi .sgt v 0#32)) (Scalar.extui (Scalar.cmpi .slt v 0#32)))
      (Scalar.subi (Scalar.extui (Scalar.cmpi .sgt 256#32 0#32)) (Scalar.extui (Scalar.cmpi .slt 256#32 0#32))) = 1#1 := by
    rw [c1, c2]; decide
  have htd : v.toInt.tdiv 256 = -((-v.toInt) / 256) := by
    rw [← Int.tdiv_eq_ediv_of_nonneg (by omega), Int.neg_tdiv, neg_neg]
  have htm : v.toInt.tmod 256 = v.toInt - 256 * v.toInt.tdiv 256 := by
    have := Int.mul_tdiv_add_tmod v.toInt 256
    omega
  have hd : Scalar.divsi v 256#32 = v.sdiv 256#32 := if_neg (IntOp.not_corner_of_pos (by decide))
  have hr : Scalar.remsi v 256#32 = v.srem 256#32 := if_neg (IntOp.not_corner_of_pos (by decide))
  have hdi : (v.sdiv 256#32).toInt = v.toInt.tdiv 256 := by
    rw [BitVec.toInt_sdiv_of_ne_or_ne _ _ (Or.inr (by decide)), e]
  have hri : (v.srem 256#32).toInt = v.toInt.tmod 256 := by rw [BitVec.toInt_srem, e]
  have key : (Scalar.addi (Scalar.select (Scalar.andi 1#1 (Scalar.cmpi .ne (v.srem 256#32) 0#32))
      (Scalar.subi (v.sdiv 256#32) 1#32) (v.sdiv 256#32)) 1#32).toInt ≤ 0 := by
    have hlo := BitVec.le_toInt v
    by_cases hz : v.srem 256#32 = 0#32
    · rw [hz]
      show (Scalar.addi (v.sdiv 256#32) 1#32).toInt ≤ 0
      have : v.toInt.tmod 256 = 0 := by rw [← hri, hz]; rfl
      show (v.sdiv 256#32 + 1#32).toInt ≤ 0
      rw [BitVec.toInt_add, hdi, show (1#32 : BitVec 32).toInt = 1 from by decide, Int.bmod_eq_of_le (by omega) (by omega)]
      omega
    · have hc : Scalar.andi 1#1 (Scalar.cmpi .ne (v.srem 256#32) 0#32) = 1#1 := by
        show 1#1 &&& BitVec.ofBool (v.srem 256#32 != 0#32) = 1#1
        rw [bne_iff_ne.mpr hz]; rfl
      rw [hc]
      show (v.sdiv 256#32 - 1#32 + 1#32).toInt ≤ 0
      rw [BitVec.sub_add_cancel, hdi]
      omega
  show (((Scalar.addi 0#32 (Scalar.muli (Scalar.divsi _ 1#32) 1#32)).toInt - (0#32 : BitVec 32).toInt + (1#32 : BitVec 32).toInt - 1)
    / (1#32 : BitVec 32).toInt).toNat = 0
  rw [Scalar.muli_divsi_one, c3, hd, hr]
  have e1 : (1#32 : BitVec 32).toInt = 1 := by decide
  have e0 : (0#32 : BitVec 32).toInt = 0 := by decide
  rw [e1, e0]
  have hs : ∀ x : BitVec 32, Scalar.addi 0#32 (Scalar.subi x 0#32) = x := fun x => by
    show 0#32 + (x - 0#32) = x
    simp
  rw [hs]
  omega

/-- At most eight tiles. -/
theorem tiles_le (v : BitVec 32) (h : v.toInt < 2048) : tiles v ≤ 8 := by
  rcases lt_or_ge v.toInt 0 with h0 | h0
  · rw [tiles_of_neg v h0]; omega
  · rw [tiles_of_nonneg v h h0]; omega

/-! ## The offsets in closed form -/

/-- The first position of block `k`. -/
theorem iv_mul256 : ∀ k, k < 8 → ((Scf.iv 0#32 1#32 k) * 256#32 : BitVec 32).toNat = 256 * k := by decide
/-- The loop counter reads as the trip's number. -/
theorem iv_one : ∀ k, k < 8 → (Scf.iv 0#32 1#32 k : BitVec 32).toNat = k := by decide
/-- The bias rows of block `k` are rows `2k` and `2k + 1`. -/
theorem iv_mul2 : ∀ k, k < 8 → ∀ r : Fin 2, ((Scf.iv 0#32 1#32 k) * 2#32 + BitVec.ofNat 32 r.val : BitVec 32).toNat = 2 * k + r.val := by decide

section Offsets
variable {v : BitVec 32} (h : v.toInt < 2048)
include h

/-- Where trip `k` finds the codes. -/
theorem off1_eq (k : Fin (k0_t1_loop v).trips) : k0_off1 v k = ![0, 256 * k.val, 0] := by
  obtain ⟨k, hk⟩ := k
  have hk8 : k < 8 := lt_of_lt_of_le hk (tiles_le v h)
  show ![0, ((Scf.iv 0#32 1#32 k) * 256#32 : BitVec 32).toNat, 0] = _
  rw [iv_mul256 k hk8]
/-- Where trip `k` finds the scales. -/
theorem off2_eq (k : Fin (k0_t1_loop v).trips) : k0_off2 v k = ![0, 0, 256 * k.val] := by
  obtain ⟨k, hk⟩ := k
  have hk8 : k < 8 := lt_of_lt_of_le hk (tiles_le v h)
  show ![0, 0, ((Scf.iv 0#32 1#32 k) * 256#32 : BitVec 32).toNat] = _
  rw [iv_mul256 k hk8]
/-- Where trip `k` finds the kept latents. -/
theorem off3_eq (k : Fin (k0_t1_loop v).trips) : k0_off3 v k = ![256 * k.val, 0] := by
  obtain ⟨k, hk⟩ := k
  have hk8 : k < 8 := lt_of_lt_of_le hk (tiles_le v h)
  show ![((Scf.iv 0#32 1#32 k) * 256#32 : BitVec 32).toNat, 0] = _
  rw [iv_mul256 k hk8]
/-- Where trip `k` finds the rope keys. -/
theorem off4_eq (k : Fin (k0_t1_loop v).trips) : k0_off4 v k = ![0, 0, 256 * k.val] := by
  obtain ⟨k, hk⟩ := k
  have hk8 : k < 8 := lt_of_lt_of_le hk (tiles_le v h)
  show ![0, 0, ((Scf.iv 0#32 1#32 k) * 256#32 : BitVec 32).toNat] = _
  rw [iv_mul256 k hk8]
/-- Where trip `k` finds the bias rows. -/
theorem off5_eq (k : Fin (k0_t1_loop v).trips) (r : Fin 2) : k0_off5 v k (BitVec.ofNat 32 r.val) = ![2 * k.val + r.val, 0, 0] := by
  obtain ⟨k, hk⟩ := k
  have hk8 : k < 8 := lt_of_lt_of_le hk (tiles_le v h)
  show ![((Scf.iv 0#32 1#32 k) * 2#32 + BitVec.ofNat 32 r.val : BitVec 32).toNat, 0, 0] = _
  rw [iv_mul2 k hk8]
/-- Where trip `k` finds the kept scores. -/
theorem off6_eq (k : Fin (k0_t1_loop v).trips) : k0_off6 v k = ![k.val, 0, 0] := by
  obtain ⟨k, hk⟩ := k
  have hk8 : k < 8 := lt_of_lt_of_le hk (tiles_le v h)
  show ![(Scf.iv 0#32 1#32 k : BitVec 32).toNat, 0, 0] = _
  rw [iv_one k hk8]
/-- Where trip `k` of the second pass finds the kept scores. -/
theorem off13_eq (k : Fin (k0_t3_loop v).trips) : k0_off13 v k = ![k.val, 0, 0] := by
  obtain ⟨k, hk⟩ := k
  have hk8 : k < 8 := lt_of_lt_of_le hk (tiles_le v h)
  show ![(Scf.iv 0#32 1#32 k : BitVec 32).toNat, 0, 0] = _
  rw [iv_one k hk8]
/-- Where trip `k` of the third pass finds the kept exponentials. -/
theorem off15_eq (k : Fin (k0_t5_loop v).trips) : k0_off15 v k = ![k.val, 0, 0] := by
  obtain ⟨k, hk⟩ := k
  have hk8 : k < 8 := lt_of_lt_of_le hk (tiles_le v h)
  show ![(Scf.iv 0#32 1#32 k : BitVec 32).toNat, 0, 0] = _
  rw [iv_one k hk8]
/-- Where trip `k` of the third pass finds the kept latents. -/
theorem off16_eq (k : Fin (k0_t5_loop v).trips) : k0_off16 v k = ![256 * k.val, 0] := by
  obtain ⟨k, hk⟩ := k
  have hk8 : k < 8 := lt_of_lt_of_le hk (tiles_le v h)
  show ![((Scf.iv 0#32 1#32 k) * 256#32 : BitVec 32).toNat, 0] = _
  rw [iv_mul256 k hk8]

/-- A word below 2048 satisfies every condition the body states of its greatest row: the loops are meaningful and every
    access lies inside its buffer. -/
theorem chk1_of_lt : k0_chk1 v := by
  have t8 := tiles_le v h
  have lt1 : ∀ k : Fin (k0_t1_loop v).trips, k.val < 8 := fun k => lt_of_lt_of_le k.isLt t8
  have lt3 : ∀ k : Fin (k0_t3_loop v).trips, k.val < 8 := fun k => lt_of_lt_of_le k.isLt t8
  have lt5 : ∀ k : Fin (k0_t5_loop v).trips, k.val < 8 := fun k => lt_of_lt_of_le k.isLt t8
  have ok : (k0_t1_loop v).OK := by
    have e1 : (1#32 : BitVec 32).toInt = 1 := by decide
    have e0 : (0#32 : BitVec 32).toInt = 0 := by decide
    refine ⟨by rw [show (k0_t1_loop v).st = 1#32 from rfl, e1]; decide, ?_⟩
    show (0#32 : BitVec 32).toInt + ((k0_t1_loop v).trips : ℤ) * (1#32 : BitVec 32).toInt < 2 ^ 31
    rw [e0, e1]
    have : ((k0_t1_loop v).trips : ℤ) ≤ 8 := by exact_mod_cast t8
    omega
  have hm : ∀ k, k < 8 → 256 ∣ (Scalar.muli (Scf.iv 0#32 1#32 k) 256#32).toNat := by decide
  unfold k0_chk1
  refine ⟨ok, fun k => hm k.val (lt1 k), fun k a => ?_, fun k a => ?_, fun k a => ?_, fun k hinb => ?_,
    fun k a => ?_, fun k r a => ?_, fun k a => ?_,
    Scf.rem_ok _ _, fun k => (Scf.rem_no_trip _ _ k).elim, fun k => (Scf.rem_no_trip _ _ k).elim, fun k => (Scf.rem_no_trip _ _ k).elim,
    fun k => (Scf.rem_no_trip _ _ k).elim, fun k => (Scf.rem_no_trip _ _ k).elim, fun k => (Scf.rem_no_trip _ _ k).elim,
    fun k => (Scf.rem_no_trip _ _ k).elim, fun k => (Scf.rem_no_trip _ _ k).elim,
    ok, fun k a => ?_,
    Scf.rem_ok _ _, fun k => (Scf.rem_no_trip _ _ k).elim,
    ok, fun k => hm k.val (lt5 k), fun k a => ?_, fun k a => ?_,
    Scf.rem_ok _ _, fun k => (Scf.rem_no_trip _ _ k).elim, fun k => (Scf.rem_no_trip _ _ k).elim, fun k => (Scf.rem_no_trip _ _ k).elim⟩
  · have := lt1 k
    rw [off1_eq h]; fin_cases a <;> simp <;> omega
  · have := lt1 k
    rw [off2_eq h]; fin_cases a <;> simp <;> omega
  · have := lt1 k
    rw [off3_eq h]; fin_cases a <;> simp <;> omega
  · have e := off3_eq h k
    refine Or.inr ⟨by decide, rfl, Or.inl ⟨?_, Dvd.intro 128 rfl⟩⟩
    show 2 ∣ k0_off3 v k 0
    rw [e]
    exact Dvd.intro (128 * k.val) (by show 2 * (128 * k.val) = 256 * k.val; omega)
  · have := lt1 k
    rw [off4_eq h]; fin_cases a <;> simp <;> omega
  · have := lt1 k
    rw [off5_eq h]; fin_cases a <;> simp <;> omega
  · have := lt1 k
    rw [off6_eq h]; fin_cases a <;> simp <;> omega
  · have := lt3 k
    rw [off13_eq h]; fin_cases a <;> simp <;> omega
  · have := lt5 k
    rw [off15_eq h]; fin_cases a <;> simp <;> omega
  · have := lt5 k
    rw [off16_eq h]; fin_cases a <;> simp <;> omega

end Offsets
end Cert.Kernel.Hand
-- ==== Proof.Machine.Block.lean ====
module

public import proofs.«01_k».proof.Proof.Gen.Kernel.Loops
public import proofs.«01_k».proof.Proof.Gen.Kernel.Frame
public import proofs.«01_k».proof.Proof.Machine.Trips
public import Idealize.ShloMosaic.Lib.WritesUnit
public import Idealize.ShloMosaic.Lib.ValueIdxCore
public import Idealize.ShloMosaic.Lib.VecWindow
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open ValueIdx

variable {F : FTy → Type} [FloatOps F]

local notation "𝕄" => MT nD τ sig Unit (Elt F) ℕ (UR sig nD τ) ℕ

/-- Tile `k` (256 positions) of the codes of one grid point. -/
def blk5 (A : Vec F S1x2048x512 .fp8e4m3) (k : ℕ) : Vec F S1x256x512 .fp8e4m3 := fun x =>
  A (ix3 (0 : Fin 1) (⟨(256 * k + (x 1).val) % 2048, Nat.mod_lt _ (by decide)⟩ : Fin 2048) (x 2 : Fin 512))
/-- Tile `k` of the transposed scales. -/
def blk6 (A : Vec F S1x4x2048 .f32) (k : ℕ) : Vec F S1x4x256 .f32 := fun x =>
  A (ix3 (0 : Fin 1) (x 1 : Fin 4) (⟨(256 * k + (x 2).val) % 2048, Nat.mod_lt _ (by decide)⟩ : Fin 2048))
/-- Tile `k` of the transposed rotary keys. -/
def blk7 (A : Vec F S1x64x2048 .bf16) (k : ℕ) : Vec F S1x64x256 .bf16 := fun x =>
  A (ix3 (0 : Fin 1) (x 1 : Fin 64) (⟨(256 * k + (x 2).val) % 2048, Nat.mod_lt _ (by decide)⟩ : Fin 2048))
/-- Row `h` (128 positions) of the bias. -/
def biasRow (B : Vec F S16x1x128 .f32) (h : ℕ) : Vec F S1x1x128 .f32 := fun x =>
  B (ix3 (⟨h % 16, Nat.mod_lt _ (by decide)⟩ : Fin 16) (0 : Fin 1) (x 2 : Fin 128))

/-- The eight input blocks one grid point reads. -/
structure Blocks (F : FTy → Type) where
  q : Vec F S1x1x128x512 .bf16
  qr : Vec F S1x1x64x128 .bf16
  kvn : Vec F S1x1x512 .bf16
  krn : Vec F S1x1x64 .bf16
  codes : Vec F S1x2048x512 .fp8e4m3
  scale : Vec F S1x4x2048 .f32
  krope : Vec F S1x64x2048 .bf16
  idx : Vec F S1x1x512 .i32

/-- The largest selected position. -/
def top (idx : Vec F S1x1x512 .i32) : BitVec 32 := extractAt ![0, 0, 0] (k0_pay34 (k0_pay27 idx)) inpos_S1x1x1_p0_0_0
/-- The bias: the scaled logarithm of how often each position is selected. -/
def bias (idx : Vec F S1x1x512 .i32) : Vec F S16x1x128 .f32 :=
  k0_pay33 (F := F) (k0_pay28 idx) (Scalar.select (Scalar.cmpi .eq 128#32 0#32) 1#32 128#32) (k0_pay29 idx) (k0_pay30 idx) (k0_pay31 idx) k0_pay32

namespace Blocks
variable (b : Blocks F)
/-- The score of the new position. -/
def s0 : FVec F S128x1 .f32 := k0_pay37 b.q b.qr b.kvn b.krn
def sLo (k : ℕ) : FVec F S128x256 .f32 := k0_pay21 (k0_pay35 b.q) (k0_pay36 b.qr) (blk5 b.codes k) (blk6 b.scale k) (blk7 b.krope k)
def sHi (k : ℕ) : FVec F S128x128 .f32 := k0_pay22 (k0_pay35 b.q) (k0_pay36 b.qr) (blk5 b.codes k) (blk6 b.scale k) (blk7 b.krope k)
/-- The biased scores of tile `k`. -/
def sc (k : ℕ) : FVec F S1x128x256 .f32 := k0_pay2 (b.sLo k) (b.sHi k) (biasRow (bias b.idx) (2 * k)) (biasRow (bias b.idx) (2 * k + 1))
/-- The dequantized rows of tile `k`. -/
def lat (k : ℕ) : FVec F S256x512 .bf16 := k0_pay20 (blk5 b.codes k) (blk6 b.scale k)
/-- The running maximum after `k` tiles. -/
def mx : ℕ → FVec F S128x1 .f32
  | 0 => b.s0
  | k + 1 => k0_pay3 (mx k) (b.sLo k) (b.sHi k) (biasRow (bias b.idx) (2 * k)) (biasRow (bias b.idx) (2 * k + 1))
/-- How many tiles the grid point reads. -/
def n : ℕ := tiles (top b.idx)
/-- The maximum over all tiles read. -/
def m : FVec F S128x1 .f32 := b.mx b.n
/-- The exponentials of tile `k`. -/
def e (k : ℕ) : FVec F S1x128x256 .f32 := k0_pay9 b.m (b.sc k)
/-- The running sum of exponentials after `k` tiles. -/
def l : ℕ → FVec F S128x1 .f32
  | 0 => k0_pay7 b.s0 b.m
  | k + 1 => k0_pay10 b.m (l k) (b.sc k)
/-- The running weighted sum of rows after `k` tiles. -/
def acc : ℕ → FVec F S128x512 .f32
  | 0 => k0_pay15 b.s0 b.m (b.l b.n) b.kvn
  | k + 1 => k0_pay16 (b.l b.n) (acc k) (b.e k) (b.lat k)
/-- What the grid point stores. -/
def out : FVec F S1x1x128x512 .bf16 := k0_pay18 (b.acc b.n)
end Blocks

/-- An element read from a tile is the buffer's element at the tile's offset plus the element's index. -/
theorem readAt_tile0 {s : Shape} {ty} (v : View sig .tc .vmem s ty) (f : v.ty.Contents (Elt F)) {off off' : Fin s.rank → ℕ} {size} (inb : ∀ a, off a + size a ≤ s.size a) (h : off = off')
    (x : ((Rect.unit off size inb).shape).Idx) (y : s.Idx) (hy : ∀ a, (y a).val = off' a + (x a).val) :
    v.readAt (Elt F) (Rect.unit off size inb).toLoadRect f x = v.read (Elt F) f y := by
  subst h
  rw [View.readAt_apply]
  congr 1
  funext a
  apply Fin.ext
  rw [hy a]
  show off a + 1 * (x a).val = _
  rw [Nat.one_mul]

end Cert.Kernel.Hand
-- ==== Proof.Machine.Top.lean ====
module

public import proofs.«01_k».proof.Proof.Gen.Kernel.Loops
public import proofs.«01_k».proof.Proof.Gen.Kernel.Frame
public import proofs.«01_k».proof.Proof.Machine.Trips
public import proofs.«01_k».proof.Proof.Machine.Block
public import Idealize.ShloMosaic.Lib.Pipeline.Value
public import Idealize.ShloMosaic.PureOps.Reduce
public import proofs.«01_k».proof.Defs
public import proofs.«01_k».proof.Proof.Gen.Pre_in_range
public import Idealize.ShloMosaic.Lib.WritesUnit
public import Idealize.ShloMosaic.Lib.ValueIdxCore
public import Idealize.ShloMosaic.Lib.VecWindow
public import Idealize.ShloMosaic.Lib.Exec
public import Idealize.ShloMosaic.Lib.Tactic
public import Idealize.ShloMosaic.Lib.WritesUnit
public import Idealize.ShloMosaic.Lib.ValueIdxCore
public import Idealize.ShloMosaic.Lib.VecWindow
public import Idealize.ShloMosaic.Lib.Pipeline.Kit

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open ValueIdx

open ValueIdx

variable {F : FTy → Type} [FloatOps F]

local notation "𝕄" => MT nD τ sig Unit (Elt F) ℕ (UR sig nD τ) ℕ

/-- The signed maximum of two words, read as an integer. -/
theorem toInt_maxsi (x y : BitVec 32) : (IntOp.maxsi x y).toInt = max x.toInt y.toInt := by
  unfold IntOp.maxsi
  by_cases hs : y.slt x = true
  · rw [if_pos hs]; rw [BitVec.slt_iff_toInt_lt] at hs; omega
  · rw [if_neg hs]; rw [BitVec.slt_iff_toInt_lt] at hs; omega

/-- A fold by the signed maximum lies below a bound exactly when its start and every word do. -/
theorem fold_maxsi_lt {ι : Type} [DecidableEq ι] (s : Finset ι) (f : ι → BitVec 32) (a : BitVec 32) (B : ℤ) :
    (s.fold IntOp.maxsi a f).toInt < B ↔ a.toInt < B ∧ ∀ i ∈ s, (f i).toInt < B := by
  induction s using Finset.induction_on with
  | empty => simp
  | insert i s hi ih =>
    rw [Finset.fold_insert hi, toInt_maxsi, max_lt_iff, ih]
    constructor
    · rintro ⟨h1, h2, h3⟩
      exact ⟨h2, fun j hj => (Finset.mem_insert.1 hj).elim (fun e => e ▸ h1) (h3 j)⟩
    · rintro ⟨h1, h2⟩
      exact ⟨h2 i (Finset.mem_insert_self _ _), h1, fun j hj => h2 j (Finset.mem_insert_of_mem hj)⟩

/-- The largest selected position lies below a bound exactly when every selected position does. -/
theorem top_lt_iff (idx : Vec F S1x1x512 .i32) (B : ℤ) (hB : -2147483648 < B) : (top idx).toInt < B ↔ ∀ x, (idx x : BitVec 32).toInt < B := by
  have key : ∀ j, multiReductionI .maxsi [1, 2] S1 (idx : IVec S1x1x512 32) 2147483648#32 reduces_S1x1x512_S1 rfl j
      = (Finset.univ.filter fun i => reduces_S1x1x512_S1.drop i = j).fold IntOp.maxsi 2147483648#32 idx :=
    multiReductionI_eq_fold .maxsi (idx : IVec S1x1x512 32) 2147483648#32 reduces_S1x1x512_S1 rfl
  have htop : ∃ j, top idx = (Finset.univ.filter fun i => reduces_S1x1x512_S1.drop i = j).fold IntOp.maxsi 2147483648#32 idx := by
    refine ⟨_, Eq.trans ?_ (key (Shape.reshapeEquiv shapeCasts_S1_S1x1x1 (fun a => ⟨(![0, 0, 0] : Fin 3 → ℕ) a, inpos_S1x1x1_p0_0_0 a⟩)))⟩
    unfold top k0_pay34 k0_pay27 extractAt
    dsimp only
    rw [shapeCast_shapeCast]
    rfl
  obtain ⟨j, hj⟩ := htop
  rw [hj, fold_maxsi_lt]
  constructor
  · rintro ⟨-, h⟩ x
    refine h x (Finset.mem_filter.2 ⟨Finset.mem_univ _, funext fun a => Fin.ext ?_⟩)
    have h1 := (reduces_S1x1x512_S1.drop x a).isLt
    have h2 := (j a).isLt
    have h3 : S1.size a = 1 := by fin_cases a; rfl
    omega
  · intro h
    exact ⟨by simpa using hB, fun i _ => h i⟩

/-- Under the precondition every selected position of every row is below 2048. -/
theorem idx_lt (m : (ℓ : Loc nD τ sig) → Buf (Elt Bits) ℓ) (h : Cert.Pre_Kernel m) (c : Dev nD) (y : S64x1x512.Idx) :
    (m ((c : Thread nD τ).loc main_arg7) y : BitVec 32).toInt < 2048 := by
  have ofBool_eq_one (p : Bool) : (BitVec.ofBool p = 1#1) ↔ p = true := by cases p <;> decide
  have e := congrFun (h c) y
  simp only [Pre_in_range.fn, cmpi, broadcastInDim, constantI, IntOp.cmpi, ofBool_eq_one, BitVec.slt, decide_eq_true_eq] at e
  have e' := of_decide_eq_true e
  rwa [show (2048#32 : BitVec 32).toInt = 2048 from by decide] at e'

/-- So is the largest selected position of every grid point. -/
theorem top_lt (m : (ℓ : Loc nD τ sig) → Buf (Elt Bits) ℓ) (h : Cert.Pre_Kernel m) (c : Dev nD) (t : Fin cfg0.N) :
    (top (F := Bits) (iblk m c 7 t)).toInt < 2048 := by
  rw [top_lt_iff _ _ (by norm_num)]
  intro x
  unfold iblk
  rw [View.read_apply, cast_eq]
  have := idx_lt m h c
  rw [← V_main_arg7 m c] at this
  exact this _
end Cert.Kernel.Hand
-- ==== Proof.Machine.Loop.lean ====
module

public import proofs.«01_k».proof.Proof.Gen.Kernel.Loops
public import proofs.«01_k».proof.Proof.Gen.Kernel.Frame
public import proofs.«01_k».proof.Proof.Machine.Trips
public import proofs.«01_k».proof.Proof.Machine.Block
public import Idealize.ShloMosaic.Lib.WritesUnit
public import Idealize.ShloMosaic.Lib.ValueIdxCore
public import Idealize.ShloMosaic.Lib.VecWindow
public import Idealize.ShloMosaic.Lib.Exec
public import Idealize.ShloMosaic.Lib.Tactic
public import Idealize.ShloMosaic.Lib.WritesUnit
public import Idealize.ShloMosaic.Lib.ValueIdxCore
public import Idealize.ShloMosaic.Lib.VecWindow
public import Idealize.ShloMosaic.Lib.Pipeline.Kit

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open ValueIdx

open ValueIdx

variable {F : FTy → Type} [FloatOps F]

local notation "𝕄" => MT nD τ sig Unit (Elt F) ℕ (UR sig nD τ) ℕ

variable {v : BitVec 32} (h : v.toInt < 2048) (hw : k0_chk1 v)
include h

/-- The codes of one block, as read. -/
theorem rd5 (V : View sig .tc .vmem S1x2048x512 .fp8e4m3) (X : V.ty.Contents (Elt F)) (k : Fin (k0_t1_loop v).trips) :
    V.readAt (Elt F) (Rect.unit (s := S1x2048x512) (k0_off1 v k) S1x256x512.size (k0_off1_inb v hw k)).toLoadRect X = blk5 (V.read (Elt F) X) k.val := by
  funext x
  have hk : k.val < 8 := lt_of_lt_of_le k.isLt (tiles_le v h)
  have h0 : (x 0).val < 1 := (x 0).isLt
  have h1 : (x 1).val < 256 := (x 1).isLt
  refine readAt_tile0 V X _ (off1_eq h k) x _ (Fin.forall_fin_succ.2 ⟨?_, Fin.forall_fin_succ.2 ⟨?_, Fin.forall_fin_succ.2 ⟨?_, fun a => a.elim0⟩⟩⟩)
  · show 0 = 0 + (x 0).val; omega
  · show (256 * k.val + (x 1).val) % 2048 = 256 * k.val + (x 1).val; omega
  · show (x 2).val = 0 + (x 2).val; omega

/-- The scales of one block, as read. -/
theorem rd6 (V : View sig .tc .vmem S1x4x2048 .f32) (X : V.ty.Contents (Elt F)) (k : Fin (k0_t1_loop v).trips) :
    V.readAt (Elt F) (Rect.unit (s := S1x4x2048) (k0_off2 v k) S1x4x256.size (k0_off2_inb v hw k)).toLoadRect X = blk6 (V.read (Elt F) X) k.val := by
  funext x
  have hk : k.val < 8 := lt_of_lt_of_le k.isLt (tiles_le v h)
  have h0 : (x 0).val < 1 := (x 0).isLt
  have h1 : (x 2).val < 256 := (x 2).isLt
  refine readAt_tile0 V X _ (off2_eq h k) x _ (Fin.forall_fin_succ.2 ⟨?_, Fin.forall_fin_succ.2 ⟨?_, Fin.forall_fin_succ.2 ⟨?_, fun a => a.elim0⟩⟩⟩)
  · show 0 = 0 + (x 0).val; omega
  · show (x 1).val = 0 + (x 1).val; omega
  · show (256 * k.val + (x 2).val) % 2048 = 256 * k.val + (x 2).val; omega

/-- The rope keys of one block, as read. -/
theorem rd7 (V : View sig .tc .vmem S1x64x2048 .bf16) (X : V.ty.Contents (Elt F)) (k : Fin (k0_t1_loop v).trips) :
    V.readAt (Elt F) (Rect.unit (s := S1x64x2048) (k0_off4 v k) S1x64x256.size (k0_off4_inb v hw k)).toLoadRect X = blk7 (V.read (Elt F) X) k.val := by
  funext x
  have hk : k.val < 8 := lt_of_lt_of_le k.isLt (tiles_le v h)
  have h0 : (x 0).val < 1 := (x 0).isLt
  have h1 : (x 2).val < 256 := (x 2).isLt
  refine readAt_tile0 V X _ (off4_eq h k) x _ (Fin.forall_fin_succ.2 ⟨?_, Fin.forall_fin_succ.2 ⟨?_, Fin.forall_fin_succ.2 ⟨?_, fun a => a.elim0⟩⟩⟩)
  · show 0 = 0 + (x 0).val; omega
  · show (x 1).val = 0 + (x 1).val; omega
  · show (256 * k.val + (x 2).val) % 2048 = 256 * k.val + (x 2).val; omega

/-- A row of the bias, as read. -/
theorem rd12 (V : View sig .tc .vmem S16x1x128 .f32) (X : V.ty.Contents (Elt F)) (k : Fin (k0_t1_loop v).trips) (r : Fin 2)
    (inb : ∀ a, k0_off5 v k (BitVec.ofNat 32 r.val) a + S1x1x128.size a ≤ S16x1x128.size a) :
    V.readAt (Elt F) (Rect.unit (s := S16x1x128) (k0_off5 v k (BitVec.ofNat 32 r.val)) S1x1x128.size inb).toLoadRect X = biasRow (V.read (Elt F) X) (2 * k.val + r.val) := by
  funext x
  have hk : k.val < 8 := lt_of_lt_of_le k.isLt (tiles_le v h)
  have h0 : (x 0).val < 1 := (x 0).isLt
  have h1 : (x 1).val < 1 := (x 1).isLt
  refine readAt_tile0 V X _ (off5_eq h k r) x _ (Fin.forall_fin_succ.2 ⟨?_, Fin.forall_fin_succ.2 ⟨?_, Fin.forall_fin_succ.2 ⟨?_, fun a => a.elim0⟩⟩⟩)
  · show (2 * k.val + r.val) % 16 = 2 * k.val + r.val + (x 0).val; omega
  · show 0 = 0 + (x 1).val; omega
  · show (x 2).val = 0 + (x 2).val; omega

/-- The scores of one block, as read by the second pass. -/
theorem rd10 (V : View sig .tc .vmem S8x128x256 .f32) (X : V.ty.Contents (Elt F)) (k : Fin (k0_t3_loop v).trips) (hk : k.val < 8) (x : S1x128x256.Idx) :
    V.readAt (Elt F) (Rect.unit (s := S8x128x256) (k0_off13 v k) S1x128x256.size (k0_off13_inb v hw k)).toLoadRect X x
      = V.read (Elt F) X (ix3 (⟨k.val, hk⟩ : Fin 8) (x 1 : Fin 128) (x 2 : Fin 256)) := by
  have h0 : (x 0).val < 1 := (x 0).isLt
  refine readAt_tile0 V X _ (off13_eq h k) x _ (Fin.forall_fin_succ.2 ⟨?_, Fin.forall_fin_succ.2 ⟨?_, Fin.forall_fin_succ.2 ⟨?_, fun a => a.elim0⟩⟩⟩)
  · show k.val = k.val + (x 0).val; omega
  · show (x 1).val = 0 + (x 1).val; omega
  · show (x 2).val = 0 + (x 2).val; omega

/-- The exponentials of one block, as read by the third pass. -/
theorem rd10' (V : View sig .tc .vmem S8x128x256 .f32) (X : V.ty.Contents (Elt F)) (k : Fin (k0_t5_loop v).trips) (hk : k.val < 8) (x : S1x128x256.Idx) :
    V.readAt (Elt F) (Rect.unit (s := S8x128x256) (k0_off15 v k) S1x128x256.size (k0_off15_inb v hw k)).toLoadRect X x
      = V.read (Elt F) X (ix3 (⟨k.val, hk⟩ : Fin 8) (x 1 : Fin 128) (x 2 : Fin 256)) := by
  have h0 : (x 0).val < 1 := (x 0).isLt
  refine readAt_tile0 V X _ (off15_eq h k) x _ (Fin.forall_fin_succ.2 ⟨?_, Fin.forall_fin_succ.2 ⟨?_, Fin.forall_fin_succ.2 ⟨?_, fun a => a.elim0⟩⟩⟩)
  · show k.val = k.val + (x 0).val; omega
  · show (x 1).val = 0 + (x 1).val; omega
  · show (x 2).val = 0 + (x 2).val; omega

/-- The latents of one block, as read. -/
theorem rd11 (V : View sig .tc .vmem S2048x512 .bf16) (X : V.ty.Contents (Elt F)) (k : Fin (k0_t5_loop v).trips) (x : S256x512.Idx) (i : Fin 2048)
    (hi : i.val = 256 * k.val + (x 0).val) :
    V.readAt (Elt F) (Rect.unit (s := S2048x512) (k0_off16 v k) S256x512.size (k0_off16_inb v hw k)).toLoadRect X x
      = V.read (Elt F) X (ix2 i (x 1 : Fin 512)) := by
  refine readAt_tile0 V X _ (off16_eq h k) x _ (Fin.forall_fin_succ.2 ⟨?_, Fin.forall_fin_succ.2 ⟨?_, fun a => a.elim0⟩⟩)
  · exact hi
  · show (x 1).val = 0 + (x 1).val; omega

variable (𝒱 : Variants) (c : Dev nD) (bd : Option 𝒱.V) (i : grid0.Coords)
    (arg1 : Memref sig .tc .vmem S1x1x128x512 .bf16) (harg1 : arg1.IsWhole) (arg2 : Memref sig .tc .vmem S1x1x64x128 .bf16) (harg2 : arg2.IsWhole)
    (arg3 : Memref sig .tc .vmem S1x1x512 .bf16) (harg3 : arg3.IsWhole) (arg4 : Memref sig .tc .vmem S1x1x64 .bf16) (harg4 : arg4.IsWhole)
    (arg5 : Memref sig .tc .vmem S1x2048x512 .fp8e4m3) (harg5 : arg5.IsWhole) (arg6 : Memref sig .tc .vmem S1x4x2048 .f32) (harg6 : arg6.IsWhole)
    (arg7 : Memref sig .tc .vmem S1x64x2048 .bf16) (harg7 : arg7.IsWhole) (arg8 : Memref sig .tc .vmem S1x1x512 .i32) (harg8 : arg8.IsWhole)
    (arg9 : Memref sig .tc .vmem S1x1x128x512 .bf16) (harg9 : arg9.IsWhole) (arg10 : Memref sig .tc .vmem S8x128x256 .f32) (harg10 : arg10.IsWhole)
    (arg11 : Memref sig .tc .vmem S2048x512 .bf16) (harg11 : arg11.IsWhole) (arg12 : Memref sig .tc .vmem S16x1x128 .f32) (harg12 : arg12.IsWhole)

variable (b : Blocks F) (X5 : BufTy.Contents (Elt F) arg5.view.ty) (X6 : BufTy.Contents (Elt F) arg6.view.ty)
    (X7 : BufTy.Contents (Elt F) arg7.view.ty) (X12 : BufTy.Contents (Elt F) arg12.view.ty)
    (e5 : arg5.view.read (Elt F) X5 = b.codes) (e6 : arg6.view.read (Elt F) X6 = b.scale) (e7 : arg7.view.read (Elt F) X7 = b.krope)
    (e12 : arg12.view.read (Elt F) X12 = bias b.idx)

omit h in
include e5 e6 e7 e12 in
/-- The maximum one trip of the first pass carries on. -/
theorem t1R (h : v.toInt < 2048) (k : Fin (k0_t1_loop v).trips) (acc : FVec F S128x1 .f32) :
    tripR_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 k acc = k0_pay3 acc (b.sLo k) (b.sHi k) (biasRow (bias b.idx) (2 * k)) (biasRow (bias b.idx) (2 * k + 1)) := by
  unfold tripR_k0_t1 trip_k0_t1
  dsimp only
  have hr : trip_k0_t1.sl.r arg5 arg6 arg7 v hw (k0_pay35 b.q) (k0_pay36 b.qr) X5 X6 X7 k = b.sLo k := by
    unfold Blocks.sLo; rw [← e5, ← e6, ← e7, ← rd5 h hw, ← rd6 h hw, ← rd7 h hw]; rfl
  have hr1 : trip_k0_t1.sl.r_1 arg5 arg6 arg7 v hw (k0_pay35 b.q) (k0_pay36 b.qr) X5 X6 X7 k = b.sHi k := by
    unfold Blocks.sHi; rw [← e5, ← e6, ← e7, ← rd5 h hw, ← rd6 h hw, ← rd7 h hw]; rfl
  rw [hr, hr1, ← e12]
  exact congrArg₂ _ (rd12 h _ _ k 0 _) (rd12 h _ _ k 1 _)

omit h in
include e5 e6 e7 e12 in
/-- What one trip of the first pass stores: the scores and the latents of its block. -/
theorem t1L (h : v.toInt < 2048) (k : Fin (k0_t1_loop v).trips) (acc : FVec F S128x1 .f32) :
    tripL_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 k acc = ([⟨Rect.unit (s := S8x128x256) (k0_off6 v k) S1x128x256.size (k0_off6_inb v hw k), b.sc k⟩],
      [⟨Rect.unit (s := S2048x512) (k0_off3 v k) S256x512.size (k0_off3_inb v hw k), b.lat k⟩]) := by
  unfold tripL_k0_t1 trip_k0_t1
  dsimp only
  have hr : trip_k0_t1.sl.r arg5 arg6 arg7 v hw (k0_pay35 b.q) (k0_pay36 b.qr) X5 X6 X7 k = b.sLo k := by
    unfold Blocks.sLo; rw [← e5, ← e6, ← e7, ← rd5 h hw, ← rd6 h hw, ← rd7 h hw]; rfl
  have hr1 : trip_k0_t1.sl.r_1 arg5 arg6 arg7 v hw (k0_pay35 b.q) (k0_pay36 b.qr) X5 X6 X7 k = b.sHi k := by
    unfold Blocks.sHi; rw [← e5, ← e6, ← e7, ← rd5 h hw, ← rd6 h hw, ← rd7 h hw]; rfl
  rw [hr, hr1]
  unfold Blocks.sc Blocks.lat
  rw [← e5, ← e6, ← e12, ← rd5 h hw, ← rd6 h hw]
  have hb0 := rd12 h arg12.view X12 k 0 (k0_off5_inb v hw k 0)
  have hb1 := rd12 h arg12.view X12 k 1 (k0_off5_inb v hw k 1)
  rw [show biasRow (arg12.view.read (Elt F) X12) (2 * k.val) = _ from hb0.symm, show biasRow (arg12.view.read (Elt F) X12) (2 * k.val + 1) = _ from hb1.symm]
  rfl

omit h in
include e5 e6 e7 e12 in
/-- The first loop: the running maximum, and the tiles of scores and rows it leaves in the scratches. -/
theorem t1_state (h : v.toInt < 2048) (G10 : BufTy.Contents (Elt F) arg10.view.ty) (G11 : BufTy.Contents (Elt F) arg11.view.ty) (k : ℕ) (hk : k ≤ tiles v) :
    (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 k).1 = b.mx k
    ∧ (∀ j (hj : j < 8), j < k → ∀ x : S1x128x256.Idx, arg10.view.read (Elt F) (arg10.view.writes (Elt F) G10 (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 k).2.1) (ix3 (⟨j, hj⟩ : Fin 8) (x 1 : Fin 128) (x 2 : Fin 256)) = b.sc j x)
    ∧ (∀ j, j < k → ∀ (x : S256x512.Idx) (i' : Fin 2048), i'.val = 256 * j + (x 0).val → arg11.view.read (Elt F) (arg11.view.writes (Elt F) G11 (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 k).2.2) (ix2 i' (x 1 : Fin 512)) = b.lat j x) := by
  induction k with
  | zero => exact ⟨st_k0_t1_zero .., fun j _ hj => absurd hj (Nat.not_lt_zero _), fun j hj => absurd hj (Nat.not_lt_zero _)⟩
  | succ k ih =>
    obtain ⟨ih1, ih2, ih3⟩ := ih (Nat.le_of_succ_le hk)
    have hk8 : k < 8 := lt_of_lt_of_le hk (tiles_le v h)
    have es := st_k0_t1_succ 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 ⟨k, hk⟩
    rw [show ((⟨k, hk⟩ : Fin (k0_t1_loop v).trips).val + 1) = k + 1 from rfl, show (⟨k, hk⟩ : Fin (k0_t1_loop v).trips).val = k from rfl,
      t1R (F := F) 𝒱 c bd i arg1 harg1 arg2 harg2 arg3 harg3 arg4 harg4 arg5 harg5 arg6 harg6 arg7 harg7 arg8 harg8 arg9 harg9 arg10 harg10 arg11 harg11 arg12 harg12 b X5 X6 X7 X12 e5 e6 e7 e12 (h := h) (hw := hw), t1L (F := F) 𝒱 c bd i arg1 harg1 arg2 harg2 arg3 harg3 arg4 harg4 arg5 harg5 arg6 harg6 arg7 harg7 arg8 harg8 arg9 harg9 arg10 harg10 arg11 harg11 arg12 harg12 b X5 X6 X7 X12 e5 e6 e7 e12 (h := h) (hw := hw), ih1] at es
    rw [es]
    refine ⟨rfl, fun j hj hjk x => ?_, fun j hjk x i' hi' => ?_⟩
    · have h0 : (x 0).val < 1 := (x 0).isLt
      rcases Nat.lt_or_ge j k with hlt | hge
      · refine (View.read_writes_cons_unit_of_not_mem arg10.view G10 _ _ _ _ (off6_eq h ⟨k, hk⟩) 0 (Or.inl hlt)).trans (ih2 j hj hlt x)
      · obtain rfl : j = k := by omega
        refine View.read_writes_cons_unit_of_mem arg10.view G10 _ _ _ _ x (off6_eq h ⟨j, hk⟩) (Fin.forall_fin_succ.2 ⟨?_, Fin.forall_fin_succ.2 ⟨?_, Fin.forall_fin_succ.2 ⟨?_, fun a => a.elim0⟩⟩⟩)
        · show j = j + (x 0).val; omega
        · show (x 1).val = 0 + (x 1).val; omega
        · show (x 2).val = 0 + (x 2).val; omega
    · have h0 : (x 0).val < 256 := (x 0).isLt
      rcases Nat.lt_or_ge j k with hlt | hge
      · refine (View.read_writes_cons_unit_of_not_mem arg11.view G11 _ _ _ _ (off3_eq h ⟨k, hk⟩) 0 (Or.inl ?_)).trans (ih3 j hlt x i' hi')
        show i'.val < 256 * k; omega
      · obtain rfl : j = k := by omega
        refine View.read_writes_cons_unit_of_mem arg11.view G11 _ _ _ _ x (off3_eq h ⟨j, hk⟩) (Fin.forall_fin_succ.2 ⟨?_, Fin.forall_fin_succ.2 ⟨?_, fun a => a.elim0⟩⟩)
        · exact hi'
        · show (x 1).val = 0 + (x 1).val; omega

omit h in
/-- The second loop: the running sum, and each tile of scores replaced by its exponentials. -/
theorem t3_state (h : v.toInt < 2048) (G : BufTy.Contents (Elt F) arg10.view.ty)
    (hG : ∀ j (hj : j < 8), j < tiles v → ∀ x : S1x128x256.Idx, arg10.view.read (Elt F) G (ix3 (⟨j, hj⟩ : Fin 8) (x 1 : Fin 128) (x 2 : Fin 256)) = b.sc j x) (k : ℕ) (hk : k ≤ tiles v) :
    (st_k0_t3 𝒱 c bd i arg1 harg1 arg2 harg2 arg3 harg3 arg4 harg4 arg5 harg5 arg6 harg6 arg7 harg7 arg8 harg8 arg9 harg9 arg10 harg10 arg11 harg11 arg12 harg12 v hw b.m G (b.l 0) k).1 = b.l k
    ∧ (∀ j (hj : j < 8), j < k → ∀ x : S1x128x256.Idx, arg10.view.read (Elt F) (arg10.view.writes (Elt F) G (st_k0_t3 𝒱 c bd i arg1 harg1 arg2 harg2 arg3 harg3 arg4 harg4 arg5 harg5 arg6 harg6 arg7 harg7 arg8 harg8 arg9 harg9 arg10 harg10 arg11 harg11 arg12 harg12 v hw b.m G (b.l 0) k).2) (ix3 (⟨j, hj⟩ : Fin 8) (x 1 : Fin 128) (x 2 : Fin 256)) = b.e j x)
    ∧ (∀ j (hj : j < 8), k ≤ j → j < tiles v → ∀ x : S1x128x256.Idx, arg10.view.read (Elt F) (arg10.view.writes (Elt F) G (st_k0_t3 𝒱 c bd i arg1 harg1 arg2 harg2 arg3 harg3 arg4 harg4 arg5 harg5 arg6 harg6 arg7 harg7 arg8 harg8 arg9 harg9 arg10 harg10 arg11 harg11 arg12 harg12 v hw b.m G (b.l 0) k).2) (ix3 (⟨j, hj⟩ : Fin 8) (x 1 : Fin 128) (x 2 : Fin 256)) = b.sc j x) := by
  induction k with
  | zero => exact ⟨st_k0_t3_zero .., fun j _ hj => absurd hj (Nat.not_lt_zero _), fun j hj _ => hG j hj⟩
  | succ k ih =>
    obtain ⟨ih1, ih2, ih3⟩ := ih (Nat.le_of_succ_le hk)
    have hk8 : k < 8 := lt_of_lt_of_le hk (tiles_le v h)
    have es := st_k0_t3_succ 𝒱 c bd i arg1 harg1 arg2 harg2 arg3 harg3 arg4 harg4 arg5 harg5 arg6 harg6 arg7 harg7 arg8 harg8 arg9 harg9 arg10 harg10 arg11 harg11 arg12 harg12 v hw b.m G (b.l 0) ⟨k, hk⟩
    have hrd : View.readAt (Elt F) arg10.view (Rect.unit (s := S8x128x256) (k0_off13 v ⟨k, hk⟩) S1x128x256.size (k0_off13_inb v hw ⟨k, hk⟩)).toLoadRect (arg10.view.writes (Elt F) G (st_k0_t3 𝒱 c bd i arg1 harg1 arg2 harg2 arg3 harg3 arg4 harg4 arg5 harg5 arg6 harg6 arg7 harg7 arg8 harg8 arg9 harg9 arg10 harg10 arg11 harg11 arg12 harg12 v hw b.m G (b.l 0) k).2) = b.sc k :=
      funext fun x => (rd10 h hw arg10.view _ ⟨k, hk⟩ hk8 x).trans (ih3 k hk8 le_rfl hk x)
    have eR : tripR_k0_t3 𝒱 c bd i arg1 harg1 arg2 harg2 arg3 harg3 arg4 harg4 arg5 harg5 arg6 harg6 arg7 harg7 arg8 harg8 arg9 harg9 arg10 harg10 arg11 harg11 arg12 harg12 v hw b.m ⟨k, hk⟩ (b.l k) (arg10.view.writes (Elt F) G (st_k0_t3 𝒱 c bd i arg1 harg1 arg2 harg2 arg3 harg3 arg4 harg4 arg5 harg5 arg6 harg6 arg7 harg7 arg8 harg8 arg9 harg9 arg10 harg10 arg11 harg11 arg12 harg12 v hw b.m G (b.l 0) k).2) = b.l (k + 1) := by
      unfold tripR_k0_t3 trip_k0_t3
      exact congrArg (k0_pay10 b.m (b.l k)) hrd
    have eL : tripL_k0_t3 𝒱 c bd i arg1 harg1 arg2 harg2 arg3 harg3 arg4 harg4 arg5 harg5 arg6 harg6 arg7 harg7 arg8 harg8 arg9 harg9 arg10 harg10 arg11 harg11 arg12 harg12 v hw b.m ⟨k, hk⟩ (b.l k) (arg10.view.writes (Elt F) G (st_k0_t3 𝒱 c bd i arg1 harg1 arg2 harg2 arg3 harg3 arg4 harg4 arg5 harg5 arg6 harg6 arg7 harg7 arg8 harg8 arg9 harg9 arg10 harg10 arg11 harg11 arg12 harg12 v hw b.m G (b.l 0) k).2)
        = [⟨Rect.unit (s := S8x128x256) (k0_off13 v ⟨k, hk⟩) S1x128x256.size (k0_off13_inb v hw ⟨k, hk⟩), b.e k⟩] := by
      unfold tripL_k0_t3 trip_k0_t3 Blocks.e
      rw [← hrd]
    rw [show ((⟨k, hk⟩ : Fin (k0_t3_loop v).trips).val + 1) = k + 1 from rfl, show (⟨k, hk⟩ : Fin (k0_t3_loop v).trips).val = k from rfl, ih1, eR, eL] at es
    rw [es]
    refine ⟨rfl, fun j hj hjk x => ?_, fun j hj hjk hjn x => ?_⟩
    · have h0 : (x 0).val < 1 := (x 0).isLt
      rcases Nat.lt_or_ge j k with hlt | hge
      · exact (View.read_writes_cons_unit_of_not_mem arg10.view G _ _ _ _ (off13_eq h ⟨k, hk⟩) 0 (Or.inl hlt)).trans (ih2 j hj hlt x)
      · obtain rfl : j = k := by omega
        refine View.read_writes_cons_unit_of_mem arg10.view G _ _ _ _ x (off13_eq h ⟨j, hk⟩) (Fin.forall_fin_succ.2 ⟨?_, Fin.forall_fin_succ.2 ⟨?_, Fin.forall_fin_succ.2 ⟨?_, fun a => a.elim0⟩⟩⟩)
        · show j = j + (x 0).val; omega
        · show (x 1).val = 0 + (x 1).val; omega
        · show (x 2).val = 0 + (x 2).val; omega
    · exact (View.read_writes_cons_unit_of_not_mem arg10.view G _ _ _ _ (off13_eq h ⟨k, hk⟩) 0 (Or.inr hjk)).trans (ih3 j hj (Nat.le_of_succ_le hjk) hjn x)

omit h in
/-- The third loop: the running weighted sum of rows. -/
theorem t5_state (h : v.toInt < 2048) (X10 : BufTy.Contents (Elt F) arg10.view.ty) (X11 : BufTy.Contents (Elt F) arg11.view.ty)
    (h10 : ∀ j (hj : j < 8), j < tiles v → ∀ x : S1x128x256.Idx, arg10.view.read (Elt F) X10 (ix3 (⟨j, hj⟩ : Fin 8) (x 1 : Fin 128) (x 2 : Fin 256)) = b.e j x)
    (h11 : ∀ j, j < tiles v → ∀ (x : S256x512.Idx) (i' : Fin 2048), i'.val = 256 * j + (x 0).val → arg11.view.read (Elt F) X11 (ix2 i' (x 1 : Fin 512)) = b.lat j x)
    (k : ℕ) (hk : k ≤ tiles v) : st_k0_t5 𝒱 c bd i arg1 harg1 arg2 harg2 arg3 harg3 arg4 harg4 arg5 harg5 arg6 harg6 arg7 harg7 arg8 harg8 arg9 harg9 arg10 harg10 arg11 harg11 arg12 harg12 v hw (b.l b.n) X10 X11 (b.acc 0) k = b.acc k := by
  induction k with
  | zero => rfl
  | succ k ih =>
    have ih := ih (Nat.le_of_succ_le hk)
    have hk8 : k < 8 := lt_of_lt_of_le hk (tiles_le v h)
    have es := st_k0_t5_succ 𝒱 c bd i arg1 harg1 arg2 harg2 arg3 harg3 arg4 harg4 arg5 harg5 arg6 harg6 arg7 harg7 arg8 harg8 arg9 harg9 arg10 harg10 arg11 harg11 arg12 harg12 v hw (b.l b.n) X10 X11 (b.acc 0) ⟨k, hk⟩
    have hrd : View.readAt (Elt F) arg10.view (Rect.unit (s := S8x128x256) (k0_off15 v ⟨k, hk⟩) S1x128x256.size (k0_off15_inb v hw ⟨k, hk⟩)).toLoadRect X10 = b.e k :=
      funext fun x => (rd10' h hw arg10.view _ ⟨k, hk⟩ hk8 x).trans (h10 k hk8 hk x)
    have hrd' : View.readAt (Elt F) arg11.view (Rect.unit (s := S2048x512) (k0_off16 v ⟨k, hk⟩) S256x512.size (k0_off16_inb v hw ⟨k, hk⟩)).toLoadRect X11 = b.lat k :=
      funext fun x => by
        have h0 : (x 0).val < 256 := (x 0).isLt
        exact (rd11 h hw arg11.view X11 ⟨k, hk⟩ x ⟨256 * k + (x 0).val, by omega⟩ rfl).trans (h11 k hk x _ rfl)
    rw [show ((⟨k, hk⟩ : Fin (k0_t5_loop v).trips).val + 1) = k + 1 from rfl, show (⟨k, hk⟩ : Fin (k0_t5_loop v).trips).val = k from rfl, ih] at es
    rw [es]
    unfold tripR_k0_t5 trip_k0_t5
    exact congrArg₂ (k0_pay16 (b.l b.n) (b.acc k)) hrd hrd'

omit h in
include e5 e6 e7 e12 in
/-- The three loops one after the other end at the grid point's weighted sum. -/
theorem loops_value (h : v.toInt < 2048) (hv : v = top b.idx) (G10 : BufTy.Contents (Elt F) arg10.view.ty) (G11 : BufTy.Contents (Elt F) arg11.view.ty) :
    st_k0_t5 𝒱 c bd i arg1 harg1 arg2 harg2 arg3 harg3 arg4 harg4 arg5 harg5 arg6 harg6 arg7 harg7 arg8 harg8 arg9 harg9 arg10 harg10 arg11 harg11 arg12 harg12 v hw (st_k0_t3 𝒱 c bd i arg1 harg1 arg2 harg2 arg3 harg3 arg4 harg4 arg5 harg5 arg6 harg6 arg7 harg7 arg8 harg8 arg9 harg9 arg10 harg10 arg11 harg11 arg12 harg12 v hw (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 (tiles v)).1 (arg10.view.writes (Elt F) G10 (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 (tiles v)).2.1) (k0_pay7 b.s0 (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 (tiles v)).1) (tiles v)).1 (arg10.view.writes (Elt F) G10 ((st_k0_t3 𝒱 c bd i arg1 harg1 arg2 harg2 arg3 harg3 arg4 harg4 arg5 harg5 arg6 harg6 arg7 harg7 arg8 harg8 arg9 harg9 arg10 harg10 arg11 harg11 arg12 harg12 v hw (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 (tiles v)).1 (arg10.view.writes (Elt F) G10 (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 (tiles v)).2.1) (k0_pay7 b.s0 (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 (tiles v)).1) (tiles v)).2 ++ (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 (tiles v)).2.1)) (arg11.view.writes (Elt F) G11 (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 (tiles v)).2.2)
      (k0_pay15 b.s0 (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 (tiles v)).1 (st_k0_t3 𝒱 c bd i arg1 harg1 arg2 harg2 arg3 harg3 arg4 harg4 arg5 harg5 arg6 harg6 arg7 harg7 arg8 harg8 arg9 harg9 arg10 harg10 arg11 harg11 arg12 harg12 v hw (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 (tiles v)).1 (arg10.view.writes (Elt F) G10 (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 (tiles v)).2.1) (k0_pay7 b.s0 (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 (tiles v)).1) (tiles v)).1 b.kvn) (tiles v) = b.acc b.n := by
  have hn : tiles v = b.n := by rw [hv]; rfl
  obtain ⟨p1, p2, p3⟩ := t1_state (F := F) 𝒱 c bd i arg1 harg1 arg2 harg2 arg3 harg3 arg4 harg4 arg5 harg5 arg6 harg6 arg7 harg7 arg8 harg8 arg9 harg9 arg10 harg10 arg11 harg11 arg12 harg12 b X5 X6 X7 X12 e5 e6 e7 e12 (h := h) (hw := hw) G10 G11 (tiles v) le_rfl
  have hm : (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 (tiles v)).1 = b.m := by rw [p1, hn]; rfl
  obtain ⟨q1, q2, -⟩ := t3_state (F := F) 𝒱 c bd i arg1 harg1 arg2 harg2 arg3 harg3 arg4 harg4 arg5 harg5 arg6 harg6 arg7 harg7 arg8 harg8 arg9 harg9 arg10 harg10 arg11 harg11 arg12 harg12 b (h := h) (hw := hw) (arg10.view.writes (Elt F) G10 (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 (tiles v)).2.1) p2 (tiles v) le_rfl
  rw [← View.writes_append] at q2
  have hl : k0_pay7 b.s0 b.m = b.l 0 := rfl
  rw [hm, hl, q1]
  have := t5_state (F := F) 𝒱 c bd i arg1 harg1 arg2 harg2 arg3 harg3 arg4 harg4 arg5 harg5 arg6 harg6 arg7 harg7 arg8 harg8 arg9 harg9 arg10 harg10 arg11 harg11 arg12 harg12 b (h := h) (hw := hw) _ _ q2 p3 (tiles v) le_rfl
  rw [hn] at *
  exact this

end Cert.Kernel.Hand
-- ==== Proof.Machine.Run.lean ====
module

public import proofs.«01_k».proof.Proof.Gen.Kernel.Loops
public import proofs.«01_k».proof.Proof.Gen.Kernel.Frame
public import proofs.«01_k».proof.Proof.Machine.Trips
public import proofs.«01_k».proof.Proof.Machine.Loop
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The blocks the body loads, from what its eight input references hold. -/
def blocksAt (arg1 : Memref sig .tc .vmem S1x1x128x512 .bf16) (arg2 : Memref sig .tc .vmem S1x1x64x128 .bf16) (arg3 : Memref sig .tc .vmem S1x1x512 .bf16) (arg4 : Memref sig .tc .vmem S1x1x64 .bf16) (arg5 : Memref sig .tc .vmem S1x2048x512 .fp8e4m3) (arg6 : Memref sig .tc .vmem S1x4x2048 .f32) (arg7 : Memref sig .tc .vmem S1x64x2048 .bf16) (arg8 : Memref sig .tc .vmem S1x1x512 .i32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) : Blocks F :=
  ⟨View.readAt (Elt F) arg1.view (Rect.unit (s := S1x1x128x512) ![0, 0, 0, 0] S1x1x128x512.size inb_S1x1x128x512_S1x1x128x512_0_0_0_0).toLoadRect X1,
    View.readAt (Elt F) arg2.view (Rect.unit (s := S1x1x64x128) ![0, 0, 0, 0] S1x1x64x128.size inb_S1x1x64x128_S1x1x64x128_0_0_0_0).toLoadRect X2,
    View.readAt (Elt F) arg3.view (Rect.unit (s := S1x1x512) ![0, 0, 0] S1x1x512.size inb_S1x1x512_S1x1x512_0_0_0).toLoadRect X3,
    View.readAt (Elt F) arg4.view (Rect.unit (s := S1x1x64) ![0, 0, 0] S1x1x64.size inb_S1x1x64_S1x1x64_0_0_0).toLoadRect X4,
    arg5.view.read (Elt F) X5,
    arg6.view.read (Elt F) X6,
    arg7.view.read (Elt F) X7,
    View.readAt (Elt F) arg8.view (Rect.unit (s := S1x1x512) ![0, 0, 0] S1x1x512.size inb_S1x1x512_S1x1x512_0_0_0).toLoadRect X8⟩

/-- One grid point: from the eight input blocks and any contents of the result block and the three scratches,
    the body runs, leaves the inputs as they are, and stores the point's result. -/
theorem run (𝒱 : Variants) (c : Dev nD) (bd : Option 𝒱.V) (E : Set ℕ) (i : grid0.Coords)
    (arg1 : Memref sig .tc .vmem S1x1x128x512 .bf16) (harg1 : arg1.IsWhole) (arg2 : Memref sig .tc .vmem S1x1x64x128 .bf16) (harg2 : arg2.IsWhole)
    (arg3 : Memref sig .tc .vmem S1x1x512 .bf16) (harg3 : arg3.IsWhole) (arg4 : Memref sig .tc .vmem S1x1x64 .bf16) (harg4 : arg4.IsWhole)
    (arg5 : Memref sig .tc .vmem S1x2048x512 .fp8e4m3) (harg5 : arg5.IsWhole) (arg6 : Memref sig .tc .vmem S1x4x2048 .f32) (harg6 : arg6.IsWhole)
    (arg7 : Memref sig .tc .vmem S1x64x2048 .bf16) (harg7 : arg7.IsWhole) (arg8 : Memref sig .tc .vmem S1x1x512 .i32) (harg8 : arg8.IsWhole)
    (arg9 : Memref sig .tc .vmem S1x1x128x512 .bf16) (harg9 : arg9.IsWhole) (arg10 : Memref sig .tc .vmem S8x128x256 .f32) (harg10 : arg10.IsWhole)
    (arg11 : Memref sig .tc .vmem S2048x512 .bf16) (harg11 : arg11.IsWhole) (arg12 : Memref sig .tc .vmem S16x1x128 .f32) (harg12 : arg12.IsWhole)
    (X1 : BufTy.Contents (Elt F) arg1.view.ty) (X2 : BufTy.Contents (Elt F) arg2.view.ty) (X3 : BufTy.Contents (Elt F) arg3.view.ty)
    (X4 : BufTy.Contents (Elt F) arg4.view.ty) (X5 : BufTy.Contents (Elt F) arg5.view.ty) (X6 : BufTy.Contents (Elt F) arg6.view.ty)
    (X7 : BufTy.Contents (Elt F) arg7.view.ty) (X8 : BufTy.Contents (Elt F) arg8.view.ty) (f9 : BufTy.Contents (Elt F) arg9.view.ty)
    (f10 : BufTy.Contents (Elt F) arg10.view.ty) (f11 : BufTy.Contents (Elt F) arg11.view.ty) (f12 : BufTy.Contents (Elt F) arg12.view.ty)
    (b : Blocks F) (hb : b = ⟨arg1.view.read (Elt F) X1, arg2.view.read (Elt F) X2, arg3.view.read (Elt F) X3, arg4.view.read (Elt F) X4, arg5.view.read (Elt F) X5, arg6.view.read (Elt F) X6, arg7.view.read (Elt F) X7, arg8.view.read (Elt F) X8⟩)
    (h : (top b.idx).toInt < 2048) :
    iprop((arg1.view.loc (c : Thread nD τ) ↦[arg1.view.set]{fullShare} X1) ∗ (arg2.view.loc (c : Thread nD τ) ↦[arg2.view.set]{fullShare} X2)
      ∗ (arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5) ∗ (arg6.view.loc (c : Thread nD τ) ↦[arg6.view.set]{fullShare} X6)
      ∗ (arg7.view.loc (c : Thread nD τ) ↦[arg7.view.set]{fullShare} X7) ∗ (arg8.view.loc (c : Thread nD τ) ↦[arg8.view.set]{fullShare} X8)
      ∗ (arg9.view.loc (c : Thread nD τ) ↦[arg9.view.set]{fullShare} f9) ∗ (arg10.view.loc (c : Thread nD τ) ↦[arg10.view.set]{fullShare} f10)
      ∗ (arg11.view.loc (c : Thread nD τ) ↦[arg11.view.set]{fullShare} f11) ∗ (arg12.view.loc (c : Thread nD τ) ↦[arg12.view.set]{fullShare} f12) : sProp 𝕄)
    ⊢ wp frame (wpE (defs₀ (F := F)) 𝒱 (c : Thread nD τ) bd) E
        (cc0_mla_decode i arg1 harg1 arg2 harg2 arg3 harg3 arg4 harg4 arg5 harg5 arg6 harg6 arg7 harg7 arg8 harg8 arg9 harg9 arg10 harg10 arg11 harg11 arg12 harg12)
        (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f, (arg9.view.loc (c : Thread nD τ) ↦[arg9.view.set]{fullShare} f) ∗ ⌜arg9.view.read (Elt F) f = b.out⌝) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)))) := by
  have hchk : k0_chk1 (extractAt ![0, 0, 0] (k0_pay34 (k0_pay27 (View.readAt (Elt F) arg8.view
      (Rect.unit (s := S1x1x512) ![0, 0, 0] S1x1x512.size inb_S1x1x512_S1x1x512_0_0_0).toLoadRect X8))) inpos_S1x1x1_p0_0_0) := by
    rw [View.readAt_full]; exact chk1_of_lt (by rw [hb] at h; exact h)
  iintro ⟨H1, H2, H3, H4, H5, H6, H7, H8, H9, H10, H11, H12⟩
  sl_unfold [cc0_mla_decode]
  sl_exec (disch := exact hchk)
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _
    isplitl [H9]; · iexact H9
    ipureintro
    rw [View.read_writes_full]
    have hb' : b = blocksAt arg1 arg2 arg3 arg4 arg5 arg6 arg7 arg8 X1 X2 X3 X4 X5 X6 X7 X8 := by
      unfold blocksAt
      rw [View.readAt_full arg1.view X1 inb_S1x1x128x512_S1x1x128x512_0_0_0_0, View.readAt_full arg2.view X2 inb_S1x1x64x128_S1x1x64x128_0_0_0_0,
        View.readAt_full arg3.view X3 inb_S1x1x512_S1x1x512_0_0_0, View.readAt_full arg4.view X4 inb_S1x1x64_S1x1x64_0_0_0,
        View.readAt_full arg8.view X8 inb_S1x1x512_S1x1x512_0_0_0]
      exact hb
    rw [hb'] at h ⊢
    have e12 : arg12.view.read (Elt F) (arg12.view.writes (Elt F) arg12.view.junk (run.sl.H12_1 arg8 X8)) = bias (blocksAt arg1 arg2 arg3 arg4 arg5 arg6 arg7 arg8 X1 X2 X3 X4 X5 X6 X7 X8).idx := by
      unfold run.sl.H12_1
      rw [View.read_writes_full]; rfl
    have h73 : run.sl.v73 arg8 X8 = top (blocksAt arg1 arg2 arg3 arg4 arg5 arg6 arg7 arg8 X1 X2 X3 X4 X5 X6 X7 X8).idx := by
      unfold run.sl.v73 top blocksAt; rfl
    have hr : run.sl.r arg1 X1 = k0_pay35 (blocksAt arg1 arg2 arg3 arg4 arg5 arg6 arg7 arg8 X1 X2 X3 X4 X5 X6 X7 X8).q := by
      unfold run.sl.r blocksAt; rfl
    have hr1 : run.sl.r_1 arg2 X2 = k0_pay36 (blocksAt arg1 arg2 arg3 arg4 arg5 arg6 arg7 arg8 X1 X2 X3 X4 X5 X6 X7 X8).qr := by
      unfold run.sl.r_1 blocksAt; rfl
    have hr2 : run.sl.r_2 arg1 arg2 arg3 arg4 X1 X2 X3 X4 = (blocksAt arg1 arg2 arg3 arg4 arg5 arg6 arg7 arg8 X1 X2 X3 X4 X5 X6 X7 X8).s0 := by
      unfold run.sl.r_2 blocksAt Blocks.s0; rfl
    rw [hr, hr1, hr2]
    exact congrArg k0_pay18 (loops_value 𝒱 c bd i arg1 harg1 arg2 harg2 arg3 harg3 arg4 harg4 arg5 harg5 arg6 harg6 arg7 harg7 arg8 harg8 arg9 harg9 arg10 harg10 arg11 harg11 arg12 harg12 (blocksAt arg1 arg2 arg3 arg4 arg5 arg6 arg7 arg8 X1 X2 X3 X4 X5 X6 X7 X8) X5 X6 X7
      (arg12.view.writes (Elt F) arg12.view.junk (run.sl.H12_1 arg8 X8)) rfl rfl rfl e12 (h := by rw [h73]; exact h) (hw := hchk) (v := run.sl.v73 arg8 X8) h73 f10 f11)
  isplitl [H10]; · iexists _; iexact H10
  isplitl [H11]; · iexists _; iexact H11
  iexists _; iexact H12
end Cert.Kernel.Hand
-- ==== Proof.Machine.Point.lean ====
module

public import proofs.«01_k».proof.Proof.Gen.Kernel.Loops
public import proofs.«01_k».proof.Proof.Gen.Kernel.Frame
public import proofs.«01_k».proof.Proof.Machine.Trips
public import proofs.«01_k».proof.Proof.Machine.Loop
public import proofs.«01_k».proof.Proof.Machine.Run
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Pipeline (Dat Cfg Window BodyObligation cellOf)

variable (m : (ℓ : Loc nD τ sig) → Buf (Elt F) ℓ) (ρ : Dev nD → PrngReg)

/-- The eight input blocks of grid point `t`. -/
def blocks (c : Dev nD) (t : Fin cfg0.N) : Blocks F :=
  ⟨iblk m c 0 t, iblk m c 1 t, iblk m c 2 t, iblk m c 3 t, iblk m c 4 t, iblk m c 5 t, iblk m c 6 t, iblk m c 7 t⟩

/-- The proof data: each input's block stays, the result's block becomes the point's result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (blocks m c t).out
  Φ _ := Pipeline.ΦA spec0 c
  q _ := fullShare
  owed _ := 0

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at grid point `t`. -/
theorem sound_body (hidx : ∀ c t, (top (F := F) (iblk m c 7 t)).toInt < 2048) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, show (dats m 0 c).owesAt () t.succ = (dats m 0 c).owesAt () t.castSucc from rfl]
  rw [show (dats m 0 c).Φ t.castSucc = Pipeline.ΦA spec0 c from rfl]
  unfold Pipeline.ΦA
  rw [scopedRest0_eq]
  simp only [before0_0_of m (dats m 0 c) rfl (fun _ => rfl) t]
  simp only [before0_1_of m (dats m 0 c) rfl (fun _ => rfl) t]
  simp only [before0_2_of m (dats m 0 c) rfl (fun _ => rfl) t]
  simp only [before0_3_of m (dats m 0 c) rfl (fun _ => rfl) t]
  simp only [before0_4_of m (dats m 0 c) rfl (fun _ => rfl) t]
  simp only [before0_5_of m (dats m 0 c) rfl (fun _ => rfl) t]
  simp only [before0_6_of m (dats m 0 c) rfl (fun _ => rfl) t]
  simp only [before0_7_of m (dats m 0 c) rfl (fun _ => rfl) t]
  unfold owns
  iintro ⟨⟨⟨⟨%fs0, HS0⟩, ⟨%fs1, HS1⟩, ⟨%fs2, HS2⟩⟩, Hg⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, -, H8⟩⟩
  have hb : blocks m c t = ⟨(st0_0 t).view.read (Elt F) f0, (st0_1 t).view.read (Elt F) f1, (st0_2 t).view.read (Elt F) f2, (st0_3 t).view.read (Elt F) f3,
      (st0_4 t).view.read (Elt F) f4, (st0_5 t).view.read (Elt F) f5, (st0_6 t).view.read (Elt F) f6, (st0_7 t).view.read (Elt F) f7⟩ := by
    rw [e0, e1, e2, e3, e4, e5, e6, e7]; rfl
  have hrun := run (F := F) Variants.none c none Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _)
    f0 f1 f2 f3 f4 f5 f6 f7 f8 fs0 fs1 fs2 (blocks m c t) hb (hidx c t)
  rw [show (Memref.whole cc0_scratch0).view.set = Finset.univ from View.set_whole _, show (Memref.whole cc0_scratch1).view.set = Finset.univ from View.set_whole _,
    show (Memref.whole cc0_scratch2).view.set = Finset.univ from View.set_whole _] at hrun
  iapply (wp_wand_r Idealize.ShloMosaic.frame (wpE (defs₀ (F := F)) Variants.none c none) Set.univ)
  isplitl [H0 H1 H2 H3 H4 H5 H6 H7 H8 HS0 HS1 HS2]
  · iapply hrun
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iexact HS2
  iintro %_ ⟨H0, H1, H2, H3, H4, H5, H6, H7, ⟨%f9, H8, %e8⟩, ⟨%fs0', HS0⟩, ⟨%fs1', HS1⟩, ⟨%fs2', HS2⟩⟩
  isplitl [HS0 HS1 HS2 Hg]
  · isplitl [HS0 HS1 HS2]
    · isplitl [HS0]; · iexists _; iexact HS0
      isplitl [HS1]; · iexists _; iexact HS1
      iexists _; iexact HS2
    iexact Hg
  isplitl [Ho]; · iexact Ho
  isplitl [H0]
  · iexists _; isplitr; swap; · iexact H0
    ipureintro; exact e0
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  iexists _; isplitr; swap; · iexact H8
  ipureintro; exact e8

/-- The called body is the body at the grid point. -/
theorem defs₀_row (t : Fin cfg0.N) : defs₀ (F := F) .tc cfg0.body (cfg0.bodyArgs t (cfg0.slots t)) = bodyAt0 t := by
  unfold defs₀; rw [Defs.onTc_tc]

/-- The body at every grid point meets what the pipeline asks of it. -/
theorem body_obligation (hidx : ∀ c t, (top (F := F) (iblk m c 7 t)).toInt < 2048) (c : Dev nD) :
    BodyObligation (dats (F := F) m 0 c) (defs₀ (F := F)) Variants.none () Set.univ := fun t => by
  rw [bigSep_W0, bigSep_W0, defs₀_row]
  exact triple_restated (sound_body m hidx c t) rfl .rfl fun _ => .rfl

/-- The whole run: every array ends as the proof data says, every other buffer as launched, every semaphore at zero. -/
theorem run_main (hidx : ∀ c t, (top (F := F) (iblk m c 7 t)).toInt < 2048) :
    θ_run defs (onTc (τ := τ) (main (F := F))) ⟨m, fun _ => 0, ρ⟩ (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m hidx c).loose) (hshare := fun c => (dats m 0 c).share_full fun _ => rfl)
    (howed := fun _ _ => rfl) (V := V m) (hmain := hmain m Variants.none) (hA := fun _ _ => rfl) (hΦ := fun _ _ => rfl) (hQ' := fun _ h => h)

/-- The arguments end as launched and every semaphore at zero. -/
theorem quiescent (hidx : ∀ c t, (top (F := F) (iblk m c 7 t)).toInt < 2048) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ ⟨h, hs⟩ => ⟨fun c => ⟨((h c).1 0).trans (((dats m 0 c).arrAt_in 0 rfl _).trans (V_main_arg0 m c)),
      ((h c).2 main_arg1 (Pipeline.mem_restRefs_of main_arg1 (by decide) (by decide))).trans (V_main_arg1 m c),
      ((h c).1 2).trans (((dats m 0 c).arrAt_in 2 rfl _).trans (V_main_arg2 m c)),
      ((h c).1 3).trans (((dats m 0 c).arrAt_in 3 rfl _).trans (V_main_arg3 m c)),
      ((h c).1 4).trans (((dats m 0 c).arrAt_in 4 rfl _).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 7).trans (((dats m 0 c).arrAt_in 7 rfl _).trans (V_main_arg7 m c))⟩, hs⟩) (run_main m ρ hidx)
end Cert.Kernel.Hand
-- ==== Proof.Trips.lean ====
module

public import proofs.«01_k».proof.Proof.Gen.KernelIdeal.Skeleton
public import Idealize.ShloMosaic.Lib.Exec
public import Idealize.ShloMosaic.Lib.Tactic
public import Idealize.ShloMosaic.Lib.LoopRemainder

@[expose] public section

set_option maxRecDepth 8192
set_option maxHeartbeats 4000000

namespace Cert.KernelIdeal.Hand
open Cert.KernelIdeal Cert.KernelIdeal.Gen
open Idealize.ShloMosaic Idealize.ShloMosaic.TcCoe Idealize.ShloMosaic.Tactic

/-- The number of 256-row tiles the kernel visits when the greatest selected row is `v`, as it computes it. -/
abbrev tiles (v : BitVec 32) : ℕ := (k0_t1_loop v).trips

/-- The number of blocks for a position below 2048. -/
theorem tiles_nat : ∀ n : Fin 2048, tiles (BitVec.ofNat 32 n.val) = n.val / 256 + 1 := by decide +kernel

/-- A greatest row `v` with `0 ≤ v < 2048` gives `v / 256 + 1` tiles. -/
theorem tiles_of_nonneg (v : BitVec 32) (h : v.toInt < 2048) (h0 : 0 ≤ v.toInt) : tiles v = v.toInt.toNat / 256 + 1 := by
  have hb : v.toNat < 2048 := by
    have hc := BitVec.toInt_eq_toNat_cond v
    have := v.isLt
    split at hc <;> omega
  have hi : v.toInt = v.toNat := by
    have hc := BitVec.toInt_eq_toNat_cond v
    have := v.isLt
    split at hc <;> omega
  have := tiles_nat ⟨v.toNat, hb⟩
  rw [hi]
  simpa using this

/-- A negative greatest row gives no tile. -/
theorem tiles_of_neg (v : BitVec 32) (h0 : v.toInt < 0) : tiles v = 0 := by
  have e : (256#32 : BitVec 32).toInt = 256 := by decide
  have c1 : Scalar.cmpi .sgt v 0#32 = 0#1 := by
    have h : ¬ (0 < v.toInt) := by omega
    show BitVec.ofBool (decide ((0#32 : BitVec 32).toInt < v.toInt)) = 0#1
    rw [decide_eq_false (by rw [show (0#32 : BitVec 32).toInt = 0 from by decide]; exact h)]; rfl
  have c2 : Scalar.cmpi .slt v 0#32 = 1#1 := by
    simp [Scalar.cmpi, IntOp.cmpi, BitVec.slt, h0]
  have c3 : Scalar.cmpi .ne (Scalar.subi (Scalar.extui (Scalar.cmpi .sgt v 0#32)) (Scalar.extui (Scalar.cmpi .slt v 0#32)))
      (Scalar.subi (Scalar.extui (Scalar.cmpi .sgt 256#32 0#32)) (Scalar.extui (Scalar.cmpi .slt 256#32 0#32))) = 1#1 := by
    rw [c1, c2]; decide
  have htd : v.toInt.tdiv 256 = -((-v.toInt) / 256) := by
    rw [← Int.tdiv_eq_ediv_of_nonneg (by omega), Int.neg_tdiv, neg_neg]
  have htm : v.toInt.tmod 256 = v.toInt - 256 * v.toInt.tdiv 256 := by
    have := Int.mul_tdiv_add_tmod v.toInt 256
    omega
  have hd : Scalar.divsi v 256#32 = v.sdiv 256#32 := if_neg (IntOp.not_corner_of_pos (by decide))
  have hr : Scalar.remsi v 256#32 = v.srem 256#32 := if_neg (IntOp.not_corner_of_pos (by decide))
  have hdi : (v.sdiv 256#32).toInt = v.toInt.tdiv 256 := by
    rw [BitVec.toInt_sdiv_of_ne_or_ne _ _ (Or.inr (by decide)), e]
  have hri : (v.srem 256#32).toInt = v.toInt.tmod 256 := by rw [BitVec.toInt_srem, e]
  have key : (Scalar.addi (Scalar.select (Scalar.andi 1#1 (Scalar.cmpi .ne (v.srem 256#32) 0#32))
      (Scalar.subi (v.sdiv 256#32) 1#32) (v.sdiv 256#32)) 1#32).toInt ≤ 0 := by
    have hlo := BitVec.le_toInt v
    by_cases hz : v.srem 256#32 = 0#32
    · rw [hz]
      show (Scalar.addi (v.sdiv 256#32) 1#32).toInt ≤ 0
      have : v.toInt.tmod 256 = 0 := by rw [← hri, hz]; rfl
      show (v.sdiv 256#32 + 1#32).toInt ≤ 0
      rw [BitVec.toInt_add, hdi, show (1#32 : BitVec 32).toInt = 1 from by decide, Int.bmod_eq_of_le (by omega) (by omega)]
      omega
    · have hc : Scalar.andi 1#1 (Scalar.cmpi .ne (v.srem 256#32) 0#32) = 1#1 := by
        show 1#1 &&& BitVec.ofBool (v.srem 256#32 != 0#32) = 1#1
        rw [bne_iff_ne.mpr hz]; rfl
      rw [hc]
      show (v.sdiv 256#32 - 1#32 + 1#32).toInt ≤ 0
      rw [BitVec.sub_add_cancel, hdi]
      omega
  show (((Scalar.addi 0#32 (Scalar.muli (Scalar.divsi _ 1#32) 1#32)).toInt - (0#32 : BitVec 32).toInt + (1#32 : BitVec 32).toInt - 1)
    / (1#32 : BitVec 32).toInt).toNat = 0
  rw [Scalar.muli_divsi_one, c3, hd, hr]
  have e1 : (1#32 : BitVec 32).toInt = 1 := by decide
  have e0 : (0#32 : BitVec 32).toInt = 0 := by decide
  rw [e1, e0]
  have hs : ∀ x : BitVec 32, Scalar.addi 0#32 (Scalar.subi x 0#32) = x := fun x => by
    show 0#32 + (x - 0#32) = x
    simp
  rw [hs]
  omega

/-- At most eight tiles. -/
theorem tiles_le (v : BitVec 32) (h : v.toInt < 2048) : tiles v ≤ 8 := by
  rcases lt_or_ge v.toInt 0 with h0 | h0
  · rw [tiles_of_neg v h0]; omega
  · rw [tiles_of_nonneg v h h0]; omega

/-! ## The offsets in closed form -/

/-- The first position of block `k`. -/
theorem iv_mul256 : ∀ k, k < 8 → ((Scf.iv 0#32 1#32 k) * 256#32 : BitVec 32).toNat = 256 * k := by decide
/-- The loop counter reads as the trip's number. -/
theorem iv_one : ∀ k, k < 8 → (Scf.iv 0#32 1#32 k : BitVec 32).toNat = k := by decide
/-- The bias rows of block `k` are rows `2k` and `2k + 1`. -/
theorem iv_mul2 : ∀ k, k < 8 → ∀ r : Fin 2, ((Scf.iv 0#32 1#32 k) * 2#32 + BitVec.ofNat 32 r.val : BitVec 32).toNat = 2 * k + r.val := by decide

section Offsets
variable {v : BitVec 32} (h : v.toInt < 2048)
include h

/-- Where trip `k` finds the codes. -/
theorem off1_eq (k : Fin (k0_t1_loop v).trips) : k0_off1 v k = ![0, 256 * k.val, 0] := by
  obtain ⟨k, hk⟩ := k
  have hk8 : k < 8 := lt_of_lt_of_le hk (tiles_le v h)
  show ![0, ((Scf.iv 0#32 1#32 k) * 256#32 : BitVec 32).toNat, 0] = _
  rw [iv_mul256 k hk8]
/-- Where trip `k` finds the scales. -/
theorem off2_eq (k : Fin (k0_t1_loop v).trips) : k0_off2 v k = ![0, 0, 256 * k.val] := by
  obtain ⟨k, hk⟩ := k
  have hk8 : k < 8 := lt_of_lt_of_le hk (tiles_le v h)
  show ![0, 0, ((Scf.iv 0#32 1#32 k) * 256#32 : BitVec 32).toNat] = _
  rw [iv_mul256 k hk8]
/-- Where trip `k` finds the kept latents. -/
theorem off3_eq (k : Fin (k0_t1_loop v).trips) : k0_off3 v k = ![256 * k.val, 0] := by
  obtain ⟨k, hk⟩ := k
  have hk8 : k < 8 := lt_of_lt_of_le hk (tiles_le v h)
  show ![((Scf.iv 0#32 1#32 k) * 256#32 : BitVec 32).toNat, 0] = _
  rw [iv_mul256 k hk8]
/-- Where trip `k` finds the rope keys. -/
theorem off4_eq (k : Fin (k0_t1_loop v).trips) : k0_off4 v k = ![0, 0, 256 * k.val] := by
  obtain ⟨k, hk⟩ := k
  have hk8 : k < 8 := lt_of_lt_of_le hk (tiles_le v h)
  show ![0, 0, ((Scf.iv 0#32 1#32 k) * 256#32 : BitVec 32).toNat] = _
  rw [iv_mul256 k hk8]
/-- Where trip `k` finds the bias rows. -/
theorem off5_eq (k : Fin (k0_t1_loop v).trips) (r : Fin 2) : k0_off5 v k (BitVec.ofNat 32 r.val) = ![2 * k.val + r.val, 0, 0] := by
  obtain ⟨k, hk⟩ := k
  have hk8 : k < 8 := lt_of_lt_of_le hk (tiles_le v h)
  show ![((Scf.iv 0#32 1#32 k) * 2#32 + BitVec.ofNat 32 r.val : BitVec 32).toNat, 0, 0] = _
  rw [iv_mul2 k hk8]
/-- Where trip `k` finds the kept scores. -/
theorem off6_eq (k : Fin (k0_t1_loop v).trips) : k0_off6 v k = ![k.val, 0, 0] := by
  obtain ⟨k, hk⟩ := k
  have hk8 : k < 8 := lt_of_lt_of_le hk (tiles_le v h)
  show ![(Scf.iv 0#32 1#32 k : BitVec 32).toNat, 0, 0] = _
  rw [iv_one k hk8]
/-- Where trip `k` of the second pass finds the kept scores. -/
theorem off13_eq (k : Fin (k0_t3_loop v).trips) : k0_off13 v k = ![k.val, 0, 0] := by
  obtain ⟨k, hk⟩ := k
  have hk8 : k < 8 := lt_of_lt_of_le hk (tiles_le v h)
  show ![(Scf.iv 0#32 1#32 k : BitVec 32).toNat, 0, 0] = _
  rw [iv_one k hk8]
/-- Where trip `k` of the third pass finds the kept exponentials. -/
theorem off15_eq (k : Fin (k0_t5_loop v).trips) : k0_off15 v k = ![k.val, 0, 0] := by
  obtain ⟨k, hk⟩ := k
  have hk8 : k < 8 := lt_of_lt_of_le hk (tiles_le v h)
  show ![(Scf.iv 0#32 1#32 k : BitVec 32).toNat, 0, 0] = _
  rw [iv_one k hk8]
/-- Where trip `k` of the third pass finds the kept latents. -/
theorem off16_eq (k : Fin (k0_t5_loop v).trips) : k0_off16 v k = ![256 * k.val, 0] := by
  obtain ⟨k, hk⟩ := k
  have hk8 : k < 8 := lt_of_lt_of_le hk (tiles_le v h)
  show ![((Scf.iv 0#32 1#32 k) * 256#32 : BitVec 32).toNat, 0] = _
  rw [iv_mul256 k hk8]

/-- A word below 2048 satisfies every condition the body states of its greatest row: the loops are meaningful and every
    access lies inside its buffer. -/
theorem chk1_of_lt : k0_chk1 v := by
  have t8 := tiles_le v h
  have lt1 : ∀ k : Fin (k0_t1_loop v).trips, k.val < 8 := fun k => lt_of_lt_of_le k.isLt t8
  have lt3 : ∀ k : Fin (k0_t3_loop v).trips, k.val < 8 := fun k => lt_of_lt_of_le k.isLt t8
  have lt5 : ∀ k : Fin (k0_t5_loop v).trips, k.val < 8 := fun k => lt_of_lt_of_le k.isLt t8
  have ok : (k0_t1_loop v).OK := by
    have e1 : (1#32 : BitVec 32).toInt = 1 := by decide
    have e0 : (0#32 : BitVec 32).toInt = 0 := by decide
    refine ⟨by rw [show (k0_t1_loop v).st = 1#32 from rfl, e1]; decide, ?_⟩
    show (0#32 : BitVec 32).toInt + ((k0_t1_loop v).trips : ℤ) * (1#32 : BitVec 32).toInt < 2 ^ 31
    rw [e0, e1]
    have : ((k0_t1_loop v).trips : ℤ) ≤ 8 := by exact_mod_cast t8
    omega
  have hm : ∀ k, k < 8 → 256 ∣ (Scalar.muli (Scf.iv 0#32 1#32 k) 256#32).toNat := by decide
  unfold k0_chk1
  refine ⟨ok, fun k => hm k.val (lt1 k), fun k a => ?_, fun k a => ?_, fun k a => ?_, fun k hinb => ?_,
    fun k a => ?_, fun k r a => ?_, fun k a => ?_,
    Scf.rem_ok _ _, fun k => (Scf.rem_no_trip _ _ k).elim, fun k => (Scf.rem_no_trip _ _ k).elim, fun k => (Scf.rem_no_trip _ _ k).elim,
    fun k => (Scf.rem_no_trip _ _ k).elim, fun k => (Scf.rem_no_trip _ _ k).elim, fun k => (Scf.rem_no_trip _ _ k).elim,
    fun k => (Scf.rem_no_trip _ _ k).elim, fun k => (Scf.rem_no_trip _ _ k).elim,
    ok, fun k a => ?_,
    Scf.rem_ok _ _, fun k => (Scf.rem_no_trip _ _ k).elim,
    ok, fun k => hm k.val (lt5 k), fun k a => ?_, fun k a => ?_,
    Scf.rem_ok _ _, fun k => (Scf.rem_no_trip _ _ k).elim, fun k => (Scf.rem_no_trip _ _ k).elim, fun k => (Scf.rem_no_trip _ _ k).elim⟩
  · have := lt1 k
    rw [off1_eq h]; fin_cases a <;> simp <;> omega
  · have := lt1 k
    rw [off2_eq h]; fin_cases a <;> simp <;> omega
  · have := lt1 k
    rw [off3_eq h]; fin_cases a <;> simp <;> omega
  · have e := off3_eq h k
    refine Or.inr ⟨by decide, rfl, Or.inl ⟨?_, Dvd.intro 128 rfl⟩⟩
    show 2 ∣ k0_off3 v k 0
    rw [e]
    exact Dvd.intro (128 * k.val) (by show 2 * (128 * k.val) = 256 * k.val; omega)
  · have := lt1 k
    rw [off4_eq h]; fin_cases a <;> simp <;> omega
  · have := lt1 k
    rw [off5_eq h]; fin_cases a <;> simp <;> omega
  · have := lt1 k
    rw [off6_eq h]; fin_cases a <;> simp <;> omega
  · have := lt3 k
    rw [off13_eq h]; fin_cases a <;> simp <;> omega
  · have := lt5 k
    rw [off15_eq h]; fin_cases a <;> simp <;> omega
  · have := lt5 k
    rw [off16_eq h]; fin_cases a <;> simp <;> omega

end Offsets
end Cert.KernelIdeal.Hand
-- ==== Proof.Block.lean ====
module

public import proofs.«01_k».proof.Proof.Gen.KernelIdeal.Loops
public import proofs.«01_k».proof.Proof.Gen.KernelIdeal.Frame
public import proofs.«01_k».proof.Proof.Trips
public import Idealize.ShloMosaic.Lib.WritesUnit
public import Idealize.ShloMosaic.Lib.ValueIdxCore
public import Idealize.ShloMosaic.Lib.VecWindow
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open ValueIdx

variable {F : FTy → Type} [FloatOps F] [Named F]

local notation "𝕄" => MT nD τ sig Unit (Elt F) ℕ (UR sig nD τ) ℕ

/-- Tile `k` (256 positions) of the codes of one grid point. -/
def blk5 (A : Vec F S1x2048x512 .fp8e4m3) (k : ℕ) : Vec F S1x256x512 .fp8e4m3 := fun x =>
  A (ix3 (0 : Fin 1) (⟨(256 * k + (x 1).val) % 2048, Nat.mod_lt _ (by decide)⟩ : Fin 2048) (x 2 : Fin 512))
/-- Tile `k` of the transposed scales. -/
def blk6 (A : Vec F S1x4x2048 .f32) (k : ℕ) : Vec F S1x4x256 .f32 := fun x =>
  A (ix3 (0 : Fin 1) (x 1 : Fin 4) (⟨(256 * k + (x 2).val) % 2048, Nat.mod_lt _ (by decide)⟩ : Fin 2048))
/-- Tile `k` of the transposed rotary keys. -/
def blk7 (A : Vec F S1x64x2048 .bf16) (k : ℕ) : Vec F S1x64x256 .bf16 := fun x =>
  A (ix3 (0 : Fin 1) (x 1 : Fin 64) (⟨(256 * k + (x 2).val) % 2048, Nat.mod_lt _ (by decide)⟩ : Fin 2048))
/-- Row `h` (128 positions) of the bias. -/
def biasRow (B : Vec F S16x1x128 .f32) (h : ℕ) : Vec F S1x1x128 .f32 := fun x =>
  B (ix3 (⟨h % 16, Nat.mod_lt _ (by decide)⟩ : Fin 16) (0 : Fin 1) (x 2 : Fin 128))

/-- The eight input blocks one grid point reads. -/
structure Blocks (F : FTy → Type) where
  q : Vec F S1x1x128x512 .bf16
  qr : Vec F S1x1x64x128 .bf16
  kvn : Vec F S1x1x512 .bf16
  krn : Vec F S1x1x64 .bf16
  codes : Vec F S1x2048x512 .fp8e4m3
  scale : Vec F S1x4x2048 .f32
  krope : Vec F S1x64x2048 .bf16
  idx : Vec F S1x1x512 .i32

/-- The largest selected position. -/
def top (idx : Vec F S1x1x512 .i32) : BitVec 32 := extractAt ![0, 0, 0] (k0_pay34 (k0_pay27 idx)) inpos_S1x1x1_p0_0_0
/-- The bias: the scaled logarithm of how often each position is selected. -/
def bias (idx : Vec F S1x1x512 .i32) : Vec F S16x1x128 .f32 :=
  k0_pay33 (F := F) (k0_pay28 idx) (Scalar.select (Scalar.cmpi .eq 128#32 0#32) 1#32 128#32) (k0_pay29 idx) (k0_pay30 idx) (k0_pay31 idx) k0_pay32

namespace Blocks
variable (b : Blocks F)
/-- The score of the new position. -/
def s0 : FVec F S128x1 .f32 := k0_pay37 b.q b.qr b.kvn b.krn
def sLo (k : ℕ) : FVec F S128x256 .f32 := k0_pay21 (k0_pay35 b.q) (k0_pay36 b.qr) (blk5 b.codes k) (blk6 b.scale k) (blk7 b.krope k)
def sHi (k : ℕ) : FVec F S128x128 .f32 := k0_pay22 (k0_pay35 b.q) (k0_pay36 b.qr) (blk5 b.codes k) (blk6 b.scale k) (blk7 b.krope k)
/-- The biased scores of tile `k`. -/
def sc (k : ℕ) : FVec F S1x128x256 .f32 := k0_pay2 (b.sLo k) (b.sHi k) (biasRow (bias b.idx) (2 * k)) (biasRow (bias b.idx) (2 * k + 1))
/-- The dequantized rows of tile `k`. -/
def lat (k : ℕ) : FVec F S256x512 .bf16 := k0_pay20 (blk5 b.codes k) (blk6 b.scale k)
/-- The running maximum after `k` tiles. -/
def mx : ℕ → FVec F S128x1 .f32
  | 0 => b.s0
  | k + 1 => k0_pay3 (mx k) (b.sLo k) (b.sHi k) (biasRow (bias b.idx) (2 * k)) (biasRow (bias b.idx) (2 * k + 1))
/-- How many tiles the grid point reads. -/
def n : ℕ := tiles (top b.idx)
/-- The maximum over all tiles read. -/
def m : FVec F S128x1 .f32 := b.mx b.n
/-- The exponentials of tile `k`. -/
def e (k : ℕ) : FVec F S1x128x256 .f32 := k0_pay9 b.m (b.sc k)
/-- The running sum of exponentials after `k` tiles. -/
def l : ℕ → FVec F S128x1 .f32
  | 0 => k0_pay7 b.s0 b.m
  | k + 1 => k0_pay10 b.m (l k) (b.sc k)
/-- The running weighted sum of rows after `k` tiles. -/
def acc : ℕ → FVec F S128x512 .f32
  | 0 => k0_pay15 b.s0 b.m (b.l b.n) b.kvn
  | k + 1 => k0_pay16 (b.l b.n) (acc k) (b.e k) (b.lat k)
/-- What the grid point stores. -/
def out : FVec F S1x1x128x512 .bf16 := k0_pay18 (b.acc b.n)
end Blocks

/-- An element read from a tile is the buffer's element at the tile's offset plus the element's index. -/
theorem readAt_tile0 {s : Shape} {ty} (v : View sig .tc .vmem s ty) (f : v.ty.Contents (Elt F)) {off off' : Fin s.rank → ℕ} {size} (inb : ∀ a, off a + size a ≤ s.size a) (h : off = off')
    (x : ((Rect.unit off size inb).shape).Idx) (y : s.Idx) (hy : ∀ a, (y a).val = off' a + (x a).val) :
    v.readAt (Elt F) (Rect.unit off size inb).toLoadRect f x = v.read (Elt F) f y := by
  subst h
  rw [View.readAt_apply]
  congr 1
  funext a
  apply Fin.ext
  rw [hy a]
  show off a + 1 * (x a).val = _
  rw [Nat.one_mul]

end Cert.KernelIdeal.Hand
-- ==== Proof.Top.lean ====
module

public import proofs.«01_k».proof.Proof.Gen.KernelIdeal.Loops
public import proofs.«01_k».proof.Proof.Gen.KernelIdeal.Frame
public import proofs.«01_k».proof.Proof.Trips
public import proofs.«01_k».proof.Proof.Block
public import Idealize.ShloMosaic.Lib.Pipeline.Value
public import Idealize.ShloMosaic.PureOps.Reduce
public import proofs.«01_k».proof.Defs
public import proofs.«01_k».proof.Proof.Gen.Pre_in_range
public import Idealize.ShloMosaic.Lib.WritesUnit
public import Idealize.ShloMosaic.Lib.ValueIdxCore
public import Idealize.ShloMosaic.Lib.VecWindow
public import Idealize.ShloMosaic.Lib.Exec
public import Idealize.ShloMosaic.Lib.Tactic
public import Idealize.ShloMosaic.Lib.WritesUnit
public import Idealize.ShloMosaic.Lib.ValueIdxCore
public import Idealize.ShloMosaic.Lib.VecWindow
public import Idealize.ShloMosaic.Lib.Pipeline.Kit

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open ValueIdx

open ValueIdx

variable {F : FTy → Type} [FloatOps F] [Named F]

local notation "𝕄" => MT nD τ sig Unit (Elt F) ℕ (UR sig nD τ) ℕ

/-- The signed maximum of two words, read as an integer. -/
theorem toInt_maxsi (x y : BitVec 32) : (IntOp.maxsi x y).toInt = max x.toInt y.toInt := by
  unfold IntOp.maxsi
  by_cases hs : y.slt x = true
  · rw [if_pos hs]; rw [BitVec.slt_iff_toInt_lt] at hs; omega
  · rw [if_neg hs]; rw [BitVec.slt_iff_toInt_lt] at hs; omega

/-- A fold by the signed maximum lies below a bound exactly when its start and every word do. -/
theorem fold_maxsi_lt {ι : Type} [DecidableEq ι] (s : Finset ι) (f : ι → BitVec 32) (a : BitVec 32) (B : ℤ) :
    (s.fold IntOp.maxsi a f).toInt < B ↔ a.toInt < B ∧ ∀ i ∈ s, (f i).toInt < B := by
  induction s using Finset.induction_on with
  | empty => simp
  | insert i s hi ih =>
    rw [Finset.fold_insert hi, toInt_maxsi, max_lt_iff, ih]
    constructor
    · rintro ⟨h1, h2, h3⟩
      exact ⟨h2, fun j hj => (Finset.mem_insert.1 hj).elim (fun e => e ▸ h1) (h3 j)⟩
    · rintro ⟨h1, h2⟩
      exact ⟨h2 i (Finset.mem_insert_self _ _), h1, fun j hj => h2 j (Finset.mem_insert_of_mem hj)⟩

/-- The largest selected position lies below a bound exactly when every selected position does. -/
theorem top_lt_iff (idx : Vec F S1x1x512 .i32) (B : ℤ) (hB : -2147483648 < B) : (top idx).toInt < B ↔ ∀ x, (idx x : BitVec 32).toInt < B := by
  have key : ∀ j, multiReductionI .maxsi [1, 2] S1 (idx : IVec S1x1x512 32) 2147483648#32 reduces_S1x1x512_S1 rfl j
      = (Finset.univ.filter fun i => reduces_S1x1x512_S1.drop i = j).fold IntOp.maxsi 2147483648#32 idx :=
    multiReductionI_eq_fold .maxsi (idx : IVec S1x1x512 32) 2147483648#32 reduces_S1x1x512_S1 rfl
  have htop : ∃ j, top idx = (Finset.univ.filter fun i => reduces_S1x1x512_S1.drop i = j).fold IntOp.maxsi 2147483648#32 idx := by
    refine ⟨_, Eq.trans ?_ (key (Shape.reshapeEquiv shapeCasts_S1_S1x1x1 (fun a => ⟨(![0, 0, 0] : Fin 3 → ℕ) a, inpos_S1x1x1_p0_0_0 a⟩)))⟩
    unfold top k0_pay34 k0_pay27 extractAt
    dsimp only
    rw [shapeCast_shapeCast]
    rfl
  obtain ⟨j, hj⟩ := htop
  rw [hj, fold_maxsi_lt]
  constructor
  · rintro ⟨-, h⟩ x
    refine h x (Finset.mem_filter.2 ⟨Finset.mem_univ _, funext fun a => Fin.ext ?_⟩)
    have h1 := (reduces_S1x1x512_S1.drop x a).isLt
    have h2 := (j a).isLt
    have h3 : S1.size a = 1 := by fin_cases a; rfl
    omega
  · intro h
    exact ⟨by simpa using hB, fun i _ => h i⟩

/-- Under the precondition every selected position of every row is below 2048. -/
theorem idx_lt (m : (ℓ : Loc nD τ sig) → Buf (Elt Ideal) ℓ) (h : Cert.Pre_KernelIdeal m) (c : Dev nD) (y : S64x1x512.Idx) :
    (m ((c : Thread nD τ).loc main_arg7) y : BitVec 32).toInt < 2048 := by
  have ofBool_eq_one (p : Bool) : (BitVec.ofBool p = 1#1) ↔ p = true := by cases p <;> decide
  have e := congrFun (h c) y
  simp only [Pre_in_range.fn, cmpi, broadcastInDim, constantI, IntOp.cmpi, ofBool_eq_one, BitVec.slt, decide_eq_true_eq] at e
  have e' := of_decide_eq_true e
  rwa [show (2048#32 : BitVec 32).toInt = 2048 from by decide] at e'

/-- So is the largest selected position of every grid point. -/
theorem top_lt (m : (ℓ : Loc nD τ sig) → Buf (Elt Ideal) ℓ) (h : Cert.Pre_KernelIdeal m) (c : Dev nD) (t : Fin cfg0.N) :
    (top (F := Ideal) (iblk m c 7 t)).toInt < 2048 := by
  rw [top_lt_iff _ _ (by norm_num)]
  intro x
  unfold iblk
  rw [View.read_apply, cast_eq]
  have := idx_lt m h c
  rw [← V_main_arg7 m c] at this
  exact this _
end Cert.KernelIdeal.Hand
-- ==== Proof.Loop.lean ====
module

public import proofs.«01_k».proof.Proof.Gen.KernelIdeal.Loops
public import proofs.«01_k».proof.Proof.Gen.KernelIdeal.Frame
public import proofs.«01_k».proof.Proof.Trips
public import proofs.«01_k».proof.Proof.Block
public import Idealize.ShloMosaic.Lib.WritesUnit
public import Idealize.ShloMosaic.Lib.ValueIdxCore
public import Idealize.ShloMosaic.Lib.VecWindow
public import Idealize.ShloMosaic.Lib.Exec
public import Idealize.ShloMosaic.Lib.Tactic
public import Idealize.ShloMosaic.Lib.WritesUnit
public import Idealize.ShloMosaic.Lib.ValueIdxCore
public import Idealize.ShloMosaic.Lib.VecWindow
public import Idealize.ShloMosaic.Lib.Pipeline.Kit

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open ValueIdx

open ValueIdx

variable {F : FTy → Type} [FloatOps F] [Named F]

local notation "𝕄" => MT nD τ sig Unit (Elt F) ℕ (UR sig nD τ) ℕ

variable {v : BitVec 32} (h : v.toInt < 2048) (hw : k0_chk1 v)
include h

/-- The codes of one block, as read. -/
theorem rd5 (V : View sig .tc .vmem S1x2048x512 .fp8e4m3) (X : V.ty.Contents (Elt F)) (k : Fin (k0_t1_loop v).trips) :
    V.readAt (Elt F) (Rect.unit (s := S1x2048x512) (k0_off1 v k) S1x256x512.size (k0_off1_inb v hw k)).toLoadRect X = blk5 (V.read (Elt F) X) k.val := by
  funext x
  have hk : k.val < 8 := lt_of_lt_of_le k.isLt (tiles_le v h)
  have h0 : (x 0).val < 1 := (x 0).isLt
  have h1 : (x 1).val < 256 := (x 1).isLt
  refine readAt_tile0 V X _ (off1_eq h k) x _ (Fin.forall_fin_succ.2 ⟨?_, Fin.forall_fin_succ.2 ⟨?_, Fin.forall_fin_succ.2 ⟨?_, fun a => a.elim0⟩⟩⟩)
  · show 0 = 0 + (x 0).val; omega
  · show (256 * k.val + (x 1).val) % 2048 = 256 * k.val + (x 1).val; omega
  · show (x 2).val = 0 + (x 2).val; omega

/-- The scales of one block, as read. -/
theorem rd6 (V : View sig .tc .vmem S1x4x2048 .f32) (X : V.ty.Contents (Elt F)) (k : Fin (k0_t1_loop v).trips) :
    V.readAt (Elt F) (Rect.unit (s := S1x4x2048) (k0_off2 v k) S1x4x256.size (k0_off2_inb v hw k)).toLoadRect X = blk6 (V.read (Elt F) X) k.val := by
  funext x
  have hk : k.val < 8 := lt_of_lt_of_le k.isLt (tiles_le v h)
  have h0 : (x 0).val < 1 := (x 0).isLt
  have h1 : (x 2).val < 256 := (x 2).isLt
  refine readAt_tile0 V X _ (off2_eq h k) x _ (Fin.forall_fin_succ.2 ⟨?_, Fin.forall_fin_succ.2 ⟨?_, Fin.forall_fin_succ.2 ⟨?_, fun a => a.elim0⟩⟩⟩)
  · show 0 = 0 + (x 0).val; omega
  · show (x 1).val = 0 + (x 1).val; omega
  · show (256 * k.val + (x 2).val) % 2048 = 256 * k.val + (x 2).val; omega

/-- The rope keys of one block, as read. -/
theorem rd7 (V : View sig .tc .vmem S1x64x2048 .bf16) (X : V.ty.Contents (Elt F)) (k : Fin (k0_t1_loop v).trips) :
    V.readAt (Elt F) (Rect.unit (s := S1x64x2048) (k0_off4 v k) S1x64x256.size (k0_off4_inb v hw k)).toLoadRect X = blk7 (V.read (Elt F) X) k.val := by
  funext x
  have hk : k.val < 8 := lt_of_lt_of_le k.isLt (tiles_le v h)
  have h0 : (x 0).val < 1 := (x 0).isLt
  have h1 : (x 2).val < 256 := (x 2).isLt
  refine readAt_tile0 V X _ (off4_eq h k) x _ (Fin.forall_fin_succ.2 ⟨?_, Fin.forall_fin_succ.2 ⟨?_, Fin.forall_fin_succ.2 ⟨?_, fun a => a.elim0⟩⟩⟩)
  · show 0 = 0 + (x 0).val; omega
  · show (x 1).val = 0 + (x 1).val; omega
  · show (256 * k.val + (x 2).val) % 2048 = 256 * k.val + (x 2).val; omega

/-- A row of the bias, as read. -/
theorem rd12 (V : View sig .tc .vmem S16x1x128 .f32) (X : V.ty.Contents (Elt F)) (k : Fin (k0_t1_loop v).trips) (r : Fin 2)
    (inb : ∀ a, k0_off5 v k (BitVec.ofNat 32 r.val) a + S1x1x128.size a ≤ S16x1x128.size a) :
    V.readAt (Elt F) (Rect.unit (s := S16x1x128) (k0_off5 v k (BitVec.ofNat 32 r.val)) S1x1x128.size inb).toLoadRect X = biasRow (V.read (Elt F) X) (2 * k.val + r.val) := by
  funext x
  have hk : k.val < 8 := lt_of_lt_of_le k.isLt (tiles_le v h)
  have h0 : (x 0).val < 1 := (x 0).isLt
  have h1 : (x 1).val < 1 := (x 1).isLt
  refine readAt_tile0 V X _ (off5_eq h k r) x _ (Fin.forall_fin_succ.2 ⟨?_, Fin.forall_fin_succ.2 ⟨?_, Fin.forall_fin_succ.2 ⟨?_, fun a => a.elim0⟩⟩⟩)
  · show (2 * k.val + r.val) % 16 = 2 * k.val + r.val + (x 0).val; omega
  · show 0 = 0 + (x 1).val; omega
  · show (x 2).val = 0 + (x 2).val; omega

/-- The scores of one block, as read by the second pass. -/
theorem rd10 (V : View sig .tc .vmem S8x128x256 .f32) (X : V.ty.Contents (Elt F)) (k : Fin (k0_t3_loop v).trips) (hk : k.val < 8) (x : S1x128x256.Idx) :
    V.readAt (Elt F) (Rect.unit (s := S8x128x256) (k0_off13 v k) S1x128x256.size (k0_off13_inb v hw k)).toLoadRect X x
      = V.read (Elt F) X (ix3 (⟨k.val, hk⟩ : Fin 8) (x 1 : Fin 128) (x 2 : Fin 256)) := by
  have h0 : (x 0).val < 1 := (x 0).isLt
  refine readAt_tile0 V X _ (off13_eq h k) x _ (Fin.forall_fin_succ.2 ⟨?_, Fin.forall_fin_succ.2 ⟨?_, Fin.forall_fin_succ.2 ⟨?_, fun a => a.elim0⟩⟩⟩)
  · show k.val = k.val + (x 0).val; omega
  · show (x 1).val = 0 + (x 1).val; omega
  · show (x 2).val = 0 + (x 2).val; omega

/-- The exponentials of one block, as read by the third pass. -/
theorem rd10' (V : View sig .tc .vmem S8x128x256 .f32) (X : V.ty.Contents (Elt F)) (k : Fin (k0_t5_loop v).trips) (hk : k.val < 8) (x : S1x128x256.Idx) :
    V.readAt (Elt F) (Rect.unit (s := S8x128x256) (k0_off15 v k) S1x128x256.size (k0_off15_inb v hw k)).toLoadRect X x
      = V.read (Elt F) X (ix3 (⟨k.val, hk⟩ : Fin 8) (x 1 : Fin 128) (x 2 : Fin 256)) := by
  have h0 : (x 0).val < 1 := (x 0).isLt
  refine readAt_tile0 V X _ (off15_eq h k) x _ (Fin.forall_fin_succ.2 ⟨?_, Fin.forall_fin_succ.2 ⟨?_, Fin.forall_fin_succ.2 ⟨?_, fun a => a.elim0⟩⟩⟩)
  · show k.val = k.val + (x 0).val; omega
  · show (x 1).val = 0 + (x 1).val; omega
  · show (x 2).val = 0 + (x 2).val; omega

/-- The latents of one block, as read. -/
theorem rd11 (V : View sig .tc .vmem S2048x512 .bf16) (X : V.ty.Contents (Elt F)) (k : Fin (k0_t5_loop v).trips) (x : S256x512.Idx) (i : Fin 2048)
    (hi : i.val = 256 * k.val + (x 0).val) :
    V.readAt (Elt F) (Rect.unit (s := S2048x512) (k0_off16 v k) S256x512.size (k0_off16_inb v hw k)).toLoadRect X x
      = V.read (Elt F) X (ix2 i (x 1 : Fin 512)) := by
  refine readAt_tile0 V X _ (off16_eq h k) x _ (Fin.forall_fin_succ.2 ⟨?_, Fin.forall_fin_succ.2 ⟨?_, fun a => a.elim0⟩⟩)
  · exact hi
  · show (x 1).val = 0 + (x 1).val; omega

variable (𝒱 : Variants) (c : Dev nD) (bd : Option 𝒱.V) (i : grid0.Coords)
    (arg1 : Memref sig .tc .vmem S1x1x128x512 .bf16) (harg1 : arg1.IsWhole) (arg2 : Memref sig .tc .vmem S1x1x64x128 .bf16) (harg2 : arg2.IsWhole)
    (arg3 : Memref sig .tc .vmem S1x1x512 .bf16) (harg3 : arg3.IsWhole) (arg4 : Memref sig .tc .vmem S1x1x64 .bf16) (harg4 : arg4.IsWhole)
    (arg5 : Memref sig .tc .vmem S1x2048x512 .fp8e4m3) (harg5 : arg5.IsWhole) (arg6 : Memref sig .tc .vmem S1x4x2048 .f32) (harg6 : arg6.IsWhole)
    (arg7 : Memref sig .tc .vmem S1x64x2048 .bf16) (harg7 : arg7.IsWhole) (arg8 : Memref sig .tc .vmem S1x1x512 .i32) (harg8 : arg8.IsWhole)
    (arg9 : Memref sig .tc .vmem S1x1x128x512 .bf16) (harg9 : arg9.IsWhole) (arg10 : Memref sig .tc .vmem S8x128x256 .f32) (harg10 : arg10.IsWhole)
    (arg11 : Memref sig .tc .vmem S2048x512 .bf16) (harg11 : arg11.IsWhole) (arg12 : Memref sig .tc .vmem S16x1x128 .f32) (harg12 : arg12.IsWhole)

variable (b : Blocks F) (X5 : BufTy.Contents (Elt F) arg5.view.ty) (X6 : BufTy.Contents (Elt F) arg6.view.ty)
    (X7 : BufTy.Contents (Elt F) arg7.view.ty) (X12 : BufTy.Contents (Elt F) arg12.view.ty)
    (e5 : arg5.view.read (Elt F) X5 = b.codes) (e6 : arg6.view.read (Elt F) X6 = b.scale) (e7 : arg7.view.read (Elt F) X7 = b.krope)
    (e12 : arg12.view.read (Elt F) X12 = bias b.idx)

omit h in
include e5 e6 e7 e12 in
/-- The maximum one trip of the first pass carries on. -/
theorem t1R (h : v.toInt < 2048) (k : Fin (k0_t1_loop v).trips) (acc : FVec F S128x1 .f32) :
    tripR_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 k acc = k0_pay3 acc (b.sLo k) (b.sHi k) (biasRow (bias b.idx) (2 * k)) (biasRow (bias b.idx) (2 * k + 1)) := by
  unfold tripR_k0_t1 trip_k0_t1
  dsimp only
  have hr : trip_k0_t1.sl.r arg5 arg6 arg7 v hw (k0_pay35 b.q) (k0_pay36 b.qr) X5 X6 X7 k = b.sLo k := by
    unfold Blocks.sLo; rw [← e5, ← e6, ← e7, ← rd5 h hw, ← rd6 h hw, ← rd7 h hw]; rfl
  have hr1 : trip_k0_t1.sl.r_1 arg5 arg6 arg7 v hw (k0_pay35 b.q) (k0_pay36 b.qr) X5 X6 X7 k = b.sHi k := by
    unfold Blocks.sHi; rw [← e5, ← e6, ← e7, ← rd5 h hw, ← rd6 h hw, ← rd7 h hw]; rfl
  rw [hr, hr1, ← e12]
  exact congrArg₂ _ (rd12 h _ _ k 0 _) (rd12 h _ _ k 1 _)

omit h in
include e5 e6 e7 e12 in
/-- What one trip of the first pass stores: the scores and the latents of its block. -/
theorem t1L (h : v.toInt < 2048) (k : Fin (k0_t1_loop v).trips) (acc : FVec F S128x1 .f32) :
    tripL_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 k acc = ([⟨Rect.unit (s := S8x128x256) (k0_off6 v k) S1x128x256.size (k0_off6_inb v hw k), b.sc k⟩],
      [⟨Rect.unit (s := S2048x512) (k0_off3 v k) S256x512.size (k0_off3_inb v hw k), b.lat k⟩]) := by
  unfold tripL_k0_t1 trip_k0_t1
  dsimp only
  have hr : trip_k0_t1.sl.r arg5 arg6 arg7 v hw (k0_pay35 b.q) (k0_pay36 b.qr) X5 X6 X7 k = b.sLo k := by
    unfold Blocks.sLo; rw [← e5, ← e6, ← e7, ← rd5 h hw, ← rd6 h hw, ← rd7 h hw]; rfl
  have hr1 : trip_k0_t1.sl.r_1 arg5 arg6 arg7 v hw (k0_pay35 b.q) (k0_pay36 b.qr) X5 X6 X7 k = b.sHi k := by
    unfold Blocks.sHi; rw [← e5, ← e6, ← e7, ← rd5 h hw, ← rd6 h hw, ← rd7 h hw]; rfl
  rw [hr, hr1]
  unfold Blocks.sc Blocks.lat
  rw [← e5, ← e6, ← e12, ← rd5 h hw, ← rd6 h hw]
  have hb0 := rd12 h arg12.view X12 k 0 (k0_off5_inb v hw k 0)
  have hb1 := rd12 h arg12.view X12 k 1 (k0_off5_inb v hw k 1)
  rw [show biasRow (arg12.view.read (Elt F) X12) (2 * k.val) = _ from hb0.symm, show biasRow (arg12.view.read (Elt F) X12) (2 * k.val + 1) = _ from hb1.symm]
  rfl

omit h in
include e5 e6 e7 e12 in
/-- The first loop: the running maximum, and the tiles of scores and rows it leaves in the scratches. -/
theorem t1_state (h : v.toInt < 2048) (G10 : BufTy.Contents (Elt F) arg10.view.ty) (G11 : BufTy.Contents (Elt F) arg11.view.ty) (k : ℕ) (hk : k ≤ tiles v) :
    (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 k).1 = b.mx k
    ∧ (∀ j (hj : j < 8), j < k → ∀ x : S1x128x256.Idx, arg10.view.read (Elt F) (arg10.view.writes (Elt F) G10 (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 k).2.1) (ix3 (⟨j, hj⟩ : Fin 8) (x 1 : Fin 128) (x 2 : Fin 256)) = b.sc j x)
    ∧ (∀ j, j < k → ∀ (x : S256x512.Idx) (i' : Fin 2048), i'.val = 256 * j + (x 0).val → arg11.view.read (Elt F) (arg11.view.writes (Elt F) G11 (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 k).2.2) (ix2 i' (x 1 : Fin 512)) = b.lat j x) := by
  induction k with
  | zero => exact ⟨st_k0_t1_zero .., fun j _ hj => absurd hj (Nat.not_lt_zero _), fun j hj => absurd hj (Nat.not_lt_zero _)⟩
  | succ k ih =>
    obtain ⟨ih1, ih2, ih3⟩ := ih (Nat.le_of_succ_le hk)
    have hk8 : k < 8 := lt_of_lt_of_le hk (tiles_le v h)
    have es := st_k0_t1_succ 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 ⟨k, hk⟩
    rw [show ((⟨k, hk⟩ : Fin (k0_t1_loop v).trips).val + 1) = k + 1 from rfl, show (⟨k, hk⟩ : Fin (k0_t1_loop v).trips).val = k from rfl,
      t1R (F := F) 𝒱 c bd i arg1 harg1 arg2 harg2 arg3 harg3 arg4 harg4 arg5 harg5 arg6 harg6 arg7 harg7 arg8 harg8 arg9 harg9 arg10 harg10 arg11 harg11 arg12 harg12 b X5 X6 X7 X12 e5 e6 e7 e12 (h := h) (hw := hw), t1L (F := F) 𝒱 c bd i arg1 harg1 arg2 harg2 arg3 harg3 arg4 harg4 arg5 harg5 arg6 harg6 arg7 harg7 arg8 harg8 arg9 harg9 arg10 harg10 arg11 harg11 arg12 harg12 b X5 X6 X7 X12 e5 e6 e7 e12 (h := h) (hw := hw), ih1] at es
    rw [es]
    refine ⟨rfl, fun j hj hjk x => ?_, fun j hjk x i' hi' => ?_⟩
    · have h0 : (x 0).val < 1 := (x 0).isLt
      rcases Nat.lt_or_ge j k with hlt | hge
      · refine (View.read_writes_cons_unit_of_not_mem arg10.view G10 _ _ _ _ (off6_eq h ⟨k, hk⟩) 0 (Or.inl hlt)).trans (ih2 j hj hlt x)
      · obtain rfl : j = k := by omega
        refine View.read_writes_cons_unit_of_mem arg10.view G10 _ _ _ _ x (off6_eq h ⟨j, hk⟩) (Fin.forall_fin_succ.2 ⟨?_, Fin.forall_fin_succ.2 ⟨?_, Fin.forall_fin_succ.2 ⟨?_, fun a => a.elim0⟩⟩⟩)
        · show j = j + (x 0).val; omega
        · show (x 1).val = 0 + (x 1).val; omega
        · show (x 2).val = 0 + (x 2).val; omega
    · have h0 : (x 0).val < 256 := (x 0).isLt
      rcases Nat.lt_or_ge j k with hlt | hge
      · refine (View.read_writes_cons_unit_of_not_mem arg11.view G11 _ _ _ _ (off3_eq h ⟨k, hk⟩) 0 (Or.inl ?_)).trans (ih3 j hlt x i' hi')
        show i'.val < 256 * k; omega
      · obtain rfl : j = k := by omega
        refine View.read_writes_cons_unit_of_mem arg11.view G11 _ _ _ _ x (off3_eq h ⟨j, hk⟩) (Fin.forall_fin_succ.2 ⟨?_, Fin.forall_fin_succ.2 ⟨?_, fun a => a.elim0⟩⟩)
        · exact hi'
        · show (x 1).val = 0 + (x 1).val; omega

omit h in
/-- The second loop: the running sum, and each tile of scores replaced by its exponentials. -/
theorem t3_state (h : v.toInt < 2048) (G : BufTy.Contents (Elt F) arg10.view.ty)
    (hG : ∀ j (hj : j < 8), j < tiles v → ∀ x : S1x128x256.Idx, arg10.view.read (Elt F) G (ix3 (⟨j, hj⟩ : Fin 8) (x 1 : Fin 128) (x 2 : Fin 256)) = b.sc j x) (k : ℕ) (hk : k ≤ tiles v) :
    (st_k0_t3 𝒱 c bd i arg1 harg1 arg2 harg2 arg3 harg3 arg4 harg4 arg5 harg5 arg6 harg6 arg7 harg7 arg8 harg8 arg9 harg9 arg10 harg10 arg11 harg11 arg12 harg12 v hw b.m G (b.l 0) k).1 = b.l k
    ∧ (∀ j (hj : j < 8), j < k → ∀ x : S1x128x256.Idx, arg10.view.read (Elt F) (arg10.view.writes (Elt F) G (st_k0_t3 𝒱 c bd i arg1 harg1 arg2 harg2 arg3 harg3 arg4 harg4 arg5 harg5 arg6 harg6 arg7 harg7 arg8 harg8 arg9 harg9 arg10 harg10 arg11 harg11 arg12 harg12 v hw b.m G (b.l 0) k).2) (ix3 (⟨j, hj⟩ : Fin 8) (x 1 : Fin 128) (x 2 : Fin 256)) = b.e j x)
    ∧ (∀ j (hj : j < 8), k ≤ j → j < tiles v → ∀ x : S1x128x256.Idx, arg10.view.read (Elt F) (arg10.view.writes (Elt F) G (st_k0_t3 𝒱 c bd i arg1 harg1 arg2 harg2 arg3 harg3 arg4 harg4 arg5 harg5 arg6 harg6 arg7 harg7 arg8 harg8 arg9 harg9 arg10 harg10 arg11 harg11 arg12 harg12 v hw b.m G (b.l 0) k).2) (ix3 (⟨j, hj⟩ : Fin 8) (x 1 : Fin 128) (x 2 : Fin 256)) = b.sc j x) := by
  induction k with
  | zero => exact ⟨st_k0_t3_zero .., fun j _ hj => absurd hj (Nat.not_lt_zero _), fun j hj _ => hG j hj⟩
  | succ k ih =>
    obtain ⟨ih1, ih2, ih3⟩ := ih (Nat.le_of_succ_le hk)
    have hk8 : k < 8 := lt_of_lt_of_le hk (tiles_le v h)
    have es := st_k0_t3_succ 𝒱 c bd i arg1 harg1 arg2 harg2 arg3 harg3 arg4 harg4 arg5 harg5 arg6 harg6 arg7 harg7 arg8 harg8 arg9 harg9 arg10 harg10 arg11 harg11 arg12 harg12 v hw b.m G (b.l 0) ⟨k, hk⟩
    have hrd : View.readAt (Elt F) arg10.view (Rect.unit (s := S8x128x256) (k0_off13 v ⟨k, hk⟩) S1x128x256.size (k0_off13_inb v hw ⟨k, hk⟩)).toLoadRect (arg10.view.writes (Elt F) G (st_k0_t3 𝒱 c bd i arg1 harg1 arg2 harg2 arg3 harg3 arg4 harg4 arg5 harg5 arg6 harg6 arg7 harg7 arg8 harg8 arg9 harg9 arg10 harg10 arg11 harg11 arg12 harg12 v hw b.m G (b.l 0) k).2) = b.sc k :=
      funext fun x => (rd10 h hw arg10.view _ ⟨k, hk⟩ hk8 x).trans (ih3 k hk8 le_rfl hk x)
    have eR : tripR_k0_t3 𝒱 c bd i arg1 harg1 arg2 harg2 arg3 harg3 arg4 harg4 arg5 harg5 arg6 harg6 arg7 harg7 arg8 harg8 arg9 harg9 arg10 harg10 arg11 harg11 arg12 harg12 v hw b.m ⟨k, hk⟩ (b.l k) (arg10.view.writes (Elt F) G (st_k0_t3 𝒱 c bd i arg1 harg1 arg2 harg2 arg3 harg3 arg4 harg4 arg5 harg5 arg6 harg6 arg7 harg7 arg8 harg8 arg9 harg9 arg10 harg10 arg11 harg11 arg12 harg12 v hw b.m G (b.l 0) k).2) = b.l (k + 1) := by
      unfold tripR_k0_t3 trip_k0_t3
      exact congrArg (k0_pay10 b.m (b.l k)) hrd
    have eL : tripL_k0_t3 𝒱 c bd i arg1 harg1 arg2 harg2 arg3 harg3 arg4 harg4 arg5 harg5 arg6 harg6 arg7 harg7 arg8 harg8 arg9 harg9 arg10 harg10 arg11 harg11 arg12 harg12 v hw b.m ⟨k, hk⟩ (b.l k) (arg10.view.writes (Elt F) G (st_k0_t3 𝒱 c bd i arg1 harg1 arg2 harg2 arg3 harg3 arg4 harg4 arg5 harg5 arg6 harg6 arg7 harg7 arg8 harg8 arg9 harg9 arg10 harg10 arg11 harg11 arg12 harg12 v hw b.m G (b.l 0) k).2)
        = [⟨Rect.unit (s := S8x128x256) (k0_off13 v ⟨k, hk⟩) S1x128x256.size (k0_off13_inb v hw ⟨k, hk⟩), b.e k⟩] := by
      unfold tripL_k0_t3 trip_k0_t3 Blocks.e
      rw [← hrd]
    rw [show ((⟨k, hk⟩ : Fin (k0_t3_loop v).trips).val + 1) = k + 1 from rfl, show (⟨k, hk⟩ : Fin (k0_t3_loop v).trips).val = k from rfl, ih1, eR, eL] at es
    rw [es]
    refine ⟨rfl, fun j hj hjk x => ?_, fun j hj hjk hjn x => ?_⟩
    · have h0 : (x 0).val < 1 := (x 0).isLt
      rcases Nat.lt_or_ge j k with hlt | hge
      · exact (View.read_writes_cons_unit_of_not_mem arg10.view G _ _ _ _ (off13_eq h ⟨k, hk⟩) 0 (Or.inl hlt)).trans (ih2 j hj hlt x)
      · obtain rfl : j = k := by omega
        refine View.read_writes_cons_unit_of_mem arg10.view G _ _ _ _ x (off13_eq h ⟨j, hk⟩) (Fin.forall_fin_succ.2 ⟨?_, Fin.forall_fin_succ.2 ⟨?_, Fin.forall_fin_succ.2 ⟨?_, fun a => a.elim0⟩⟩⟩)
        · show j = j + (x 0).val; omega
        · show (x 1).val = 0 + (x 1).val; omega
        · show (x 2).val = 0 + (x 2).val; omega
    · exact (View.read_writes_cons_unit_of_not_mem arg10.view G _ _ _ _ (off13_eq h ⟨k, hk⟩) 0 (Or.inr hjk)).trans (ih3 j hj (Nat.le_of_succ_le hjk) hjn x)

omit h in
/-- The third loop: the running weighted sum of rows. -/
theorem t5_state (h : v.toInt < 2048) (X10 : BufTy.Contents (Elt F) arg10.view.ty) (X11 : BufTy.Contents (Elt F) arg11.view.ty)
    (h10 : ∀ j (hj : j < 8), j < tiles v → ∀ x : S1x128x256.Idx, arg10.view.read (Elt F) X10 (ix3 (⟨j, hj⟩ : Fin 8) (x 1 : Fin 128) (x 2 : Fin 256)) = b.e j x)
    (h11 : ∀ j, j < tiles v → ∀ (x : S256x512.Idx) (i' : Fin 2048), i'.val = 256 * j + (x 0).val → arg11.view.read (Elt F) X11 (ix2 i' (x 1 : Fin 512)) = b.lat j x)
    (k : ℕ) (hk : k ≤ tiles v) : st_k0_t5 𝒱 c bd i arg1 harg1 arg2 harg2 arg3 harg3 arg4 harg4 arg5 harg5 arg6 harg6 arg7 harg7 arg8 harg8 arg9 harg9 arg10 harg10 arg11 harg11 arg12 harg12 v hw (b.l b.n) X10 X11 (b.acc 0) k = b.acc k := by
  induction k with
  | zero => rfl
  | succ k ih =>
    have ih := ih (Nat.le_of_succ_le hk)
    have hk8 : k < 8 := lt_of_lt_of_le hk (tiles_le v h)
    have es := st_k0_t5_succ 𝒱 c bd i arg1 harg1 arg2 harg2 arg3 harg3 arg4 harg4 arg5 harg5 arg6 harg6 arg7 harg7 arg8 harg8 arg9 harg9 arg10 harg10 arg11 harg11 arg12 harg12 v hw (b.l b.n) X10 X11 (b.acc 0) ⟨k, hk⟩
    have hrd : View.readAt (Elt F) arg10.view (Rect.unit (s := S8x128x256) (k0_off15 v ⟨k, hk⟩) S1x128x256.size (k0_off15_inb v hw ⟨k, hk⟩)).toLoadRect X10 = b.e k :=
      funext fun x => (rd10' h hw arg10.view _ ⟨k, hk⟩ hk8 x).trans (h10 k hk8 hk x)
    have hrd' : View.readAt (Elt F) arg11.view (Rect.unit (s := S2048x512) (k0_off16 v ⟨k, hk⟩) S256x512.size (k0_off16_inb v hw ⟨k, hk⟩)).toLoadRect X11 = b.lat k :=
      funext fun x => by
        have h0 : (x 0).val < 256 := (x 0).isLt
        exact (rd11 h hw arg11.view X11 ⟨k, hk⟩ x ⟨256 * k + (x 0).val, by omega⟩ rfl).trans (h11 k hk x _ rfl)
    rw [show ((⟨k, hk⟩ : Fin (k0_t5_loop v).trips).val + 1) = k + 1 from rfl, show (⟨k, hk⟩ : Fin (k0_t5_loop v).trips).val = k from rfl, ih] at es
    rw [es]
    unfold tripR_k0_t5 trip_k0_t5
    exact congrArg₂ (k0_pay16 (b.l b.n) (b.acc k)) hrd hrd'

omit h in
include e5 e6 e7 e12 in
/-- The three loops one after the other end at the grid point's weighted sum. -/
theorem loops_value (h : v.toInt < 2048) (hv : v = top b.idx) (G10 : BufTy.Contents (Elt F) arg10.view.ty) (G11 : BufTy.Contents (Elt F) arg11.view.ty) :
    st_k0_t5 𝒱 c bd i arg1 harg1 arg2 harg2 arg3 harg3 arg4 harg4 arg5 harg5 arg6 harg6 arg7 harg7 arg8 harg8 arg9 harg9 arg10 harg10 arg11 harg11 arg12 harg12 v hw (st_k0_t3 𝒱 c bd i arg1 harg1 arg2 harg2 arg3 harg3 arg4 harg4 arg5 harg5 arg6 harg6 arg7 harg7 arg8 harg8 arg9 harg9 arg10 harg10 arg11 harg11 arg12 harg12 v hw (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 (tiles v)).1 (arg10.view.writes (Elt F) G10 (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 (tiles v)).2.1) (k0_pay7 b.s0 (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 (tiles v)).1) (tiles v)).1 (arg10.view.writes (Elt F) G10 ((st_k0_t3 𝒱 c bd i arg1 harg1 arg2 harg2 arg3 harg3 arg4 harg4 arg5 harg5 arg6 harg6 arg7 harg7 arg8 harg8 arg9 harg9 arg10 harg10 arg11 harg11 arg12 harg12 v hw (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 (tiles v)).1 (arg10.view.writes (Elt F) G10 (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 (tiles v)).2.1) (k0_pay7 b.s0 (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 (tiles v)).1) (tiles v)).2 ++ (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 (tiles v)).2.1)) (arg11.view.writes (Elt F) G11 (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 (tiles v)).2.2)
      (k0_pay15 b.s0 (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 (tiles v)).1 (st_k0_t3 𝒱 c bd i arg1 harg1 arg2 harg2 arg3 harg3 arg4 harg4 arg5 harg5 arg6 harg6 arg7 harg7 arg8 harg8 arg9 harg9 arg10 harg10 arg11 harg11 arg12 harg12 v hw (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 (tiles v)).1 (arg10.view.writes (Elt F) G10 (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 (tiles v)).2.1) (k0_pay7 b.s0 (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 (tiles v)).1) (tiles v)).1 b.kvn) (tiles v) = b.acc b.n := by
  have hn : tiles v = b.n := by rw [hv]; rfl
  obtain ⟨p1, p2, p3⟩ := t1_state (F := F) 𝒱 c bd i arg1 harg1 arg2 harg2 arg3 harg3 arg4 harg4 arg5 harg5 arg6 harg6 arg7 harg7 arg8 harg8 arg9 harg9 arg10 harg10 arg11 harg11 arg12 harg12 b X5 X6 X7 X12 e5 e6 e7 e12 (h := h) (hw := hw) G10 G11 (tiles v) le_rfl
  have hm : (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 (tiles v)).1 = b.m := by rw [p1, hn]; rfl
  obtain ⟨q1, q2, -⟩ := t3_state (F := F) 𝒱 c bd i arg1 harg1 arg2 harg2 arg3 harg3 arg4 harg4 arg5 harg5 arg6 harg6 arg7 harg7 arg8 harg8 arg9 harg9 arg10 harg10 arg11 harg11 arg12 harg12 b (h := h) (hw := hw) (arg10.view.writes (Elt F) G10 (st_k0_t1 𝒱 c bd i arg1 harg1 arg2 harg2 arg3 harg3 arg4 harg4 arg5 harg5 arg6 harg6 arg7 harg7 arg8 harg8 arg9 harg9 arg10 harg10 arg11 harg11 arg12 harg12 v hw (k0_pay35 b.q) (k0_pay36 b.qr) 0#32 1#32 X5 X6 X7 X12 b.s0 (tiles v)).2.1) p2 (tiles v) le_rfl
  rw [← View.writes_append] at q2
  have hl : k0_pay7 b.s0 b.m = b.l 0 := rfl
  rw [hm, hl, q1]
  have := t5_state (F := F) 𝒱 c bd i arg1 harg1 arg2 harg2 arg3 harg3 arg4 harg4 arg5 harg5 arg6 harg6 arg7 harg7 arg8 harg8 arg9 harg9 arg10 harg10 arg11 harg11 arg12 harg12 b (h := h) (hw := hw) _ _ q2 p3 (tiles v) le_rfl
  rw [hn] at *
  exact this

end Cert.KernelIdeal.Hand
-- ==== Proof.Run.lean ====
module

public import proofs.«01_k».proof.Proof.Gen.KernelIdeal.Loops
public import proofs.«01_k».proof.Proof.Gen.KernelIdeal.Frame
public import proofs.«01_k».proof.Proof.Trips
public import proofs.«01_k».proof.Proof.Loop
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The blocks the body loads, from what its eight input references hold. -/
def blocksAt (arg1 : Memref sig .tc .vmem S1x1x128x512 .bf16) (arg2 : Memref sig .tc .vmem S1x1x64x128 .bf16) (arg3 : Memref sig .tc .vmem S1x1x512 .bf16) (arg4 : Memref sig .tc .vmem S1x1x64 .bf16) (arg5 : Memref sig .tc .vmem S1x2048x512 .fp8e4m3) (arg6 : Memref sig .tc .vmem S1x4x2048 .f32) (arg7 : Memref sig .tc .vmem S1x64x2048 .bf16) (arg8 : Memref sig .tc .vmem S1x1x512 .i32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) : Blocks F :=
  ⟨View.readAt (Elt F) arg1.view (Rect.unit (s := S1x1x128x512) ![0, 0, 0, 0] S1x1x128x512.size inb_S1x1x128x512_S1x1x128x512_0_0_0_0).toLoadRect X1,
    View.readAt (Elt F) arg2.view (Rect.unit (s := S1x1x64x128) ![0, 0, 0, 0] S1x1x64x128.size inb_S1x1x64x128_S1x1x64x128_0_0_0_0).toLoadRect X2,
    View.readAt (Elt F) arg3.view (Rect.unit (s := S1x1x512) ![0, 0, 0] S1x1x512.size inb_S1x1x512_S1x1x512_0_0_0).toLoadRect X3,
    View.readAt (Elt F) arg4.view (Rect.unit (s := S1x1x64) ![0, 0, 0] S1x1x64.size inb_S1x1x64_S1x1x64_0_0_0).toLoadRect X4,
    arg5.view.read (Elt F) X5,
    arg6.view.read (Elt F) X6,
    arg7.view.read (Elt F) X7,
    View.readAt (Elt F) arg8.view (Rect.unit (s := S1x1x512) ![0, 0, 0] S1x1x512.size inb_S1x1x512_S1x1x512_0_0_0).toLoadRect X8⟩

/-- One grid point: from the eight input blocks and any contents of the result block and the three scratches,
    the body runs, leaves the inputs as they are, and stores the point's result. -/
theorem run (𝒱 : Variants) (c : Dev nD) (bd : Option 𝒱.V) (E : Set ℕ) (i : grid0.Coords)
    (arg1 : Memref sig .tc .vmem S1x1x128x512 .bf16) (harg1 : arg1.IsWhole) (arg2 : Memref sig .tc .vmem S1x1x64x128 .bf16) (harg2 : arg2.IsWhole)
    (arg3 : Memref sig .tc .vmem S1x1x512 .bf16) (harg3 : arg3.IsWhole) (arg4 : Memref sig .tc .vmem S1x1x64 .bf16) (harg4 : arg4.IsWhole)
    (arg5 : Memref sig .tc .vmem S1x2048x512 .fp8e4m3) (harg5 : arg5.IsWhole) (arg6 : Memref sig .tc .vmem S1x4x2048 .f32) (harg6 : arg6.IsWhole)
    (arg7 : Memref sig .tc .vmem S1x64x2048 .bf16) (harg7 : arg7.IsWhole) (arg8 : Memref sig .tc .vmem S1x1x512 .i32) (harg8 : arg8.IsWhole)
    (arg9 : Memref sig .tc .vmem S1x1x128x512 .bf16) (harg9 : arg9.IsWhole) (arg10 : Memref sig .tc .vmem S8x128x256 .f32) (harg10 : arg10.IsWhole)
    (arg11 : Memref sig .tc .vmem S2048x512 .bf16) (harg11 : arg11.IsWhole) (arg12 : Memref sig .tc .vmem S16x1x128 .f32) (harg12 : arg12.IsWhole)
    (X1 : BufTy.Contents (Elt F) arg1.view.ty) (X2 : BufTy.Contents (Elt F) arg2.view.ty) (X3 : BufTy.Contents (Elt F) arg3.view.ty)
    (X4 : BufTy.Contents (Elt F) arg4.view.ty) (X5 : BufTy.Contents (Elt F) arg5.view.ty) (X6 : BufTy.Contents (Elt F) arg6.view.ty)
    (X7 : BufTy.Contents (Elt F) arg7.view.ty) (X8 : BufTy.Contents (Elt F) arg8.view.ty) (f9 : BufTy.Contents (Elt F) arg9.view.ty)
    (f10 : BufTy.Contents (Elt F) arg10.view.ty) (f11 : BufTy.Contents (Elt F) arg11.view.ty) (f12 : BufTy.Contents (Elt F) arg12.view.ty)
    (b : Blocks F) (hb : b = ⟨arg1.view.read (Elt F) X1, arg2.view.read (Elt F) X2, arg3.view.read (Elt F) X3, arg4.view.read (Elt F) X4, arg5.view.read (Elt F) X5, arg6.view.read (Elt F) X6, arg7.view.read (Elt F) X7, arg8.view.read (Elt F) X8⟩)
    (h : (top b.idx).toInt < 2048) :
    iprop((arg1.view.loc (c : Thread nD τ) ↦[arg1.view.set]{fullShare} X1) ∗ (arg2.view.loc (c : Thread nD τ) ↦[arg2.view.set]{fullShare} X2)
      ∗ (arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5) ∗ (arg6.view.loc (c : Thread nD τ) ↦[arg6.view.set]{fullShare} X6)
      ∗ (arg7.view.loc (c : Thread nD τ) ↦[arg7.view.set]{fullShare} X7) ∗ (arg8.view.loc (c : Thread nD τ) ↦[arg8.view.set]{fullShare} X8)
      ∗ (arg9.view.loc (c : Thread nD τ) ↦[arg9.view.set]{fullShare} f9) ∗ (arg10.view.loc (c : Thread nD τ) ↦[arg10.view.set]{fullShare} f10)
      ∗ (arg11.view.loc (c : Thread nD τ) ↦[arg11.view.set]{fullShare} f11) ∗ (arg12.view.loc (c : Thread nD τ) ↦[arg12.view.set]{fullShare} f12) : sProp 𝕄)
    ⊢ wp frame (wpE (defs₀ (F := F)) 𝒱 (c : Thread nD τ) bd) E
        (cc0_mla_decode i arg1 harg1 arg2 harg2 arg3 harg3 arg4 harg4 arg5 harg5 arg6 harg6 arg7 harg7 arg8 harg8 arg9 harg9 arg10 harg10 arg11 harg11 arg12 harg12)
        (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f, (arg9.view.loc (c : Thread nD τ) ↦[arg9.view.set]{fullShare} f) ∗ ⌜arg9.view.read (Elt F) f = b.out⌝) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)))) := by
  have hchk : k0_chk1 (extractAt ![0, 0, 0] (k0_pay34 (k0_pay27 (View.readAt (Elt F) arg8.view
      (Rect.unit (s := S1x1x512) ![0, 0, 0] S1x1x512.size inb_S1x1x512_S1x1x512_0_0_0).toLoadRect X8))) inpos_S1x1x1_p0_0_0) := by
    rw [View.readAt_full]; exact chk1_of_lt (by rw [hb] at h; exact h)
  iintro ⟨H1, H2, H3, H4, H5, H6, H7, H8, H9, H10, H11, H12⟩
  sl_unfold [cc0_mla_decode]
  sl_exec (disch := exact hchk)
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _
    isplitl [H9]; · iexact H9
    ipureintro
    rw [View.read_writes_full]
    have hb' : b = blocksAt arg1 arg2 arg3 arg4 arg5 arg6 arg7 arg8 X1 X2 X3 X4 X5 X6 X7 X8 := by
      unfold blocksAt
      rw [View.readAt_full arg1.view X1 inb_S1x1x128x512_S1x1x128x512_0_0_0_0, View.readAt_full arg2.view X2 inb_S1x1x64x128_S1x1x64x128_0_0_0_0,
        View.readAt_full arg3.view X3 inb_S1x1x512_S1x1x512_0_0_0, View.readAt_full arg4.view X4 inb_S1x1x64_S1x1x64_0_0_0,
        View.readAt_full arg8.view X8 inb_S1x1x512_S1x1x512_0_0_0]
      exact hb
    rw [hb'] at h ⊢
    have e12 : arg12.view.read (Elt F) (arg12.view.writes (Elt F) arg12.view.junk (run.sl.H12_1 arg8 X8)) = bias (blocksAt arg1 arg2 arg3 arg4 arg5 arg6 arg7 arg8 X1 X2 X3 X4 X5 X6 X7 X8).idx := by
      unfold run.sl.H12_1
      rw [View.read_writes_full]; rfl
    have h73 : run.sl.v73 arg8 X8 = top (blocksAt arg1 arg2 arg3 arg4 arg5 arg6 arg7 arg8 X1 X2 X3 X4 X5 X6 X7 X8).idx := by
      unfold run.sl.v73 top blocksAt; rfl
    have hr : run.sl.r arg1 X1 = k0_pay35 (blocksAt arg1 arg2 arg3 arg4 arg5 arg6 arg7 arg8 X1 X2 X3 X4 X5 X6 X7 X8).q := by
      unfold run.sl.r blocksAt; rfl
    have hr1 : run.sl.r_1 arg2 X2 = k0_pay36 (blocksAt arg1 arg2 arg3 arg4 arg5 arg6 arg7 arg8 X1 X2 X3 X4 X5 X6 X7 X8).qr := by
      unfold run.sl.r_1 blocksAt; rfl
    have hr2 : run.sl.r_2 arg1 arg2 arg3 arg4 X1 X2 X3 X4 = (blocksAt arg1 arg2 arg3 arg4 arg5 arg6 arg7 arg8 X1 X2 X3 X4 X5 X6 X7 X8).s0 := by
      unfold run.sl.r_2 blocksAt Blocks.s0; rfl
    rw [hr, hr1, hr2]
    exact congrArg k0_pay18 (loops_value 𝒱 c bd i arg1 harg1 arg2 harg2 arg3 harg3 arg4 harg4 arg5 harg5 arg6 harg6 arg7 harg7 arg8 harg8 arg9 harg9 arg10 harg10 arg11 harg11 arg12 harg12 (blocksAt arg1 arg2 arg3 arg4 arg5 arg6 arg7 arg8 X1 X2 X3 X4 X5 X6 X7 X8) X5 X6 X7
      (arg12.view.writes (Elt F) arg12.view.junk (run.sl.H12_1 arg8 X8)) rfl rfl rfl e12 (h := by rw [h73]; exact h) (hw := hchk) (v := run.sl.v73 arg8 X8) h73 f10 f11)
  isplitl [H10]; · iexists _; iexact H10
  isplitl [H11]; · iexists _; iexact H11
  iexists _; iexact H12
end Cert.KernelIdeal.Hand
-- ==== Proof.Point.lean ====
module

public import proofs.«01_k».proof.Proof.Gen.KernelIdeal.Loops
public import proofs.«01_k».proof.Proof.Gen.KernelIdeal.Frame
public import proofs.«01_k».proof.Proof.Trips
public import proofs.«01_k».proof.Proof.Loop
public import proofs.«01_k».proof.Proof.Run
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

open Idealize.ShloMosaic.Pipeline (Dat Cfg Window BodyObligation cellOf)

variable (m : (ℓ : Loc nD τ sig) → Buf (Elt F) ℓ) (ρ : Dev nD → PrngReg)

/-- The eight input blocks of grid point `t`. -/
def blocks (c : Dev nD) (t : Fin cfg0.N) : Blocks F :=
  ⟨iblk m c 0 t, iblk m c 1 t, iblk m c 2 t, iblk m c 3 t, iblk m c 4 t, iblk m c 5 t, iblk m c 6 t, iblk m c 7 t⟩

/-- The proof data: each input's block stays, the result's block becomes the point's result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (blocks m c t).out
  Φ _ := Pipeline.ΦA spec0 c
  q _ := fullShare
  owed _ := 0

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at grid point `t`. -/
theorem sound_body (hidx : ∀ c t, (top (F := F) (iblk m c 7 t)).toInt < 2048) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, show (dats m 0 c).owesAt () t.succ = (dats m 0 c).owesAt () t.castSucc from rfl]
  rw [show (dats m 0 c).Φ t.castSucc = Pipeline.ΦA spec0 c from rfl]
  unfold Pipeline.ΦA
  rw [scopedRest0_eq]
  simp only [before0_0_of m (dats m 0 c) rfl (fun _ => rfl) t]
  simp only [before0_1_of m (dats m 0 c) rfl (fun _ => rfl) t]
  simp only [before0_2_of m (dats m 0 c) rfl (fun _ => rfl) t]
  simp only [before0_3_of m (dats m 0 c) rfl (fun _ => rfl) t]
  simp only [before0_4_of m (dats m 0 c) rfl (fun _ => rfl) t]
  simp only [before0_5_of m (dats m 0 c) rfl (fun _ => rfl) t]
  simp only [before0_6_of m (dats m 0 c) rfl (fun _ => rfl) t]
  simp only [before0_7_of m (dats m 0 c) rfl (fun _ => rfl) t]
  unfold owns
  iintro ⟨⟨⟨⟨%fs0, HS0⟩, ⟨%fs1, HS1⟩, ⟨%fs2, HS2⟩⟩, Hg⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, -, H8⟩⟩
  have hb : blocks m c t = ⟨(st0_0 t).view.read (Elt F) f0, (st0_1 t).view.read (Elt F) f1, (st0_2 t).view.read (Elt F) f2, (st0_3 t).view.read (Elt F) f3,
      (st0_4 t).view.read (Elt F) f4, (st0_5 t).view.read (Elt F) f5, (st0_6 t).view.read (Elt F) f6, (st0_7 t).view.read (Elt F) f7⟩ := by
    rw [e0, e1, e2, e3, e4, e5, e6, e7]; rfl
  have hrun := run (F := F) Variants.none c none Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _)
    f0 f1 f2 f3 f4 f5 f6 f7 f8 fs0 fs1 fs2 (blocks m c t) hb (hidx c t)
  rw [show (Memref.whole cc0_scratch0).view.set = Finset.univ from View.set_whole _, show (Memref.whole cc0_scratch1).view.set = Finset.univ from View.set_whole _,
    show (Memref.whole cc0_scratch2).view.set = Finset.univ from View.set_whole _] at hrun
  iapply (wp_wand_r Idealize.ShloMosaic.frame (wpE (defs₀ (F := F)) Variants.none c none) Set.univ)
  isplitl [H0 H1 H2 H3 H4 H5 H6 H7 H8 HS0 HS1 HS2]
  · iapply hrun
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iexact HS2
  iintro %_ ⟨H0, H1, H2, H3, H4, H5, H6, H7, ⟨%f9, H8, %e8⟩, ⟨%fs0', HS0⟩, ⟨%fs1', HS1⟩, ⟨%fs2', HS2⟩⟩
  isplitl [HS0 HS1 HS2 Hg]
  · isplitl [HS0 HS1 HS2]
    · isplitl [HS0]; · iexists _; iexact HS0
      isplitl [HS1]; · iexists _; iexact HS1
      iexists _; iexact HS2
    iexact Hg
  isplitl [Ho]; · iexact Ho
  isplitl [H0]
  · iexists _; isplitr; swap; · iexact H0
    ipureintro; exact e0
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  iexists _; isplitr; swap; · iexact H8
  ipureintro; exact e8

/-- The called body is the body at the grid point. -/
theorem defs₀_row (t : Fin cfg0.N) : defs₀ (F := F) .tc cfg0.body (cfg0.bodyArgs t (cfg0.slots t)) = bodyAt0 t := by
  unfold defs₀; rw [Defs.onTc_tc]

/-- The body at every grid point meets what the pipeline asks of it. -/
theorem body_obligation (hidx : ∀ c t, (top (F := F) (iblk m c 7 t)).toInt < 2048) (c : Dev nD) :
    BodyObligation (dats (F := F) m 0 c) (defs₀ (F := F)) Variants.none () Set.univ := fun t => by
  rw [bigSep_W0, bigSep_W0, defs₀_row]
  exact triple_restated (sound_body m hidx c t) rfl .rfl fun _ => .rfl

/-- The whole run: every array ends as the proof data says, every other buffer as launched, every semaphore at zero. -/
theorem run_main (hidx : ∀ c t, (top (F := F) (iblk m c 7 t)).toInt < 2048) :
    θ_run defs (onTc (τ := τ) (main (F := F))) ⟨m, fun _ => 0, ρ⟩ (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m hidx c).loose) (hshare := fun c => (dats m 0 c).share_full fun _ => rfl)
    (howed := fun _ _ => rfl) (V := V m) (hmain := hmain m Variants.none) (hA := fun _ _ => rfl) (hΦ := fun _ _ => rfl) (hQ' := fun _ h => h)

/-- The arguments end as launched and every semaphore at zero. -/
theorem quiescent (hidx : ∀ c t, (top (F := F) (iblk m c 7 t)).toInt < 2048) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ ⟨h, hs⟩ => ⟨fun c => ⟨((h c).1 0).trans (((dats m 0 c).arrAt_in 0 rfl _).trans (V_main_arg0 m c)),
      ((h c).2 main_arg1 (Pipeline.mem_restRefs_of main_arg1 (by decide) (by decide))).trans (V_main_arg1 m c),
      ((h c).1 2).trans (((dats m 0 c).arrAt_in 2 rfl _).trans (V_main_arg2 m c)),
      ((h c).1 3).trans (((dats m 0 c).arrAt_in 3 rfl _).trans (V_main_arg3 m c)),
      ((h c).1 4).trans (((dats m 0 c).arrAt_in 4 rfl _).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 7).trans (((dats m 0 c).arrAt_in 7 rfl _).trans (V_main_arg7 m c))⟩, hs⟩) (run_main m ρ hidx)
end Cert.KernelIdeal.Hand
-- ==== Proof.Softmax.lean ====
module

public import Idealize.ShloMosaic.PureOps.Ideal
public import Mathlib.Analysis.SpecialFunctions.Pow.Real
public import Mathlib.Algebra.BigOperators.Fin

@[expose] public section

/-! Softmax attention over selected positions, at the extended reals. The reference sums over the
selections `k`; the kernel sums over the positions `j`, each weighted by the number of selections
naming it, that number entering as `log` of the count added to the score. The two are equal. -/

noncomputable section

namespace Cert.Softmax

open Idealize.ShloMosaic Finset

variable {ι : Type} [Fintype ι] (v : ι → Prop) [DecidablePred v] (t : ι → ℕ)
  (s lat : ℕ → EReal) (s0 kv : EReal) (N : ℕ)

/-- The factor from natural to binary logarithms. -/
def c2 : EReal := (((Real.log 2)⁻¹ : ℝ) : EReal)

/-- How many valid selections name position `j`. -/
def cnt (j : ℕ) : ℕ := (univ.filter (fun k => v k ∧ t k = j)).card

/-- The score of selection `k`: minus infinity when it is not valid. -/
def sr (k : ι) : EReal := if v k then s (t k) else ⊥
/-- The reference's maximum. -/
def mR : EReal := max (univ.sup (sr v t s)) s0
/-- The reference's denominator. -/
def lR : EReal := (∑ k, Ideal.exp (sr v t s k - mR v t s s0)) + Ideal.exp (s0 - mR v t s s0)
/-- The reference's result. -/
def outR : EReal :=
  (∑ k, (Ideal.exp (sr v t s k - mR v t s s0) * Ideal.div 1 (lR v t s s0)) * lat (t k))
    + (Ideal.exp (s0 - mR v t s s0) * Ideal.div 1 (lR v t s s0)) * kv

/-- The bias of position `j`: the binary logarithm of its count. -/
def bias (j : ℕ) : EReal := if 0 < cnt v t j then Ideal.log ((cnt v t j : ℝ) : EReal) * c2 else ⊥
/-- The kernel's score of position `j`. -/
def sK (j : ℕ) : EReal := s j * c2 + bias v t j
/-- The kernel's maximum. -/
def mK : EReal := max (s0 * c2) ((range N).sup (sK v t s))
/-- The kernel's denominator. -/
def lK : EReal := Ideal.exp2 (s0 * c2 - mK v t s s0 N) + ∑ j ∈ range N, Ideal.exp2 (sK v t s j - mK v t s s0 N)
/-- The kernel's result. -/
def outK : EReal :=
  (Ideal.exp2 (s0 * c2 - mK v t s s0 N) * Ideal.div 1 (lK v t s s0 N)) * kv
    + ∑ j ∈ range N, (Ideal.exp2 (sK v t s j - mK v t s s0 N) * Ideal.div 1 (lK v t s s0 N)) * lat j

/-- The exponential as a real number. -/
def rho (x : EReal) : ℝ := (Ideal.exp x).toReal

/-- At a real number. -/
theorem rho_coe (r : ℝ) : rho (r : EReal) = Real.exp r := by unfold rho; exact EReal.toReal_coe _
/-- At minus infinity. -/
theorem rho_bot : rho ⊥ = 0 := by unfold rho; exact EReal.toReal_zero
/-- At plus infinity, by convention. -/
theorem rho_top : rho ⊤ = 0 := by unfold rho; exact EReal.toReal_top
/-- It is at least zero. -/
theorem rho_nonneg (x : EReal) : 0 ≤ rho x := by
  induction x with
  | bot => rw [rho_bot]
  | top => rw [rho_top]
  | coe r => rw [rho_coe]; exact (Real.exp_pos r).le

/-- An exponential of a difference, as a product of reals. -/
theorem exp_sub (x : EReal) (hx : x ≠ ⊤) (a : ℝ) :
    Ideal.exp (x - (a : EReal)) = ((rho x * Real.exp (-a) : ℝ) : EReal) := by
  induction x with
  | bot => rw [rho_bot, zero_mul, EReal.bot_sub]; rfl
  | top => exact absurd rfl hx
  | coe r =>
    rw [rho_coe, ← Real.exp_add, ← EReal.coe_sub, ← sub_eq_add_neg]; rfl

/-- The factor is positive. -/
theorem c2_pos : (0 : ℝ) < (Real.log 2)⁻¹ := inv_pos.mpr (Real.log_pos (by norm_num))

/-- A power of two at the scaled argument is the exponential. -/
theorem rpow_c2 (r : ℝ) : Real.rpow 2 (r * (Real.log 2)⁻¹) = Real.exp r := by
  show (2 : ℝ) ^ (r * (Real.log 2)⁻¹) = _
  rw [Real.rpow_def_of_pos (by norm_num)]
  congr 1
  have h : Real.log 2 ≠ 0 := (Real.log_pos (by norm_num)).ne'
  field_simp

/-- A power of two of a sum. -/
theorem exp2_add (a b : ℝ) : Real.rpow 2 (a + b) = Real.rpow 2 a * Real.rpow 2 b :=
  Real.rpow_add (by norm_num) a b

/-- A power of two of a difference, as a product of reals. -/
theorem exp2_sub (x : EReal) (hx : x ≠ ⊤) (a : ℝ) :
    Ideal.exp2 (x * c2 - (a : EReal)) = ((rho x * Real.rpow 2 (-a) : ℝ) : EReal) := by
  unfold c2
  induction x with
  | bot => rw [rho_bot, zero_mul, EReal.bot_mul_coe_of_pos c2_pos, EReal.bot_sub]; rfl
  | top => exact absurd rfl hx
  | coe r =>
    rw [rho_coe, ← rpow_c2, ← exp2_add, ← EReal.coe_mul, ← EReal.coe_sub, ← sub_eq_add_neg]; rfl

/-- The logarithm of a positive count is real. -/
theorem log_cnt {n : ℕ} (hn : 0 < n) : Ideal.log ((n : ℝ) : EReal) = ((Real.log n : ℝ) : EReal) := by
  have h : ¬ ((n : ℝ) ≤ 0) := not_le.mpr (by exact_mod_cast hn)
  show (if (n : ℝ) ≤ 0 then (⊥ : EReal) else _) = _
  rw [if_neg h]

/-- The bias of a selected position is real. -/
theorem bias_coe {j : ℕ} (h : 0 < cnt v t j) :
    bias v t j = ((Real.log (cnt v t j) * (Real.log 2)⁻¹ : ℝ) : EReal) := by
  unfold bias c2; rw [if_pos h, log_cnt h, ← EReal.coe_mul]

/-- The score of a position not selected is minus infinity. -/
theorem sK_zero {j : ℕ} (h : cnt v t j = 0) : sK v t s j = ⊥ := by
  unfold sK bias; rw [if_neg (by omega), EReal.add_bot]

/-- A position's exponential is its count times the score's. -/
theorem exp2_sK (j : ℕ) (hx : cnt v t j ≠ 0 → s j ≠ ⊤) (a : ℝ) :
    Ideal.exp2 (sK v t s j - (a : EReal)) = (((cnt v t j : ℝ) * rho (s j) * Real.rpow 2 (-a) : ℝ) : EReal) := by
  by_cases h : cnt v t j = 0
  · rw [sK_zero v t s h, h, EReal.bot_sub, Nat.cast_zero, zero_mul, zero_mul]; rfl
  · have hp : 0 < cnt v t j := Nat.pos_of_ne_zero h
    have hs := hx h
    unfold sK; rw [bias_coe v t hp]
    unfold c2
    induction hsj : s j with
    | bot =>
      rw [rho_bot, mul_zero, zero_mul, EReal.bot_mul_coe_of_pos c2_pos, EReal.bot_add, EReal.bot_sub]; rfl
    | top => exact absurd hsj hs
    | coe r =>
      have hl : (cnt v t j : ℝ) = Real.exp (Real.log (cnt v t j)) :=
        (Real.exp_log (by exact_mod_cast hp)).symm
      rw [rho_coe, ← EReal.coe_mul, ← EReal.coe_add, ← EReal.coe_sub, sub_eq_add_neg]
      show ((Real.rpow 2 _ : ℝ) : EReal) = _
      rw [exp2_add, exp2_add, rpow_c2, rpow_c2, ← hl, mul_comm (Real.exp r)]

/-- The inverse of a positive real. -/
theorem div_one_coe {r : ℝ} (h : 0 < r) : Ideal.div 1 (r : EReal) = ((r⁻¹ : ℝ) : EReal) := by
  unfold Ideal.div
  rw [if_neg (by exact_mod_cast h.ne'), one_mul, EReal.coe_inv]

/-- A sum of reals read among the extended reals. -/
theorem coe_sum {α : Type} (S : Finset α) (f : α → ℝ) :
    ∑ x ∈ S, ((f x : ℝ) : EReal) = ((∑ x ∈ S, f x : ℝ) : EReal) := by
  classical
  induction S using Finset.induction_on with
  | empty => simp
  | insert a S ha ih => rw [sum_insert ha, sum_insert ha, ih, EReal.coe_add]

/-- A multiple of a product is a product with the multiple. -/
theorem nsmul_coe_mul (n : ℕ) {q : ℝ} (hq : 0 ≤ q) (L : EReal) :
    (((n : ℝ) * q : ℝ) : EReal) * L = n • ((q : EReal) * L) := by
  induction n with
  | zero => simp
  | succ n ih =>
    rw [succ_nsmul, ← ih, Nat.cast_succ, add_mul, one_mul, EReal.coe_add]
    exact EReal.right_distrib_of_nonneg (by exact_mod_cast mul_nonneg (Nat.cast_nonneg n) hq)
      (by exact_mod_cast hq)

/-- A sum over the valid selections, gathered by the position each names. -/
theorem sum_by_position {M : Type} [AddCommMonoid M] (hN : ∀ k, v k → t k < N) (f : ℕ → M) :
    (∑ k, if v k then f (t k) else 0) = ∑ j ∈ range N, cnt v t j • f j := by
  classical
  rw [← sum_filter, ← sum_fiberwise_of_maps_to (t := range N) (g := t)]
  · refine sum_congr rfl fun j _ => ?_
    unfold cnt
    rw [filter_filter, ← sum_const]
    exact sum_congr rfl fun k hk => by rw [(mem_filter.mp hk).2.2]
  · intro k hk; exact mem_range.mpr (hN k (mem_filter.mp hk).2)

/-- A position with a count is named by a valid selection. -/
theorem cnt_ne_zero {j : ℕ} (h : cnt v t j ≠ 0) : ∃ k, v k ∧ t k = j := by
  unfold cnt at h
  obtain ⟨k, hk⟩ := card_ne_zero.mp h
  exact ⟨k, (mem_filter.mp hk).2⟩

/-- A position named by a valid selection has a count. -/
theorem cnt_pos {k : ι} (h : v k) : 0 < cnt v t (t k) :=
  card_pos.mpr ⟨k, mem_filter.mpr ⟨mem_univ k, h, rfl⟩⟩

/-- Every selection's score is at most the reference's maximum. -/
theorem sr_le (k : ι) : sr v t s k ≤ mR v t s s0 :=
  le_trans (le_sup (f := sr v t s) (mem_univ k)) (le_max_left _ _)
/-- The new token's score is at most the reference's maximum. -/
theorem s0_le : s0 ≤ mR v t s s0 := le_max_right _ _

/-- The reference's maximum is attained or is minus infinity. -/
theorem mR_attained : mR v t s s0 = s0 ∨ (∃ k, mR v t s s0 = sr v t s k) ∨ mR v t s s0 = ⊥ := by
  unfold mR
  rcases max_choice (univ.sup (sr v t s)) s0 with h | h
  · by_cases hn : (univ : Finset ι).Nonempty
    · obtain ⟨k, _, hk⟩ := exists_mem_eq_sup univ hn (sr v t s)
      exact Or.inr (Or.inl ⟨k, h.trans hk⟩)
    · rw [not_nonempty_iff_eq_empty] at hn
      refine Or.inr (Or.inr ?_)
      rw [h, hn]; rfl
  · exact Or.inl h

/-- The kernel's maximum is attained or is minus infinity. -/
theorem mK_attained : mK v t s s0 N = s0 * c2 ∨ (∃ j ∈ range N, mK v t s s0 N = sK v t s j) ∨ mK v t s s0 N = ⊥ := by
  unfold mK
  rcases max_choice (s0 * c2) ((range N).sup (sK v t s)) with h | h
  · exact Or.inl h
  · by_cases hn : (range N).Nonempty
    · obtain ⟨k, hk', hk⟩ := exists_mem_eq_sup (range N) hn (sK v t s)
      exact Or.inr (Or.inl ⟨k, hk', h.trans hk⟩)
    · rw [not_nonempty_iff_eq_empty] at hn
      refine Or.inr (Or.inr ?_)
      rw [h, hn]; rfl

/-- Every position's score is at most the kernel's maximum. -/
theorem sK_le {j : ℕ} (h : j ∈ range N) : sK v t s j ≤ mK v t s s0 N :=
  le_trans (le_sup (f := sK v t s) h) (le_max_right _ _)
/-- The new token's scaled score is at most the kernel's maximum. -/
theorem s0c_le : s0 * c2 ≤ mK v t s s0 N := le_max_left _ _

/-- The scaling keeps plus infinity and nothing else becomes it. -/
theorem mul_c2_top {x : EReal} : x * c2 = ⊤ ↔ x = ⊤ := by
  unfold c2
  induction x with
  | bot => rw [EReal.bot_mul_coe_of_pos c2_pos]
  | top => rw [EReal.top_mul_coe_of_pos c2_pos]
  | coe r => rw [← EReal.coe_mul]; exact ⟨fun h => absurd h (EReal.coe_ne_top _), fun h => absurd h (EReal.coe_ne_top _)⟩
/-- The scaling keeps minus infinity and nothing else becomes it. -/
theorem mul_c2_bot {x : EReal} : x * c2 = ⊥ ↔ x = ⊥ := by
  unfold c2
  induction x with
  | bot => rw [EReal.bot_mul_coe_of_pos c2_pos]
  | top => rw [EReal.top_mul_coe_of_pos c2_pos]
  | coe r => rw [← EReal.coe_mul]; exact ⟨fun h => absurd h (EReal.coe_ne_bot _), fun h => absurd h (EReal.coe_ne_bot _)⟩

/-- When a position's score is plus infinity. -/
theorem sK_top {j : ℕ} : sK v t s j = ⊤ ↔ s j = ⊤ ∧ cnt v t j ≠ 0 := by
  by_cases h : cnt v t j = 0
  · rw [sK_zero v t s h]; simp [h]
  · unfold sK; rw [bias_coe v t (Nat.pos_of_ne_zero h)]
    constructor
    · intro e
      refine ⟨?_, h⟩
      by_contra hs
      have : s j * c2 ≠ ⊤ := fun e' => hs (mul_c2_top.mp e')
      exact (EReal.add_lt_top this (EReal.coe_ne_top _)).ne e
    · rintro ⟨e, _⟩
      rw [mul_c2_top.mpr e]; exact EReal.top_add_coe _
/-- When a position's score is minus infinity. -/
theorem sK_bot {j : ℕ} : sK v t s j = ⊥ ↔ s j = ⊥ ∨ cnt v t j = 0 := by
  by_cases h : cnt v t j = 0
  · rw [sK_zero v t s h]; simp [h]
  · unfold sK; rw [bias_coe v t (Nat.pos_of_ne_zero h), EReal.add_eq_bot_iff, mul_c2_bot]
    simp only [h, or_false, or_iff_left_iff_imp]
    intro e; exact absurd e (EReal.coe_ne_bot _)

variable (hN : ∀ k, v k → t k < N)
include hN

/-- The two maxima are plus infinity together. -/
theorem top_iff : mR v t s s0 = ⊤ ↔ mK v t s s0 N = ⊤ := by
  constructor
  · intro h
    rcases mR_attained v t s s0 with e | ⟨k, e⟩ | e
    · have : s0 = ⊤ := e.symm.trans h
      exact top_le_iff.mp (le_trans (by rw [mul_c2_top.mpr this]) (s0c_le v t s s0 N))
    · have hk : sr v t s k = ⊤ := e.symm.trans h
      unfold sr at hk
      split_ifs at hk with hv
      · have : sK v t s (t k) = ⊤ := (sK_top v t s).mpr ⟨hk, (cnt_pos v t hv).ne'⟩
        exact top_le_iff.mp (this ▸ sK_le v t s s0 N (mem_range.mpr (hN k hv)))
      · exact absurd hk (by decide)
    · exact absurd (e.symm.trans h) (by decide)
  · intro h
    rcases mK_attained v t s s0 N with e | ⟨j, hj, e⟩ | e
    · exact top_le_iff.mp ((mul_c2_top.mp (e.symm.trans h)) ▸ s0_le v t s s0)
    · obtain ⟨h1, h2⟩ := (sK_top v t s).mp (e.symm.trans h)
      obtain ⟨k, hv, rfl⟩ := cnt_ne_zero v t h2
      have : sr v t s k = ⊤ := by unfold sr; rw [if_pos hv]; exact h1
      exact top_le_iff.mp (this ▸ sr_le v t s s0 k)
    · exact absurd (e.symm.trans h) (by decide)

/-- The two maxima are minus infinity together. -/
theorem bot_iff : mR v t s s0 = ⊥ ↔ mK v t s s0 N = ⊥ := by
  constructor
  · intro h
    have h0 : s0 = ⊥ := le_bot_iff.mp (h ▸ s0_le v t s s0)
    rcases mK_attained v t s s0 N with e | ⟨j, hj, e⟩ | e
    · rw [e]; exact mul_c2_bot.mpr h0
    · rw [e]
      refine (sK_bot v t s).mpr ?_
      by_cases hc : cnt v t j = 0
      · exact Or.inr hc
      · obtain ⟨k, hv, rfl⟩ := cnt_ne_zero v t hc
        have hk := h ▸ sr_le v t s s0 k
        unfold sr at hk; rw [if_pos hv] at hk
        exact Or.inl (le_bot_iff.mp hk)
    · exact e
  · intro h
    have h0 : s0 = ⊥ := mul_c2_bot.mp (le_bot_iff.mp (h ▸ s0c_le v t s s0 N))
    rcases mR_attained v t s s0 with e | ⟨k, e⟩ | e
    · rw [e]; exact h0
    · rw [e]
      unfold sr
      split_ifs with hv
      · have hk := le_bot_iff.mp (h ▸ sK_le v t s s0 N (mem_range.mpr (hN k hv)))
        rcases (sK_bot v t s).mp hk with e' | e'
        · exact e'
        · exact absurd e' (cnt_pos v t hv).ne'
      · rfl
    · exact e

omit hN in
/-- A difference from an infinite maximum is minus infinity. -/
theorem sub_degenerate {x m : EReal} (hx : x ≤ m) (h : m = ⊤ ∨ m = ⊥) : x - m = ⊥ := by
  rcases h with rfl | rfl
  · exact EReal.sub_top _
  · rw [le_bot_iff.mp hx]; exact EReal.bot_sub _

omit hN in
/-- With an infinite maximum the reference's result is zero. -/
theorem outR_degenerate (h : mR v t s s0 = ⊤ ∨ mR v t s s0 = ⊥) : outR v t s lat s0 kv = 0 := by
  have e1 : ∀ k, Ideal.exp (sr v t s k - mR v t s s0) = 0 := fun k => by
    rw [sub_degenerate (sr_le v t s s0 k) h]; rfl
  have e2 : Ideal.exp (s0 - mR v t s s0) = 0 := by rw [sub_degenerate (s0_le v t s s0) h]; rfl
  unfold outR; simp only [e1, e2, zero_mul, sum_const_zero, add_zero]

omit hN in
/-- With an infinite maximum the kernel's result is zero. -/
theorem outK_degenerate (h : mK v t s s0 N = ⊤ ∨ mK v t s s0 N = ⊥) : outK v t s lat s0 kv N = 0 := by
  have e1 : ∀ j ∈ range N, Ideal.exp2 (sK v t s j - mK v t s s0 N) = 0 := fun j hj => by
    rw [sub_degenerate (sK_le v t s s0 N hj) h]; rfl
  have e2 : Ideal.exp2 (s0 * c2 - mK v t s s0 N) = 0 := by rw [sub_degenerate (s0c_le v t s s0 N) h]; rfl
  unfold outK
  rw [e2, zero_mul, zero_mul, zero_add]
  exact sum_eq_zero fun j hj => by rw [e1 j hj, zero_mul, zero_mul]

/-- The kernel's sum over positions is the reference's sum over selections. -/
theorem outK_eq_outR : outK v t s lat s0 kv N = outR v t s lat s0 kv := by
  by_cases hT : mR v t s s0 = ⊤
  · rw [outR_degenerate v t s lat s0 kv (Or.inl hT), outK_degenerate v t s lat s0 kv N (Or.inl ((top_iff v t s s0 N hN).mp hT))]
  by_cases hB : mR v t s s0 = ⊥
  · rw [outR_degenerate v t s lat s0 kv (Or.inr hB), outK_degenerate v t s lat s0 kv N (Or.inr ((bot_iff v t s s0 N hN).mp hB))]
  have hT' : mK v t s s0 N ≠ ⊤ := fun h => hT ((top_iff v t s s0 N hN).mpr h)
  have hB' : mK v t s s0 N ≠ ⊥ := fun h => hB ((bot_iff v t s s0 N hN).mpr h)
  obtain ⟨A, hA⟩ : ∃ a : ℝ, mR v t s s0 = a := ⟨_, (EReal.coe_toReal hT hB).symm⟩
  obtain ⟨A', hA'⟩ : ∃ a : ℝ, mK v t s s0 N = a := ⟨_, (EReal.coe_toReal hT' hB').symm⟩
  have hs0 : s0 ≠ ⊤ := fun h => hT (top_le_iff.mp (h ▸ s0_le v t s s0))
  have hsr : ∀ k, sr v t s k ≠ ⊤ := fun k h => hT (top_le_iff.mp (h ▸ sr_le v t s s0 k))
  have hs : ∀ j, cnt v t j ≠ 0 → s j ≠ ⊤ := fun j hj h => by
    obtain ⟨k, hv, rfl⟩ := cnt_ne_zero v t hj
    refine hsr k ?_
    unfold sr; rw [if_pos hv]; exact h
  have hrho : ∀ k, rho (sr v t s k) = if v k then rho (s (t k)) else 0 := fun k => by
    unfold sr; split_ifs
    · rfl
    · exact rho_bot
  -- the two sums of exponentials
  have hW : ∑ k, rho (sr v t s k) = ∑ j ∈ range N, (cnt v t j : ℝ) * rho (s j) := by
    simp only [hrho]
    rw [sum_by_position v t N hN (fun j => rho (s j))]
    exact sum_congr rfl fun j _ => nsmul_eq_mul _ _
  obtain ⟨Z, hZ⟩ : ∃ z : ℝ, z = (∑ k, rho (sr v t s k)) + rho s0 := ⟨_, rfl⟩
  have hZpos : 0 < Z := by
    rw [hZ]
    have hsum : 0 ≤ ∑ k, rho (sr v t s k) := sum_nonneg fun k _ => rho_nonneg _
    rcases mR_attained v t s s0 with e | ⟨k, e⟩ | e
    · have : 0 < rho s0 := by rw [← e, hA, rho_coe]; exact Real.exp_pos _
      linarith
    · have h1 : 0 < rho (sr v t s k) := by rw [← e, hA, rho_coe]; exact Real.exp_pos _
      have h2 := single_le_sum (f := fun k => rho (sr v t s k)) (fun k _ => rho_nonneg _) (mem_univ k)
      have h3 := rho_nonneg s0
      have h4 : rho (sr v t s k) ≤ ∑ k, rho (sr v t s k) := h2
      linarith
    · exact absurd e hB
  have hE : 0 < Real.exp (-A) := Real.exp_pos _
  have hE' : 0 < Real.rpow 2 (-A') := Real.rpow_pos_of_pos (by norm_num) _
  have lR_eq : lR v t s s0 = ((Z * Real.exp (-A) : ℝ) : EReal) := by
    unfold lR
    rw [hA, exp_sub s0 hs0, sum_congr rfl fun k _ => exp_sub _ (hsr k) A, coe_sum, ← EReal.coe_add,
      ← sum_mul, ← add_mul, ← hZ]
  have lK_eq : lK v t s s0 N = ((Z * Real.rpow 2 (-A') : ℝ) : EReal) := by
    unfold lK
    rw [hA', exp2_sub s0 hs0, sum_congr rfl fun j _ => exp2_sK v t s j (hs j) A', coe_sum, ← EReal.coe_add,
      ← sum_mul, ← add_mul, ← hW, add_comm (rho s0), ← hZ]
  have pR : ∀ x : EReal, x ≠ ⊤ → Ideal.exp (x - mR v t s s0) * Ideal.div 1 (lR v t s s0) = ((rho x / Z : ℝ) : EReal) := by
    intro x hx
    rw [lR_eq, hA, exp_sub x hx, div_one_coe (mul_pos hZpos hE), ← EReal.coe_mul]
    congr 1
    field_simp
  have pK0 : Ideal.exp2 (s0 * c2 - mK v t s s0 N) * Ideal.div 1 (lK v t s s0 N) = ((rho s0 / Z : ℝ) : EReal) := by
    rw [lK_eq, hA', exp2_sub s0 hs0, div_one_coe (mul_pos hZpos hE'), ← EReal.coe_mul]
    congr 1
    field_simp
  have pK : ∀ j, Ideal.exp2 (sK v t s j - mK v t s s0 N) * Ideal.div 1 (lK v t s s0 N) = (((cnt v t j : ℝ) * (rho (s j) / Z) : ℝ) : EReal) := by
    intro j
    rw [lK_eq, hA', exp2_sK v t s j (hs j), div_one_coe (mul_pos hZpos hE'), ← EReal.coe_mul]
    congr 1
    field_simp
  unfold outK outR
  rw [pK0, pR s0 hs0, add_comm]
  simp only [pK]
  congr 1
  rw [sum_congr rfl fun j _ => nsmul_coe_mul (cnt v t j) (div_nonneg (rho_nonneg (s j)) hZpos.le) (lat j),
    ← sum_by_position v t N hN (fun j => ((rho (s j) / Z : ℝ) : EReal) * lat j)]
  refine sum_congr rfl fun k _ => ?_
  rw [pR _ (hsr k), hrho]
  split_ifs
  · rfl
  · rw [zero_div, EReal.coe_zero, zero_mul]

end Cert.Softmax

end

end
-- ==== Proof.Spec.lean ====
module

public import proofs.«01_k».proof.Proof.Softmax

@[expose] public section

/-! One element of the result as a function of one row's operands: the row's cache (codes, group scales,
rope keys), the head's query, the new token's entries and the row's selections. -/

noncomputable section

namespace Cert.Spec

open Idealize.ShloMosaic Finset

/-- A number as a position of the cache. -/
def pos (j : ℕ) : Fin 2048 := ⟨min j 2047, by omega⟩

/-- The scale of the scores: the inverse root of the query's width. -/
def sigma : EReal := (((Real.sqrt 192)⁻¹ : ℝ) : EReal)

variable (codes : Fin 2048 → Fin 512 → EReal) (sc : Fin 2048 → Fin 4 → EReal) (kr : Fin 2048 → Fin 64 → EReal)
  (x : Fin 512 → EReal) (q : Fin 64 → EReal) (kvn : Fin 512 → EReal) (krn : Fin 64 → EReal)
  (idx : Fin 512 → BitVec 32)

/-- The latent entry of position `j` at column `c`: the code times its group's scale. -/
def lat (j : ℕ) (c : Fin 512) : EReal := codes (pos j) c * sc (pos j) ⟨c.val / 128, by omega⟩

/-- The unscaled score of position `j`. -/
def raw (j : ℕ) : EReal := (∑ c, x c * lat codes sc j c) + ∑ r, q r * kr (pos j) r

/-- The score of position `j`. -/
def score (j : ℕ) : EReal := raw codes sc kr x q j * sigma

/-- The unscaled score of the new token. -/
def raw0 : EReal := (∑ c, x c * kvn c) + ∑ r, q r * krn r

/-- The score of the new token. -/
def score0 : EReal := raw0 x q kvn krn * sigma

/-- Selection `k` is valid: its word is not negative. -/
abbrev valid (k : Fin 512) : Prop := 0 ≤ (idx k).toInt

/-- The position selection `k` names. -/
abbrev at_ (k : Fin 512) : ℕ := (idx k).toInt.toNat

/-- The result at column `c`. -/
def result (c : Fin 512) : EReal :=
  Softmax.outR (valid idx) (at_ idx) (score codes sc kr x q) (fun j => lat codes sc j c)
    (score0 x q kvn krn) (kvn c)

end Cert.Spec

end

end
-- ==== Proof.KerRead.lean ====
module

public import proofs.«01_k».proof.Proof.Block
public import proofs.«01_k».proof.Proof.Spec
public import Idealize.ShloMosaic.Lib.Pointwise
public import Idealize.ShloMosaic.Lib.MatmulPlain
public import Idealize.ShloMosaic.Lib.Pipeline.Value

@[expose] public section

set_option maxRecDepth 16384

/-! The kernel's vector operations over the extended reals, read at an index. -/

noncomputable section

namespace Cert.KernelIdeal.Hand

open Idealize.ShloMosaic hiding ix1 ix2 ix3 ix4
open Cert.KernelIdeal Cert.KernelIdeal.Gen Idealize.ShloMosaic.TcCoe ValueIdx

/-- `192^(-1/2) · log₂ e`. -/
def sig2 : EReal := ((Real.sqrt 192)⁻¹ * (Real.log 2)⁻¹ : ℝ)

/-- The folded factor stands for its exact real number. -/
theorem named_sig2 : Named.named (F := Ideal) (φ := .f32) κ "score_scale_log2e" 0x3DD53B95#32 = sig2 :=
  IdealRules.named_const.ideal_named_scalar _ _ _ _ rfl
/-- The factor to binary logarithms stands for its exact real number. -/
theorem named_log2e : Named.named (F := Ideal) (φ := .f32) κ "log2e" 0x3FB8AA3B#32 = Softmax.c2 :=
  IdealRules.named_const.ideal_named_scalar _ _ _ _ rfl

/-- The query at an index. -/
theorem pay35_apply (v : Vec Ideal S1x1x128x512 .bf16) (h : Fin 128) (c : Fin 512) :
    k0_pay35 (F := Ideal) v (ix2 h c) = v (ix4 (0 : Fin 1) (0 : Fin 1) h c) := by
  unfold k0_pay35
  pointwise <;> rfl

/-- The rope query at an index. -/
theorem pay36_apply (v : Vec Ideal S1x1x64x128 .bf16) (h : Fin 128) (r : Fin 64) :
    k0_pay36 (F := Ideal) v (ix2 h r) = v (ix4 (0 : Fin 1) (0 : Fin 1) r h) := by
  unfold k0_pay36
  pointwise <;> rfl

/-- The new token's score at an index. -/
theorem pay37_apply (q : Vec Ideal S1x1x128x512 .bf16) (qr : Vec Ideal S1x1x64x128 .bf16) (kvn : Vec Ideal S1x1x512 .bf16) (krn : Vec Ideal S1x1x64 .bf16) (h : Fin 128) :
    k0_pay37 (F := Ideal) q qr kvn krn (ix2 h (0 : Fin 1))
      = ((∑ c : Fin 512, q (ix4 (0 : Fin 1) (0 : Fin 1) h c) * kvn (ix3 (0 : Fin 1) (0 : Fin 1) c))
          + ∑ r : Fin 64, qr (ix4 (0 : Fin 1) (0 : Fin 1) r h) * krn (ix3 (0 : Fin 1) (0 : Fin 1) r)) * sig2 := by
  rw [← named_sig2]
  unfold k0_pay37 k0_pay36 k0_pay35
  pointwise <;> rfl

/-- A latent at an index: code times group scale. -/
theorem pay19_apply (v159 : Vec Ideal S1x256x512 .fp8e4m3) (v163 : Vec Ideal S1x4x256 .f32) (j : Fin 256) (c : Fin 512) :
    k0_pay19 (F := Ideal) v159 v163 (ix2 j c) = v159 (ix3 (0 : Fin 1) j c) * v163 (ix3 (0 : Fin 1) (⟨c.val / 128, by omega⟩ : Fin 4) j) := by
  have key : ∀ (c' : Fin 512) (g : Fin 4), c'.val = c.val → g.val = c.val / 128 →
      v159 (ix3 (0 : Fin 1) j c') * v163 (ix3 (0 : Fin 1) g j) = v159 (ix3 (0 : Fin 1) j c) * v163 (ix3 (0 : Fin 1) (⟨c.val / 128, by omega⟩ : Fin 4) j) := by
    intro c' g h1 h2
    rw [show c' = c from Fin.ext h1, show g = (⟨c.val / 128, by omega⟩ : Fin 4) from Fin.ext h2]
  unfold k0_pay19
  pointwise
  by_cases h1 : c.val < 128
  · exact (dif_pos h1).trans (key c 0 rfl (by show 0 = c.val / 128; omega))
  refine (dif_neg h1).trans ?_
  by_cases h2 : c.val - 128 < 128
  · exact (dif_pos h2).trans (key ⟨128 + (c.val - 128), by omega⟩ 1 (by show 128 + (c.val - 128) = c.val; omega) (by show 1 = c.val / 128; omega))
  refine (dif_neg h2).trans ?_
  by_cases h3 : c.val - 128 - 128 < 128
  · exact (dif_pos h3).trans (key ⟨256 + (c.val - 128 - 128), by omega⟩ 2 (by show 256 + (c.val - 128 - 128) = c.val; omega) (by show 2 = c.val / 128; omega))
  refine (dif_neg h3).trans ?_
  exact key ⟨384 + (c.val - 128 - 128 - 128), by omega⟩ 3 (by show 384 + (c.val - 128 - 128 - 128) = c.val; omega) (by show 3 = c.val / 128; omega)

/-- The latents to be kept are the latents. -/
theorem pay20_apply (v159 : Vec Ideal S1x256x512 .fp8e4m3) (v163 : Vec Ideal S1x4x256 .f32) (j : Fin 256) (c : Fin 512) :
    k0_pay20 (F := Ideal) v159 v163 (ix2 j c) = k0_pay19 (F := Ideal) v159 v163 (ix2 j c) := by
  unfold k0_pay20
  pointwise <;> rfl

/-- A score before the bias at an index. -/
theorem pay21_apply (v93 : FVec Ideal S128x512 .bf16) (v98 : FVec Ideal S128x64 .bf16) (v159 : Vec Ideal S1x256x512 .fp8e4m3) (v163 : Vec Ideal S1x4x256 .f32)
    (v190 : Vec Ideal S1x64x256 .bf16) (h : Fin 128) (j : Fin 256) :
    k0_pay21 (F := Ideal) v93 v98 v159 v163 v190 (ix2 h j)
      = ((∑ c : Fin 512, v93 (ix2 h c) * k0_pay19 (F := Ideal) v159 v163 (ix2 j c)) + ∑ r : Fin 64, v98 (ix2 h r) * v190 (ix3 (0 : Fin 1) r j)) * sig2 := by
  have e1 := Ideal.matmul_transposedRhs_apply (φ₁ := .bf16) (φ₂ := .bf16) none v93 (k0_pay19 (F := Ideal) v159 v163) (constant S128x256 .f32 0x00000000#32) h j
  have e2 := Ideal.matmul_plain_apply (φ₁ := .bf16) (φ₂ := .bf16) none v98 (shapeCast S64x256 v190 shapeCasts_S1x64x256_S64x256) (constant S128x256 .f32 0x00000000#32) h j
  have e3 : ∀ r : Fin 64, (shapeCast S64x256 v190 shapeCasts_S1x64x256_S64x256) (ix2 r j) = v190 (ix3 (0 : Fin 1) r j) := by
    intro r; pointwise <;> rfl
  have e0 : (constant (F := Ideal) S128x256 .f32 0x00000000#32) (ix2 h j) = (0 : EReal) := Ideal.ofBits_zero_f32
  rw [e0, zero_add] at e1 e2
  simp only [e3] at e2
  rw [← named_sig2]
  unfold k0_pay21
  exact congrArg₂ (fun a b : EReal => (a + b) * Named.named (F := Ideal) (φ := .f32) κ "score_scale_log2e" 0x3DD53B95#32) e1 e2

/-- A score before the bias in the first 128 positions of a block. -/
theorem pay22_apply (v93 : FVec Ideal S128x512 .bf16) (v98 : FVec Ideal S128x64 .bf16) (v159 : Vec Ideal S1x256x512 .fp8e4m3) (v163 : Vec Ideal S1x4x256 .f32)
    (v190 : Vec Ideal S1x64x256 .bf16) (h : Fin 128) (j : Fin 128) :
    k0_pay22 (F := Ideal) v93 v98 v159 v163 v190 (ix2 h j)
      = k0_pay21 (F := Ideal) v93 v98 v159 v163 v190 (ix2 h (⟨j.val, by omega⟩ : Fin 256)) := by
  unfold k0_pay22
  pointwise <;> rfl

/-- A score with the bias in the first 128 positions of a block. -/
theorem pay1_lo (v195 : FVec Ideal S128x256 .f32) (v197 : FVec Ideal S128x128 .f32) (v200 v207 : Vec Ideal S1x1x128 .f32) (h : Fin 128) (j : Fin 256) (hj : j.val < 128) :
    k0_pay1 (F := Ideal) v195 v197 v200 v207 (ix2 h j) = v197 (ix2 h (⟨j.val, hj⟩ : Fin 128)) + v200 (ix3 (0 : Fin 1) (0 : Fin 1) (⟨j.val, hj⟩ : Fin 128)) := by
  unfold k0_pay1
  pointwise
  exact (dif_pos hj).trans rfl

/-- A score with the bias in the last 128 positions of a block. -/
theorem pay1_hi (v195 : FVec Ideal S128x256 .f32) (v197 : FVec Ideal S128x128 .f32) (v200 v207 : Vec Ideal S1x1x128 .f32) (h : Fin 128) (j : Fin 256) (hj : ¬ j.val < 128) :
    k0_pay1 (F := Ideal) v195 v197 v200 v207 (ix2 h j) = v195 (ix2 h j) + v207 (ix3 (0 : Fin 1) (0 : Fin 1) (⟨j.val - 128, by omega⟩ : Fin 128)) := by
  unfold k0_pay1
  pointwise
  refine (dif_neg hj).trans ?_
  refine congrArg₂ (· + ·) (congrArg v195 (funext fun a => by match a with | ⟨0, _⟩ => rfl | ⟨1, _⟩ => exact Fin.ext (by show 128 + (j.val - 128) = j.val; omega))) rfl

/-- The scores to be kept are the scores. -/
theorem pay2_apply (v195 : FVec Ideal S128x256 .f32) (v197 : FVec Ideal S128x128 .f32) (v200 v207 : Vec Ideal S1x1x128 .f32) (h : Fin 128) (j : Fin 256) :
    k0_pay2 (F := Ideal) v195 v197 v200 v207 (ix3 (0 : Fin 1) h j) = k0_pay1 (F := Ideal) v195 v197 v200 v207 (ix2 h j) := by
  unfold k0_pay2
  pointwise <;> rfl

/-- The maximum so far against the scores of one block. -/
theorem pay3_apply (m : FVec Ideal S128x1 .f32) (v195 : FVec Ideal S128x256 .f32) (v197 : FVec Ideal S128x128 .f32) (v200 v207 : Vec Ideal S1x1x128 .f32) (h : Fin 128) :
    k0_pay3 (F := Ideal) m v195 v197 v200 v207 (ix2 h (0 : Fin 1))
      = max (m (ix2 h (0 : Fin 1))) ((Finset.univ : Finset (Fin 256)).sup fun j => k0_pay1 (F := Ideal) v195 v197 v200 v207 (ix2 h j)) := by
  have hb : FloatOps.ofBits (F := Ideal) .f32 0xFF800000#32 = (⊥ : EReal) := by
    show Ideal.ofBits .f32 0xFF800000#32 = ⊥
    simp [Ideal.ofBits, Ideal.ieee]
  have e : multiReduction (F := Ideal) .maximumf [1] S128 (k0_pay1 (F := Ideal) v195 v197 v200 v207) 0xFF800000#32 reduces_S128x256_S128 (.inl rfl) rfl (ix1 h)
      = (Finset.univ : Finset (Fin 256)).sup fun j => k0_pay1 (F := Ideal) v195 v197 v200 v207 (ix2 h j) := by
    refine (Ideal.multiReduction_maximumf_single _ _ reduces_S128x256_S128 _ _ _).trans ?_
    rw [hb]
    refine Finset.sup_congr rfl fun j _ => ?_
    exact congrArg (k0_pay1 (F := Ideal) v195 v197 v200 v207) (funext fun a => by match a with | ⟨0, _⟩ => rfl | ⟨1, _⟩ => rfl)
  rw [← e]
  unfold k0_pay3
  pointwise <;> rfl

/-- The new token's exponential. -/
theorem pay7_apply (s0 m : FVec Ideal S128x1 .f32) (h : Fin 128) :
    k0_pay7 (F := Ideal) s0 m (ix2 h (0 : Fin 1)) = Ideal.exp2 (s0 (ix2 h (0 : Fin 1)) - m (ix2 h (0 : Fin 1))) := rfl

/-- An exponential of one block at an index. -/
theorem pay8_apply (m : FVec Ideal S128x1 .f32) (v : Vec Ideal S1x128x256 .f32) (h : Fin 128) (j : Fin 256) :
    k0_pay8 (F := Ideal) m v (ix2 h j) = Ideal.exp2 (v (ix3 (0 : Fin 1) h j) - m (ix2 h (0 : Fin 1))) := by
  unfold k0_pay8
  show Ideal.exp2 (_ - _) = _
  pointwise <;> rfl

/-- The exponentials to be kept are the exponentials. -/
theorem pay9_apply (m : FVec Ideal S128x1 .f32) (v : Vec Ideal S1x128x256 .f32) (h : Fin 128) (j : Fin 256) :
    k0_pay9 (F := Ideal) m v (ix3 (0 : Fin 1) h j) = Ideal.exp2 (v (ix3 (0 : Fin 1) h j) - m (ix2 h (0 : Fin 1))) := by
  rw [← pay8_apply]
  unfold k0_pay9
  pointwise <;> rfl

/-- The sum so far plus the exponentials of one block. -/
theorem pay10_apply (m l : FVec Ideal S128x1 .f32) (v : Vec Ideal S1x128x256 .f32) (h : Fin 128) :
    k0_pay10 (F := Ideal) m l v (ix2 h (0 : Fin 1))
      = l (ix2 h (0 : Fin 1)) + ∑ j : Fin 256, Ideal.exp2 (v (ix3 (0 : Fin 1) h j) - m (ix2 h (0 : Fin 1))) := by
  have e : ∀ j : Fin 256, Ideal.exp2 (v (ix3 (0 : Fin 1) h j) - m (ix2 h (0 : Fin 1))) = k0_pay8 (F := Ideal) m v (ix2 h j) :=
    fun j => (pay8_apply m v h j).symm
  simp only [e]
  unfold k0_pay10
  pointwise <;> rfl

/-- The inverse of the sum. -/
theorem pay14_apply (l : FVec Ideal S128x1 .f32) (h : Fin 128) :
    k0_pay14 (F := Ideal) l (ix2 h (0 : Fin 1)) = Ideal.div 1 (l (ix2 h (0 : Fin 1))) := by
  unfold k0_pay14
  pointwise <;> rfl

/-- The new token's weighted entry. -/
theorem pay15_apply (s0 m l : FVec Ideal S128x1 .f32) (kv : Vec Ideal S1x1x512 .bf16) (h : Fin 128) (c : Fin 512) :
    k0_pay15 (F := Ideal) s0 m l kv (ix2 h c)
      = (Ideal.exp2 (s0 (ix2 h (0 : Fin 1)) - m (ix2 h (0 : Fin 1))) * Ideal.div 1 (l (ix2 h (0 : Fin 1)))) * kv (ix3 (0 : Fin 1) (0 : Fin 1) c) := by
  rw [← pay7_apply, ← pay14_apply]
  unfold k0_pay15
  pointwise <;> rfl

/-- The weighted sum so far plus one block's. -/
theorem pay16_apply (l : FVec Ideal S128x1 .f32) (acc : FVec Ideal S128x512 .f32) (e : Vec Ideal S1x128x256 .f32) (lat : Vec Ideal S256x512 .bf16) (h : Fin 128) (c : Fin 512) :
    k0_pay16 (F := Ideal) l acc e lat (ix2 h c)
      = acc (ix2 h c) + ∑ j : Fin 256, (e (ix3 (0 : Fin 1) h j) * Ideal.div 1 (l (ix2 h (0 : Fin 1)))) * lat (ix2 j c) := by
  have e2 := Ideal.matmul_plain_apply (φ₁ := .bf16) (φ₂ := .bf16) none
    (mulf (F := Ideal) (φ := .f32) (shapeCast S128x256 e shapeCasts_S1x128x256_S128x256) (broadcastTo S128x256 (k0_pay14 (F := Ideal) l) broadcasts_S128x1_S128x256))
    lat (constant S128x512 .f32 0x00000000#32) h c
  have e3 : ∀ j : Fin 256, (mulf (F := Ideal) (φ := .f32) (shapeCast S128x256 e shapeCasts_S1x128x256_S128x256) (broadcastTo S128x256 (k0_pay14 (F := Ideal) l) broadcasts_S128x1_S128x256)) (ix2 h j)
      = e (ix3 (0 : Fin 1) h j) * Ideal.div 1 (l (ix2 h (0 : Fin 1))) := by
    intro j
    rw [← pay14_apply]
    pointwise <;> rfl
  have e0 : (constant (F := Ideal) S128x512 .f32 0x00000000#32) (ix2 h c) = (0 : EReal) := Ideal.ofBits_zero_f32
  rw [e0, zero_add] at e2
  simp only [e3] at e2
  unfold k0_pay16
  exact congrArg (fun a : EReal => acc (ix2 h c) + a) e2

/-- The block to be stored is the weighted sum. -/
theorem pay18_apply (v : FVec Ideal S128x512 .f32) (h : Fin 128) (c : Fin 512) :
    k0_pay18 (F := Ideal) v (ix4 (0 : Fin 1) (0 : Fin 1) h c) = v (ix2 h c) := by
  unfold k0_pay18
  pointwise <;> rfl

end Cert.KernelIdeal.Hand

end

end
-- ==== Proof.KerBias.lean ====
module

public import proofs.«01_k».proof.Proof.KerRead
public import Idealize.ShloMosaic.Lib.WordArith

@[expose] public section

set_option maxRecDepth 16384

/-! The kernel's bias: the logarithm, to base two, of how often each position is selected. -/

noncomputable section

namespace Cert.KernelIdeal.Hand

open Idealize.ShloMosaic hiding ix1 ix2 ix3 ix4
open Cert.KernelIdeal Cert.KernelIdeal.Gen Idealize.ShloMosaic.TcCoe ValueIdx

/-- The quotient of a position by 128, minus one for a negative word. -/
def hiW (w : BitVec 32) : BitVec 32 :=
  Scalar.select (IntOp.cmpi .sge w 0#32)
    (Scalar.select (IntOp.andi (IntOp.cmpi .ne (IntOp.subi ((IntOp.cmpi .sgt w 0#32).setWidth 32) ((IntOp.cmpi .slt w 0#32).setWidth 32)) 1#32)
        (IntOp.cmpi .ne (IntOp.remsi .vector w 128#32) 0#32))
      (IntOp.subi (IntOp.divsi .vector w 128#32) 1#32) (IntOp.divsi .vector w 128#32)) 4294967295#32

/-- The remainder of a position by 128. -/
def loW (w : BitVec 32) : BitVec 32 :=
  Scalar.select (IntOp.andi (IntOp.xori (IntOp.cmpi .slt (IntOp.remsi .vector w 128#32) 0#32) 0#1) (IntOp.cmpi .ne (IntOp.remsi .vector w 128#32) 0#32))
    (IntOp.addi (IntOp.remsi .vector w 128#32) 128#32) (IntOp.remsi .vector w 128#32)

/-- Division by 128 never overflows. -/
theorem not_corner (w : BitVec 32) : ¬ IntOp.SDivCorner w 128#32 := by
  intro h
  rcases h with h | ⟨_, h⟩ <;> revert h <;> decide

/-- A word read as a number at least zero has its sign bit clear. -/
theorem msb_of_nonneg (w : BitVec 32) (h : 0 ≤ w.toInt) : w.msb = false := by
  rw [BitVec.msb_eq_toInt]; simpa using h

/-- The quotient by 128 of a word at least zero. -/
theorem divW (w : BitVec 32) (h : 0 ≤ w.toInt) : IntOp.divsi .vector w 128#32 = BitVec.ofNat 32 (w.toNat / 128) := by
  rw [IntOp.divsi, if_neg (not_corner w), BitVec.sdiv_eq, msb_of_nonneg w h]
  show w.udiv 128#32 = _
  apply BitVec.eq_of_toNat_eq
  have := w.isLt
  rw [BitVec.udiv_eq, BitVec.toNat_udiv, BitVec.toNat_ofNat, BitVec.toNat_ofNat, show 128 % 2 ^ 32 = 128 from by norm_num]
  omega

/-- The remainder by 128 of a word at least zero. -/
theorem remW (w : BitVec 32) (h : 0 ≤ w.toInt) : IntOp.remsi .vector w 128#32 = BitVec.ofNat 32 (w.toNat % 128) := by
  rw [IntOp.remsi, if_neg (not_corner w), BitVec.srem_eq, msb_of_nonneg w h]
  show w.umod 128#32 = _
  apply BitVec.eq_of_toNat_eq
  have := w.isLt
  rw [BitVec.umod_eq, BitVec.toNat_umod, BitVec.toNat_ofNat, BitVec.toNat_ofNat, show 128 % 2 ^ 32 = 128 from by norm_num]
  omega

/-- A word at least zero reads the same with and without sign. -/
theorem toNat_of_nonneg (w : BitVec 32) (h : 0 ≤ w.toInt) : w.toInt = w.toNat :=
  BitVec.toInt_eq_toNat_of_msb (msb_of_nonneg w h)

/-- The upper part of a selected position is its quotient by 128. -/
theorem hiW_of_nonneg (w : BitVec 32) (h : 0 ≤ w.toInt) : hiW w = BitVec.ofNat 32 (w.toNat / 128) := by
  have h0 : (0#32 : BitVec 32).toInt = 0 := by decide
  have hge : IntOp.cmpi .sge w 0#32 = 1#1 := by
    have : (0#32 : BitVec 32).sle w = true := by rw [BitVec.sle_iff_toInt_le, h0]; exact h
    simp [IntOp.cmpi, this]
  have hlt : IntOp.cmpi .slt w 0#32 = 0#1 := by
    have : w.slt 0#32 = false := by
      rw [Bool.eq_false_iff]; intro e; rw [BitVec.slt_iff_toInt_lt, h0] at e; omega
    simp [IntOp.cmpi, this]
  have hand : IntOp.andi (IntOp.cmpi .ne (IntOp.subi ((IntOp.cmpi .sgt w 0#32).setWidth 32) ((IntOp.cmpi .slt w 0#32).setWidth 32)) 1#32)
        (IntOp.cmpi .ne (IntOp.remsi .vector w 128#32) 0#32) = 0#1 := by
    rw [hlt]
    by_cases hz : w = 0#32
    · subst hz; rw [remW _ h]; rfl
    · have hgt : IntOp.cmpi .sgt w 0#32 = 1#1 := by
        have : (0#32 : BitVec 32).slt w = true := by
          rw [BitVec.slt_iff_toInt_lt, h0]
          rcases lt_or_eq_of_le h with h1 | h1
          · exact h1
          · exact absurd (BitVec.eq_of_toInt_eq (by rw [← h1, h0])) hz
        simp [IntOp.cmpi, this]
      rw [hgt]
      show (IntOp.cmpi .ne 1#32 1#32) &&& _ = 0#1
      have : IntOp.cmpi .ne (1#32 : BitVec 32) 1#32 = 0#1 := by decide
      rw [this]
      exact BitVec.zero_and
  unfold hiW
  rw [hge, hand, divW w h]
  rfl

/-- The upper part of a negative word is minus one. -/
theorem hiW_of_neg (w : BitVec 32) (h : ¬ 0 ≤ w.toInt) : hiW w = 4294967295#32 := by
  have h0 : (0#32 : BitVec 32).toInt = 0 := by decide
  have hge : IntOp.cmpi .sge w 0#32 = 0#1 := by
    have : (0#32 : BitVec 32).sle w = false := by
      rw [Bool.eq_false_iff]; intro e; rw [BitVec.sle_iff_toInt_le, h0] at e; exact h e
    simp [IntOp.cmpi, this]
  unfold hiW
  rw [hge]
  rfl

/-- The lower part of a selected position is its remainder by 128. -/
theorem loW_of_nonneg (w : BitVec 32) (h : 0 ≤ w.toInt) : loW w = BitVec.ofNat 32 (w.toNat % 128) := by
  have hr := remW w h
  have hlt : IntOp.cmpi .slt (BitVec.ofNat 32 (w.toNat % 128)) 0#32 = 0#1 := by
    have : (BitVec.ofNat 32 (w.toNat % 128)).slt 0#32 = false := by
      rw [Bool.eq_false_iff]; intro e; rw [BitVec.slt_iff_toInt_lt, WordArith.toInt_ofNat_small _ (by omega)] at e
      have h0 : (0#32 : BitVec 32).toInt = 0 := by decide
      omega
    simp [IntOp.cmpi, this]
  unfold loW
  rw [hr, hlt]
  show Scalar.select ((0#1 ^^^ 0#1) &&& _) _ _ = _
  rw [show (0#1 ^^^ 0#1 : BitVec 1) = 0#1 from by decide, BitVec.zero_and]
  rfl

/-- Both one-hot comparisons hold exactly at the selected position. -/
theorem hot_iff (w : BitVec 32) (t l : ℕ) (ht : t < 16) (hl : l < 128) :
    (BitVec.ofNat 32 t = hiW w ∧ BitVec.ofNat 32 l = loW w) ↔ (0 ≤ w.toInt ∧ w.toInt.toNat = 128 * t + l) := by
  have hw := w.isLt
  by_cases h : 0 ≤ w.toInt
  · rw [hiW_of_nonneg w h, loW_of_nonneg w h, toNat_of_nonneg w h]
    constructor
    · rintro ⟨h1, h2⟩
      have h1 := congrArg BitVec.toNat h1
      have h2 := congrArg BitVec.toNat h2
      rw [BitVec.toNat_ofNat, BitVec.toNat_ofNat] at h1 h2
      refine ⟨by omega, ?_⟩
      rw [Int.toNat_natCast]
      omega
    · rintro ⟨_, h1⟩
      rw [Int.toNat_natCast] at h1
      rw [h1]
      exact ⟨congrArg _ (by omega), congrArg _ (by omega)⟩
  · rw [hiW_of_neg w h]
    refine ⟨fun e => ?_, fun e => absurd e.1 h⟩
    have h1 := congrArg BitVec.toNat e.1
    rw [BitVec.toNat_ofNat, BitVec.toNat_ofNat] at h1
    omega

/-- A comparison's bit, widened and converted: one or zero. -/
def hot (a b : BitVec 32) : EReal := FloatOps.sitofp (F := Ideal) .f32 ((IntOp.cmpi .eq a b).setWidth 32)

/-- A one-hot entry is one where the two words agree and zero elsewhere. -/
theorem hot_eq (a b : BitVec 32) : hot a b = if a = b then 1 else 0 := by
  show ((((IntOp.cmpi .eq a b).setWidth 32).toInt : ℝ) : EReal) = _
  by_cases h : a = b
  · have : IntOp.cmpi .eq a b = 1#1 := by simp [IntOp.cmpi, h]
    rw [this, if_pos h, show ((1#1 : BitVec 1).setWidth 32).toInt = 1 from by decide]
    norm_num
  · have : IntOp.cmpi .eq a b = 0#1 := by
      show BitVec.ofBool (a == b) = 0#1
      rw [beq_eq_false_iff_ne.mpr h]; rfl
    rw [this, if_neg h, show ((0#1 : BitVec 1).setWidth 32).toInt = 0 from by decide]
    norm_num

/-- A sum of ones and zeros counts the ones. -/
theorem sum_hot {ι : Type} [Fintype ι] (p : ι → Prop) [DecidablePred p] :
    (∑ k : ι, if p k then (1 : EReal) else 0) = (((Finset.univ.filter p).card : ℝ) : EReal) := by
  rw [Finset.sum_ite, Finset.sum_const_zero, add_zero, Finset.sum_const, nsmul_one]
  simp

/-- How often position `128 t + l` is selected, as the kernel's product of two one-hot tables. -/
theorem count_eq (idx : Vec Ideal S1x1x512 .i32) (t : Fin 16) (l : Fin 128) :
    (∑ k : Fin 512, hot (BitVec.ofNat 32 t.val) (hiW (idx (ix3 (0 : Fin 1) (0 : Fin 1) k))) * hot (BitVec.ofNat 32 l.val) (loW (idx (ix3 (0 : Fin 1) (0 : Fin 1) k))))
      = ((Softmax.cnt (Spec.valid fun k => idx (ix3 (0 : Fin 1) (0 : Fin 1) k)) (Spec.at_ fun k => idx (ix3 (0 : Fin 1) (0 : Fin 1) k)) (128 * t.val + l.val) : ℝ) : EReal) := by
  unfold Softmax.cnt
  rw [← sum_hot]
  refine Finset.sum_congr rfl fun k _ => ?_
  rw [hot_eq, hot_eq]
  have := hot_iff (idx (ix3 (0 : Fin 1) (0 : Fin 1) k)) t.val l.val t.isLt l.isLt
  by_cases hp : Spec.valid (fun k => idx (ix3 (0 : Fin 1) (0 : Fin 1) k)) k ∧ Spec.at_ (fun k => idx (ix3 (0 : Fin 1) (0 : Fin 1) k)) k = 128 * t.val + l.val
  · obtain ⟨h1, h2⟩ := this.mpr hp
    rw [if_pos hp, if_pos h1, if_pos h2, one_mul]
  · rw [if_neg hp]
    by_cases h1 : BitVec.ofNat 32 t.val = hiW (idx (ix3 (0 : Fin 1) (0 : Fin 1) k))
    · rw [if_neg (fun h2 => hp (this.mp ⟨h1, h2⟩)), mul_zero]
    · rw [if_neg h1, zero_mul]

/-- The upper parts of the selected positions, at an index. -/
theorem pay28_apply (idx : Vec Ideal S1x1x512 .i32) (k : Fin 512) :
    k0_pay28 (F := Ideal) idx (ix2 (0 : Fin 1) k) = hiW (idx (ix3 (0 : Fin 1) (0 : Fin 1) k)) := by
  have e : k0_pay27 (F := Ideal) idx (ix2 (0 : Fin 1) k) = idx (ix3 (0 : Fin 1) (0 : Fin 1) k) := by
    unfold k0_pay27
    pointwise <;> rfl
  rw [← e]
  rfl

/-- The low digit as the kernel builds it. -/
def loV (idx : Vec Ideal S1x1x512 .i32) : IVec S1x512 32 :=
  select (andi (xori (k0_pay31 (F := Ideal) idx) k0_pay32) (k0_pay30 (F := Ideal) idx))
    (addi (k0_pay29 (F := Ideal) idx) (broadcast S1x512 128#32)) (k0_pay29 (F := Ideal) idx)

/-- The lower parts of the selected positions, at an index. -/
theorem loV_apply (idx : Vec Ideal S1x1x512 .i32) (k : Fin 512) :
    loV idx (ix2 (0 : Fin 1) k) = loW (idx (ix3 (0 : Fin 1) (0 : Fin 1) k)) := by
  have e : k0_pay27 (F := Ideal) idx (ix2 (0 : Fin 1) k) = idx (ix3 (0 : Fin 1) (0 : Fin 1) k) := by
    unfold k0_pay27
    pointwise <;> rfl
  rw [← e]
  rfl

/-- The count table before the logarithm. -/
def cntV (idx : Vec Ideal S1x1x512 .i32) : FVec Ideal S16x128 .f32 :=
  matmul (φ₁ := .bf16) (φ₂ := .bf16) dot_S16x512_S128x512_S16x128_1_1_0_0_n_n none
    (truncf .bf16 (sitofp .f32 (extui 32 (cmpi .eq (iota .tc S16x512 32 [0] iota_S16x512_d0_w32) (broadcastTo S16x512 (k0_pay28 (F := Ideal) idx) broadcasts_S1x512_S16x512)) natLt_1_32)) bitsLt_bf16_f32)
    (truncf .bf16 (sitofp .f32 (extui 32 (cmpi .eq (iota .tc S128x512 32 [0] iota_S128x512_d0_w32) (broadcastTo S128x512 (loV idx) broadcasts_S1x512_S128x512)) natLt_1_32)) bitsLt_bf16_f32)
    (constant S16x128 .f32 0x00000000#32)

/-- The product of the two one-hot matrices, at an index, is the count of that position. -/
theorem cntV_apply (idx : Vec Ideal S1x1x512 .i32) (t : Fin 16) (l : Fin 128) :
    cntV idx (ix2 t l)
      = ((Softmax.cnt (Spec.valid fun k => idx (ix3 (0 : Fin 1) (0 : Fin 1) k)) (Spec.at_ fun k => idx (ix3 (0 : Fin 1) (0 : Fin 1) k)) (128 * t.val + l.val) : ℝ) : EReal) := by
  rw [← count_eq]
  have e1 : ∀ k : Fin 512, broadcastTo S16x512 (k0_pay28 (F := Ideal) idx) broadcasts_S1x512_S16x512 (ix2 t k) = hiW (idx (ix3 (0 : Fin 1) (0 : Fin 1) k)) := by
    intro k
    rw [← pay28_apply]
    pointwise <;> rfl
  have e2 : ∀ k : Fin 512, broadcastTo S128x512 (loV idx) broadcasts_S1x512_S128x512 (ix2 l k) = loW (idx (ix3 (0 : Fin 1) (0 : Fin 1) k)) := by
    intro k
    rw [← loV_apply]
    pointwise <;> rfl
  refine (Ideal.matmul_transposedRhs_apply (φ₁ := .bf16) (φ₂ := .bf16) none _ _ _ t l).trans ?_
  have e0 : (constant (F := Ideal) S16x128 .f32 0x00000000#32) (ix2 t l) = (0 : EReal) := Ideal.ofBits_zero_f32
  rw [e0, zero_add]
  refine Finset.sum_congr rfl fun k _ => ?_
  have i1 : iota .tc S16x512 32 [0] iota_S16x512_d0_w32 (ix2 t k) = BitVec.ofNat 32 t.val := by pointwise <;> rfl
  have i2 : iota .tc S128x512 32 [0] iota_S128x512_d0_w32 (ix2 l k) = BitVec.ofNat 32 l.val := by pointwise <;> rfl
  rw [← e1, ← e2, ← i1, ← i2]
  rfl

/-- The stored bias is the logarithm of that product where it is positive, and minus infinity elsewhere. -/
theorem bias_split (idx : Vec Ideal S1x1x512 .i32) :
    bias (F := Ideal) idx = shapeCast S16x1x128 (shapeCast S16x1x128
      (select (cmpf .ogt (cntV idx) (broadcast S16x128 (Scalar.ofBits (F := Ideal) .f32 0x00000000#32)))
        (mulf (log (cntV idx)) (broadcast S16x128 (Named.named (F := Ideal) (φ := .f32) κ "log2e" 0x3FB8AA3B#32)))
        (broadcast S16x128 (Scalar.ofBits (F := Ideal) .f32 0xFF800000#32))) shapeCasts_S16x128_S16x1x128) shapeCasts_S16x1x128_S16x1x128 := rfl

/-- The bias of position `128 t + l`. -/
theorem bias_apply (idx : Vec Ideal S1x1x512 .i32) (t : Fin 16) (l : Fin 128) :
    bias (F := Ideal) idx (ix3 t (0 : Fin 1) l)
      = Softmax.bias (Spec.valid fun k => idx (ix3 (0 : Fin 1) (0 : Fin 1) k)) (Spec.at_ fun k => idx (ix3 (0 : Fin 1) (0 : Fin 1) k)) (128 * t.val + l.val) := by
  rw [bias_split, named_log2e, shapeCast_id]
  have e : ∀ (f : FVec Ideal S16x128 .f32), shapeCast S16x1x128 f shapeCasts_S16x128_S16x1x128 (ix3 t (0 : Fin 1) l) = f (ix2 t l) := by
    intro f
    pointwise <;> rfl
  rw [e]
  show Scalar.select (FloatOps.cmpf (F := Ideal) (φ := .f32) .ogt (cntV idx (ix2 t l)) (Ideal.ofBits .f32 0x00000000#32)) (Ideal.log (cntV idx (ix2 t l)) * Softmax.c2) (Ideal.ofBits .f32 0xFF800000#32) = _
  rw [cntV_apply, Ideal.ofBits_zero_f32, show Ideal.ofBits .f32 0xFF800000#32 = ⊥ from by simp [Ideal.ofBits, Ideal.ieee]]
  unfold Softmax.bias
  by_cases h : 0 < Softmax.cnt (Spec.valid fun k => idx (ix3 (0 : Fin 1) (0 : Fin 1) k)) (Spec.at_ fun k => idx (ix3 (0 : Fin 1) (0 : Fin 1) k)) (128 * t.val + l.val)
  · rw [if_pos h]
    refine if_pos ?_
    have : (0 : EReal) < ((Softmax.cnt (Spec.valid fun k => idx (ix3 (0 : Fin 1) (0 : Fin 1) k)) (Spec.at_ fun k => idx (ix3 (0 : Fin 1) (0 : Fin 1) k)) (128 * t.val + l.val) : ℝ) : EReal) := by
      exact_mod_cast h
    show BitVec.ofBool (decide _) = 1
    rw [decide_eq_true this]
    rfl
  · rw [if_neg h]
    refine if_neg ?_
    have hz : Softmax.cnt (Spec.valid fun k => idx (ix3 (0 : Fin 1) (0 : Fin 1) k)) (Spec.at_ fun k => idx (ix3 (0 : Fin 1) (0 : Fin 1) k)) (128 * t.val + l.val) = 0 := by omega
    rw [hz]
    show ¬ BitVec.ofBool (decide _) = 1
    have : ¬ (0 : EReal) < (((0 : ℕ) : ℝ) : EReal) := by simp
    rw [decide_eq_false this]
    decide

end Cert.KernelIdeal.Hand

end

end
-- ==== Proof.KerOut.lean ====
module

public import proofs.«01_k».proof.Proof.KerBias
public import proofs.«01_k».proof.Proof.Top

@[expose] public section

set_option maxRecDepth 16384

/-! What one grid point stores, as the attention formula over its input blocks. -/

noncomputable section

namespace Cert.KernelIdeal.Hand

open Idealize.ShloMosaic hiding ix1 ix2 ix3 ix4
open Cert.KernelIdeal Cert.KernelIdeal.Gen Idealize.ShloMosaic.TcCoe ValueIdx

namespace Blocks

variable (b : Blocks Ideal) (h : Fin 128)

/-! The blocks as functions of positions, groups and columns. -/
def codesF (j : Fin 2048) (c : Fin 512) : EReal := b.codes (ix3 (0 : Fin 1) j c)
def scaleF (j : Fin 2048) (g : Fin 4) : EReal := b.scale (ix3 (0 : Fin 1) g j)
def kropeF (j : Fin 2048) (r : Fin 64) : EReal := b.krope (ix3 (0 : Fin 1) r j)
def xF (c : Fin 512) : EReal := b.q (ix4 (0 : Fin 1) (0 : Fin 1) h c)
def qF (r : Fin 64) : EReal := b.qr (ix4 (0 : Fin 1) (0 : Fin 1) r h)
def kvF (c : Fin 512) : EReal := b.kvn (ix3 (0 : Fin 1) (0 : Fin 1) c)
def krnF (r : Fin 64) : EReal := b.krn (ix3 (0 : Fin 1) (0 : Fin 1) r)
def idxF (k : Fin 512) : BitVec 32 := b.idx (ix3 (0 : Fin 1) (0 : Fin 1) k)

/-- The score of position `j` for head `h`. -/
def sF (j : ℕ) : EReal := Spec.score b.codesF b.scaleF b.kropeF (b.xF h) (b.qF h) j
/-- The new token's score for head `h`. -/
def s0F : EReal := Spec.score0 (b.xF h) (b.qF h) b.kvF b.krnF
/-- The biased score of position `j`. -/
def sKF (j : ℕ) : EReal := Softmax.sK (Spec.valid b.idxF) (Spec.at_ b.idxF) (b.sF h) j

/-- The kernel's folded factor is the scale times the factor to binary logarithms. -/
theorem sig2_eq : sig2 = Spec.sigma * Softmax.c2 := EReal.coe_mul _ _

/-- The new token's score, in binary logarithms. -/
theorem s0_apply : b.s0 (ix2 h (0 : Fin 1)) = b.s0F h * Softmax.c2 := by
  refine (pay37_apply b.q b.qr b.kvn b.krn h).trans ?_
  rw [sig2_eq, ← mul_assoc]
  rfl

/-- A position of a visited block is a position of the cache. -/
theorem pos_eq (k : ℕ) (hk : k < 8) (j : ℕ) (hj : j < 256) :
    (⟨(256 * k + j) % 2048, Nat.mod_lt _ (by decide)⟩ : Fin 2048) = Spec.pos (256 * k + j) :=
  Fin.ext (by show (256 * k + j) % 2048 = min (256 * k + j) 2047; omega)

/-- The latents computed for one block of positions. -/
theorem tile_apply (k : ℕ) (hk : k < 8) (j : Fin 256) (c : Fin 512) :
    k0_pay19 (F := Ideal) (blk5 b.codes k) (blk6 b.scale k) (ix2 j c) = Spec.lat b.codesF b.scaleF (256 * k + j.val) c := by
  rw [pay19_apply]
  unfold Spec.lat
  rw [← pos_eq k hk j.val j.isLt]
  rfl

/-- The latents kept for one block of positions. -/
theorem lat_apply (k : ℕ) (hk : k < 8) (j : Fin 256) (c : Fin 512) :
    b.lat k (ix2 j c) = Spec.lat b.codesF b.scaleF (256 * k + j.val) c :=
  (pay20_apply _ _ j c).trans (tile_apply b k hk j c)

/-- The scores of one block before the bias. -/
theorem sLo_apply (k : ℕ) (hk : k < 8) (j : Fin 256) : b.sLo k (ix2 h j) = b.sF h (256 * k + j.val) * Softmax.c2 := by
  refine (pay21_apply _ _ _ _ _ h j).trans ?_
  rw [sig2_eq, ← mul_assoc]
  unfold sF Spec.score Spec.raw
  refine congrArg (fun z : EReal => z * Spec.sigma * Softmax.c2) (congrArg₂ (· + ·) (Finset.sum_congr rfl fun c _ => ?_) (Finset.sum_congr rfl fun r _ => ?_))
  · rw [pay35_apply, tile_apply b k hk j c]; rfl
  · rw [pay36_apply, ← pos_eq k hk j.val j.isLt]; rfl

/-- The scores of the first 128 positions of one block before the bias. -/
theorem sHi_apply (k : ℕ) (hk : k < 8) (j : Fin 128) : b.sHi k (ix2 h j) = b.sF h (256 * k + j.val) * Softmax.c2 :=
  (pay22_apply _ _ _ _ _ h j).trans (sLo_apply b h k hk ⟨j.val, by omega⟩)

/-- A row of the bias, by position. -/
theorem biasRow_apply (k : ℕ) (hk : k < 16) (l : Fin 128) :
    biasRow (bias (F := Ideal) b.idx) k (ix3 (0 : Fin 1) (0 : Fin 1) l) = Softmax.bias (Spec.valid b.idxF) (Spec.at_ b.idxF) (128 * k + l.val) := by
  refine (bias_apply b.idx ⟨k % 16, Nat.mod_lt _ (by decide)⟩ l).trans ?_
  show Softmax.bias _ _ (128 * (k % 16) + l.val) = _
  rw [Nat.mod_eq_of_lt hk]
  rfl

/-- The scores of one block with the bias. -/
theorem pay1_eq (k : ℕ) (hk : k < 8) (j : Fin 256) :
    k0_pay1 (F := Ideal) (b.sLo k) (b.sHi k) (biasRow (bias b.idx) (2 * k)) (biasRow (bias b.idx) (2 * k + 1)) (ix2 h j) = b.sKF h (256 * k + j.val) := by
  have hj := j.isLt
  by_cases hlt : j.val < 128
  · rw [pay1_lo _ _ _ _ h j hlt, sHi_apply b h k hk, biasRow_apply b (2 * k) (by omega)]
    unfold sKF Softmax.sK
    show _ + Softmax.bias _ _ (128 * (2 * k) + j.val) = _
    rw [show 128 * (2 * k) + j.val = 256 * k + j.val from by omega]
  · rw [pay1_hi _ _ _ _ h j hlt, sLo_apply b h k hk, biasRow_apply b (2 * k + 1) (by omega)]
    unfold sKF Softmax.sK
    show _ + Softmax.bias _ _ (128 * (2 * k + 1) + (j.val - 128)) = _
    rw [show 128 * (2 * k + 1) + (j.val - 128) = 256 * k + j.val from by omega]

/-- The scores kept for one block. -/
theorem sc_apply (k : ℕ) (hk : k < 8) (j : Fin 256) : b.sc k (ix3 (0 : Fin 1) h j) = b.sKF h (256 * k + j.val) :=
  (pay2_apply _ _ _ _ h j).trans (pay1_eq b h k hk j)

/-- A maximum over positions, one block of 256 further. -/
theorem sup_range_tile (f : ℕ → EReal) (k : ℕ) :
    (Finset.range (256 * (k + 1))).sup f = max ((Finset.range (256 * k)).sup f) ((Finset.univ : Finset (Fin 256)).sup fun j => f (256 * k + j.val)) := by
  apply le_antisymm
  · refine Finset.sup_le fun i hi => ?_
    have hi := Finset.mem_range.mp hi
    by_cases h1 : i < 256 * k
    · exact le_max_of_le_left (Finset.le_sup (f := f) (Finset.mem_range.mpr h1))
    · refine le_max_of_le_right ?_
      have := Finset.le_sup (f := fun j : Fin 256 => f (256 * k + j.val)) (Finset.mem_univ (⟨i - 256 * k, by omega⟩ : Fin 256))
      have e : 256 * k + (i - 256 * k) = i := by omega
      simpa only [e] using this
  · refine max_le (Finset.sup_le fun i hi => ?_) (Finset.sup_le fun j _ => ?_)
    · have hi := Finset.mem_range.mp hi
      exact Finset.le_sup (f := f) (Finset.mem_range.mpr (by omega))
    · have hj := j.isLt
      exact Finset.le_sup (f := f) (Finset.mem_range.mpr (by omega))

/-- A sum over positions, one block of 256 further. -/
theorem sum_range_tile (f : ℕ → EReal) (k : ℕ) :
    ∑ j ∈ Finset.range (256 * (k + 1)), f j = (∑ j ∈ Finset.range (256 * k), f j) + ∑ j : Fin 256, f (256 * k + j.val) := by
  rw [show 256 * (k + 1) = 256 * k + 256 from by omega, Finset.sum_range_add, Finset.sum_range (fun x => f (256 * k + x))]

/-- The maximum after `k` blocks. -/
theorem mx_apply : ∀ k, k ≤ 8 → b.mx k (ix2 h (0 : Fin 1)) = max (b.s0F h * Softmax.c2) ((Finset.range (256 * k)).sup (b.sKF h))
  | 0, _ => by
    rw [Nat.mul_zero, Finset.range_zero, Finset.sup_empty, max_eq_left bot_le]
    exact s0_apply b h
  | k + 1, hk => by
    refine (pay3_apply _ _ _ _ _ h).trans ?_
    rw [mx_apply k (by omega), sup_range_tile, max_assoc]
    refine congrArg (fun z => max (b.s0F h * Softmax.c2) (max ((Finset.range (256 * k)).sup (b.sKF h)) z)) (Finset.sup_congr rfl fun j _ => ?_)
    exact pay1_eq b h k (by omega) j

/-- The maximum over all scores of head `h`. -/
def mF : EReal := Softmax.mK (Spec.valid b.idxF) (Spec.at_ b.idxF) (b.sF h) (b.s0F h) (256 * b.n)

variable (hn : b.n ≤ 8)
include hn

/-- The maximum after all visited blocks. -/
theorem m_apply : b.m (ix2 h (0 : Fin 1)) = b.mF h := mx_apply b h b.n hn

/-- The exponentials kept for one block. -/
theorem e_apply (k : ℕ) (hk : k < 8) (j : Fin 256) : b.e k (ix3 (0 : Fin 1) h j) = Ideal.exp2 (b.sKF h (256 * k + j.val) - b.mF h) := by
  refine (pay9_apply _ _ h j).trans ?_
  rw [sc_apply b h k hk, m_apply b h hn]

/-- The sum of the exponentials after `k` blocks. -/
theorem l_apply : ∀ k, k ≤ 8 → b.l k (ix2 h (0 : Fin 1))
    = Ideal.exp2 (b.s0F h * Softmax.c2 - b.mF h) + ∑ j ∈ Finset.range (256 * k), Ideal.exp2 (b.sKF h j - b.mF h)
  | 0, _ => by
    rw [Nat.mul_zero, Finset.range_zero, Finset.sum_empty, add_zero]
    refine (pay7_apply _ _ h).trans ?_
    rw [s0_apply, m_apply b h hn]
  | k + 1, hk => by
    refine (pay10_apply _ _ _ h).trans ?_
    rw [l_apply k (by omega), sum_range_tile, add_assoc]
    refine congrArg (fun z => Ideal.exp2 (b.s0F h * Softmax.c2 - b.mF h) + ((∑ j ∈ Finset.range (256 * k), Ideal.exp2 (b.sKF h j - b.mF h)) + z)) (Finset.sum_congr rfl fun j _ => ?_)
    rw [sc_apply b h k (by omega), m_apply b h hn]

/-- The denominator of head `h`. -/
def lF : EReal := Softmax.lK (Spec.valid b.idxF) (Spec.at_ b.idxF) (b.sF h) (b.s0F h) (256 * b.n)

/-- The weighted sum of latents after `k` blocks. -/
theorem acc_apply (c : Fin 512) : ∀ k, k ≤ 8 → b.acc k (ix2 h c)
    = (Ideal.exp2 (b.s0F h * Softmax.c2 - b.mF h) * Ideal.div 1 (b.lF h)) * b.kvF c
      + ∑ j ∈ Finset.range (256 * k), (Ideal.exp2 (b.sKF h j - b.mF h) * Ideal.div 1 (b.lF h)) * Spec.lat b.codesF b.scaleF j c
  | 0, _ => by
    rw [Nat.mul_zero, Finset.range_zero, Finset.sum_empty, add_zero]
    refine (pay15_apply _ _ _ _ h c).trans ?_
    rw [s0_apply, m_apply b h hn, l_apply b h hn b.n hn]
    rfl
  | k + 1, hk => by
    refine (pay16_apply _ _ _ _ h c).trans ?_
    rw [acc_apply c k (by omega), sum_range_tile, add_assoc, l_apply b h hn b.n hn]
    refine congrArg₂ (· + ·) rfl (congrArg₂ (· + ·) rfl (Finset.sum_congr rfl fun j _ => ?_))
    rw [e_apply b h hn k (by omega) j, lat_apply b k (by omega) j c]
    rfl

/-- The stored result is the softmax sum over the visited positions. -/
theorem out_apply (c : Fin 512) : b.out (ix4 (0 : Fin 1) (0 : Fin 1) h c)
    = Softmax.outK (Spec.valid b.idxF) (Spec.at_ b.idxF) (b.sF h) (fun j => Spec.lat b.codesF b.scaleF j c) (b.s0F h) (b.kvF c) (256 * b.n) :=
  (pay18_apply _ h c).trans (acc_apply b h hn c b.n hn)

omit hn in
/-- What one grid point stores for head `h`, column `c`, when every selected position is below 2048. -/
theorem out_eq_result (hidx : ∀ k, (b.idxF k).toInt < 2048) (c : Fin 512) :
    b.out (ix4 (0 : Fin 1) (0 : Fin 1) h c)
      = Spec.result b.codesF b.scaleF b.kropeF (b.xF h) (b.qF h) b.kvF b.krnF b.idxF c := by
  have hx : ∀ B : ℤ, -2147483648 < B → ((top (F := Ideal) b.idx).toInt < B ↔ ∀ k, (b.idxF k).toInt < B) := by
    intro B hB
    rw [top_lt_iff _ _ hB]
    constructor
    · intro e k; exact e _
    · intro e x
      have : x = ix3 (0 : Fin 1) (0 : Fin 1) (x 2 : Fin 512) := funext fun a => by
        match a with
        | ⟨0, _⟩ => exact Subsingleton.elim (α := Fin 1) _ _
        | ⟨1, _⟩ => exact Subsingleton.elim (α := Fin 1) _ _
        | ⟨2, _⟩ => rfl
      rw [this]
      exact e _
  have ht : (top (F := Ideal) b.idx).toInt < 2048 := (hx 2048 (by norm_num)).mpr hidx
  have hn : b.n ≤ 8 := tiles_le _ ht
  rw [out_apply b h hn c]
  refine Softmax.outK_eq_outR _ _ _ _ _ _ _ fun k hk => ?_
  have hk0 : 0 ≤ (b.idxF k).toInt := hk
  have hle : (b.idxF k).toInt ≤ (top (F := Ideal) b.idx).toInt := by
    by_contra hc
    exact absurd ((hx (b.idxF k).toInt (by omega)).mp (by omega) k) (lt_irrefl _)
  show (b.idxF k).toInt.toNat < 256 * tiles (top b.idx)
  rw [tiles_of_nonneg _ ht (by omega)]
  omega

end Blocks

end Cert.KernelIdeal.Hand

end

end
-- ==== Proof.KerArray.lean ====
module

public import proofs.«01_k».proof.Proof.KerOut
public import proofs.«01_k».proof.Proof.Point
public import Idealize.ShloMosaic.Lib.Pipeline.ValueKit

@[expose] public section

set_option maxRecDepth 16384

/-! The kernel's result array, from the result block of each grid point. -/

noncomputable section

namespace Cert.KernelIdeal.Hand

open Idealize.ShloMosaic hiding ix1 ix2 ix3 ix4
open Cert.KernelIdeal Cert.KernelIdeal.Gen Idealize.ShloMosaic.TcCoe ValueIdx

variable (m : (ℓ : Loc nD τ sig) → Buf (Elt Ideal) ℓ) (c : Dev nD)

/-! The eight arguments. -/
def a0 : S64x1x128x512.Idx → EReal := m ((c : Thread nD τ).loc main_arg0)
def a1 : S64x1x128x64.Idx → EReal := m ((c : Thread nD τ).loc main_arg1)
def a2 : S64x1x512.Idx → EReal := m ((c : Thread nD τ).loc main_arg2)
def a3 : S64x1x64.Idx → EReal := m ((c : Thread nD τ).loc main_arg3)
def a4 : S64x2048x512.Idx → EReal := m ((c : Thread nD τ).loc main_arg4)
def a5 : S64x2048x4.Idx → EReal := m ((c : Thread nD τ).loc main_arg5)
def a6 : S64x2048x64.Idx → EReal := m ((c : Thread nD τ).loc main_arg6)
def a7 : S64x1x512.Idx → BitVec 32 := m ((c : Thread nD τ).loc main_arg7)

/-- The result at an index, as the attention formula over row `i 0` of the arguments. -/
def G (i : S64x1x128x512.Idx) : EReal :=
  Spec.result (fun j k => a4 m c (ix3 (i 0 : Fin 64) j k)) (fun j g => a5 m c (ix3 (i 0 : Fin 64) j g)) (fun j r => a6 m c (ix3 (i 0 : Fin 64) j r))
    (fun k => a0 m c (ix4 (i 0 : Fin 64) (0 : Fin 1) (i 2 : Fin 128) k)) (fun r => a1 m c (ix4 (i 0 : Fin 64) (0 : Fin 1) (i 2 : Fin 128) r))
    (fun k => a2 m c (ix3 (i 0 : Fin 64) (0 : Fin 1) k)) (fun r => a3 m c (ix3 (i 0 : Fin 64) (0 : Fin 1) r))
    (fun k => a7 m c (ix3 (i 0 : Fin 64) (0 : Fin 1) k)) (i 3 : Fin 512)

/-! The three transposed arguments. -/
/-- The rope query handed to the kernel is the argument with heads last. -/
theorem V_v0 : V m c main_v0 = transpose S64x1x64x128 [0, 1, 3, 2] (a1 m c) transposes_S64x1x128x64_S64x1x64x128_0_1_3_2 := by
  unfold V
  simp only [hostOps0, List.flatten_cons, List.flatten_nil, List.append_nil, List.cons_append, List.nil_append]
  after_results <;> rfl
/-- The scales handed to the kernel are the argument with positions last. -/
theorem V_v1 : V m c main_v1 = transpose S64x4x2048 [0, 2, 1] (a5 m c) transposes_S64x2048x4_S64x4x2048_0_2_1 := by
  unfold V
  simp only [hostOps0, List.flatten_cons, List.flatten_nil, List.append_nil, List.cons_append, List.nil_append]
  after_results <;> rfl
/-- The rope keys handed to the kernel are the argument with positions last. -/
theorem V_v2 : V m c main_v2 = transpose S64x64x2048 [0, 2, 1] (a6 m c) transposes_S64x2048x64_S64x64x2048_0_2_1 := by
  unfold V
  simp only [hostOps0, List.flatten_cons, List.flatten_nil, List.append_nil, List.cons_append, List.nil_append]
  after_results <;> rfl

/-- The transposed rope query at an index. -/
theorem tr0_apply (x : S64x1x128x64.Idx → EReal) (b : Fin 64) (r : Fin 64) (h : Fin 128) :
    transpose S64x1x64x128 [0, 1, 3, 2] x transposes_S64x1x128x64_S64x1x64x128_0_1_3_2 (ix4 b (0 : Fin 1) r h) = x (ix4 b (0 : Fin 1) h r) :=
  congrArg x (funext fun a => by match a with | ⟨0, _⟩ => rfl | ⟨1, _⟩ => rfl | ⟨2, _⟩ => rfl | ⟨3, _⟩ => rfl)
/-- The transposed scales at an index. -/
theorem tr1_apply (x : S64x2048x4.Idx → EReal) (b : Fin 64) (g : Fin 4) (j : Fin 2048) :
    transpose S64x4x2048 [0, 2, 1] x transposes_S64x2048x4_S64x4x2048_0_2_1 (ix3 b g j) = x (ix3 b j g) :=
  congrArg x (funext fun a => by match a with | ⟨0, _⟩ => rfl | ⟨1, _⟩ => rfl | ⟨2, _⟩ => rfl)
/-- The transposed rope keys at an index. -/
theorem tr2_apply (x : S64x2048x64.Idx → EReal) (b : Fin 64) (r : Fin 64) (j : Fin 2048) :
    transpose S64x64x2048 [0, 2, 1] x transposes_S64x2048x64_S64x64x2048_0_2_1 (ix3 b r j) = x (ix3 b j r) :=
  congrArg x (funext fun a => by match a with | ⟨0, _⟩ => rfl | ⟨1, _⟩ => rfl | ⟨2, _⟩ => rfl)

/-! Grid point `t` works on row `t`. -/
def row (t : Fin cfg0.N) : Fin 64 := ⟨t.val, t.isLt⟩
/-- The block of the query at point `t` is block `t` of the first axis. -/
theorem e0 : ∀ t : Fin cfg0.N, win0_0.index t = ![t.val, 0, 0, 0] := (by decide +kernel : ∀ t : Fin grid0.N, _)
/-- The block of the rope query at point `t` is block `t` of the first axis. -/
theorem e1 : ∀ t : Fin cfg0.N, win0_1.index t = ![t.val, 0, 0, 0] := (by decide +kernel : ∀ t : Fin grid0.N, _)
/-- The block of the new latent at point `t` is block `t` of the first axis. -/
theorem e2 : ∀ t : Fin cfg0.N, win0_2.index t = ![t.val, 0, 0] := (by decide +kernel : ∀ t : Fin grid0.N, _)
/-- The block of the new rope key at point `t` is block `t` of the first axis. -/
theorem e3 : ∀ t : Fin cfg0.N, win0_3.index t = ![t.val, 0, 0] := (by decide +kernel : ∀ t : Fin grid0.N, _)
/-- The block of the codes at point `t` is block `t` of the first axis. -/
theorem e4 : ∀ t : Fin cfg0.N, win0_4.index t = ![t.val, 0, 0] := (by decide +kernel : ∀ t : Fin grid0.N, _)
/-- The block of the scales at point `t` is block `t` of the first axis. -/
theorem e5 : ∀ t : Fin cfg0.N, win0_5.index t = ![t.val, 0, 0] := (by decide +kernel : ∀ t : Fin grid0.N, _)
/-- The block of the rope keys at point `t` is block `t` of the first axis. -/
theorem e6 : ∀ t : Fin cfg0.N, win0_6.index t = ![t.val, 0, 0] := (by decide +kernel : ∀ t : Fin grid0.N, _)
/-- The block of the selected positions at point `t` is block `t` of the first axis. -/
theorem e7 : ∀ t : Fin cfg0.N, win0_7.index t = ![t.val, 0, 0] := (by decide +kernel : ∀ t : Fin grid0.N, _)
/-- The block of the result at point `t` is block `t` of the first axis. -/
theorem e8 : ∀ t : Fin cfg0.N, win0_8.index t = ![t.val, 0, 0, 0] := (by decide +kernel : ∀ t : Fin grid0.N, _)

/-- Where an element of point `t`'s block of the query lies in the array. -/
theorem emb0 (t : Fin cfg0.N) (k : Fin 128) (l : Fin 512) : ((cfg0.win 0).blk t).view.emb (ix4 (0 : Fin 1) (0 : Fin 1) k l) = ix4 (row t) (0 : Fin 1) k l := by
  funext a; apply Fin.ext
  match a with
  | ⟨0, _⟩ => blk_simp [e0 t] <;> simp [ix4, row]
  | ⟨1, _⟩ => blk_simp [e0 t] <;> simp [ix4, row]
  | ⟨2, _⟩ => blk_simp [e0 t] <;> simp [ix4, row]
  | ⟨3, _⟩ => blk_simp [e0 t] <;> simp [ix4, row]

/-- Where an element of point `t`'s block of the rope query lies in the array. -/
theorem emb1 (t : Fin cfg0.N) (k : Fin 64) (l : Fin 128) : ((cfg0.win 1).blk t).view.emb (ix4 (0 : Fin 1) (0 : Fin 1) k l) = ix4 (row t) (0 : Fin 1) k l := by
  funext a; apply Fin.ext
  match a with
  | ⟨0, _⟩ => blk_simp [e1 t] <;> simp [ix4, row]
  | ⟨1, _⟩ => blk_simp [e1 t] <;> simp [ix4, row]
  | ⟨2, _⟩ => blk_simp [e1 t] <;> simp [ix4, row]
  | ⟨3, _⟩ => blk_simp [e1 t] <;> simp [ix4, row]

/-- Where an element of point `t`'s block of the new latent lies in the array. -/
theorem emb2 (t : Fin cfg0.N) (k : Fin 512) : ((cfg0.win 2).blk t).view.emb (ix3 (0 : Fin 1) (0 : Fin 1) k) = ix3 (row t) (0 : Fin 1) k := by
  funext a; apply Fin.ext
  match a with
  | ⟨0, _⟩ => blk_simp [e2 t] <;> simp [ix3, row]
  | ⟨1, _⟩ => blk_simp [e2 t] <;> simp [ix3, row]
  | ⟨2, _⟩ => blk_simp [e2 t] <;> simp [ix3, row]

/-- Where an element of point `t`'s block of the new rope key lies in the array. -/
theorem emb3 (t : Fin cfg0.N) (k : Fin 64) : ((cfg0.win 3).blk t).view.emb (ix3 (0 : Fin 1) (0 : Fin 1) k) = ix3 (row t) (0 : Fin 1) k := by
  funext a; apply Fin.ext
  match a with
  | ⟨0, _⟩ => blk_simp [e3 t] <;> simp [ix3, row]
  | ⟨1, _⟩ => blk_simp [e3 t] <;> simp [ix3, row]
  | ⟨2, _⟩ => blk_simp [e3 t] <;> simp [ix3, row]

/-- Where an element of point `t`'s block of the codes lies in the array. -/
theorem emb4 (t : Fin cfg0.N) (j : Fin 2048) (k : Fin 512) : ((cfg0.win 4).blk t).view.emb (ix3 (0 : Fin 1) j k) = ix3 (row t) j k := by
  funext a; apply Fin.ext
  match a with
  | ⟨0, _⟩ => blk_simp [e4 t] <;> simp [ix3, row]
  | ⟨1, _⟩ => blk_simp [e4 t] <;> simp [ix3, row]
  | ⟨2, _⟩ => blk_simp [e4 t] <;> simp [ix3, row]

/-- Where an element of point `t`'s block of the scales lies in the array. -/
theorem emb5 (t : Fin cfg0.N) (j : Fin 4) (k : Fin 2048) : ((cfg0.win 5).blk t).view.emb (ix3 (0 : Fin 1) j k) = ix3 (row t) j k := by
  funext a; apply Fin.ext
  match a with
  | ⟨0, _⟩ => blk_simp [e5 t] <;> simp [ix3, row]
  | ⟨1, _⟩ => blk_simp [e5 t] <;> simp [ix3, row]
  | ⟨2, _⟩ => blk_simp [e5 t] <;> simp [ix3, row]

/-- Where an element of point `t`'s block of the rope keys lies in the array. -/
theorem emb6 (t : Fin cfg0.N) (j : Fin 64) (k : Fin 2048) : ((cfg0.win 6).blk t).view.emb (ix3 (0 : Fin 1) j k) = ix3 (row t) j k := by
  funext a; apply Fin.ext
  match a with
  | ⟨0, _⟩ => blk_simp [e6 t] <;> simp [ix3, row]
  | ⟨1, _⟩ => blk_simp [e6 t] <;> simp [ix3, row]
  | ⟨2, _⟩ => blk_simp [e6 t] <;> simp [ix3, row]

/-- Where an element of point `t`'s block of the selected positions lies in the array. -/
theorem emb7 (t : Fin cfg0.N) (k : Fin 512) : ((cfg0.win 7).blk t).view.emb (ix3 (0 : Fin 1) (0 : Fin 1) k) = ix3 (row t) (0 : Fin 1) k := by
  funext a; apply Fin.ext
  match a with
  | ⟨0, _⟩ => blk_simp [e7 t] <;> simp [ix3, row]
  | ⟨1, _⟩ => blk_simp [e7 t] <;> simp [ix3, row]
  | ⟨2, _⟩ => blk_simp [e7 t] <;> simp [ix3, row]

/-- Where an element of point `t`'s block of the result lies in the array. -/
theorem emb8 (t : Fin cfg0.N) (k : Fin 128) (l : Fin 512) : ((cfg0.win 8).blk t).view.emb (ix4 (0 : Fin 1) (0 : Fin 1) k l) = ix4 (row t) (0 : Fin 1) k l := by
  funext a; apply Fin.ext
  match a with
  | ⟨0, _⟩ => blk_simp [e8 t] <;> simp [ix4, row]
  | ⟨1, _⟩ => blk_simp [e8 t] <;> simp [ix4, row]
  | ⟨2, _⟩ => blk_simp [e8 t] <;> simp [ix4, row]
  | ⟨3, _⟩ => blk_simp [e8 t] <;> simp [ix4, row]

/-- Point `t`'s block of the query is row `t` of the argument. -/
theorem rowOf0 (t : Fin cfg0.N) (h : Fin 128) (k : Fin 512) : (blocks m c t).xF h k = a0 m c (ix4 (row t) (0 : Fin 1) h k) := by
  show V m c main_arg0 (((cfg0.win 0).blk t).view.emb _) = _
  refine (congrArg (V m c main_arg0) (emb0 t h k)).trans ?_
  exact congrFun (V_main_arg0 m c) _
/-- Point `t`'s block of the rope query is row `t` of the argument. -/
theorem rowOf1 (t : Fin cfg0.N) (h : Fin 128) (r : Fin 64) : (blocks m c t).qF h r = a1 m c (ix4 (row t) (0 : Fin 1) h r) := by
  show V m c main_v0 (((cfg0.win 1).blk t).view.emb _) = _
  refine (congrArg (V m c main_v0) (emb1 t r h)).trans ?_
  exact (congrFun (V_v0 m c) _).trans (tr0_apply _ _ _ _)
/-- Point `t`'s block of the new latent is row `t` of the argument. -/
theorem rowOf2 (t : Fin cfg0.N) (k : Fin 512) : (blocks m c t).kvF k = a2 m c (ix3 (row t) (0 : Fin 1) k) := by
  show V m c main_arg2 (((cfg0.win 2).blk t).view.emb _) = _
  refine (congrArg (V m c main_arg2) (emb2 t k)).trans ?_
  exact congrFun (V_main_arg2 m c) _
/-- Point `t`'s block of the new rope key is row `t` of the argument. -/
theorem rowOf3 (t : Fin cfg0.N) (r : Fin 64) : (blocks m c t).krnF r = a3 m c (ix3 (row t) (0 : Fin 1) r) := by
  show V m c main_arg3 (((cfg0.win 3).blk t).view.emb _) = _
  refine (congrArg (V m c main_arg3) (emb3 t r)).trans ?_
  exact congrFun (V_main_arg3 m c) _
/-- Point `t`'s block of the codes is row `t` of the argument. -/
theorem rowOf4 (t : Fin cfg0.N) (j : Fin 2048) (k : Fin 512) : (blocks m c t).codesF j k = a4 m c (ix3 (row t) j k) := by
  show V m c main_arg4 (((cfg0.win 4).blk t).view.emb _) = _
  refine (congrArg (V m c main_arg4) (emb4 t j k)).trans ?_
  exact congrFun (V_main_arg4 m c) _
/-- Point `t`'s block of the scales is row `t` of the argument. -/
theorem rowOf5 (t : Fin cfg0.N) (j : Fin 2048) (g : Fin 4) : (blocks m c t).scaleF j g = a5 m c (ix3 (row t) j g) := by
  show V m c main_v1 (((cfg0.win 5).blk t).view.emb _) = _
  refine (congrArg (V m c main_v1) (emb5 t g j)).trans ?_
  exact (congrFun (V_v1 m c) _).trans (tr1_apply _ _ _ _)
/-- Point `t`'s block of the rope keys is row `t` of the argument. -/
theorem rowOf6 (t : Fin cfg0.N) (j : Fin 2048) (r : Fin 64) : (blocks m c t).kropeF j r = a6 m c (ix3 (row t) j r) := by
  show V m c main_v2 (((cfg0.win 6).blk t).view.emb _) = _
  refine (congrArg (V m c main_v2) (emb6 t r j)).trans ?_
  exact (congrFun (V_v2 m c) _).trans (tr2_apply _ _ _ _)
/-- Point `t`'s block of the selected positions is row `t` of the argument. -/
theorem rowOf7 (t : Fin cfg0.N) (k : Fin 512) : (blocks m c t).idxF k = a7 m c (ix3 (row t) (0 : Fin 1) k) := by
  show V m c main_arg7 (((cfg0.win 7).blk t).view.emb _) = _
  refine (congrArg (V m c main_arg7) (emb7 t k)).trans ?_
  exact congrFun (V_main_arg7 m c) _

/-- What grid point `t` stores, at an index. -/
theorem out_apply (hi : Cert.Pre_KernelIdeal m) (t : Fin cfg0.N) (h : Fin 128) (k : Fin 512) :
    (blocks m c t).out (ix4 (0 : Fin 1) (0 : Fin 1) h k) = G m c (ix4 (row t) (0 : Fin 1) h k) := by
  rw [Blocks.out_eq_result (blocks m c t) h (fun k => by rw [rowOf7]; exact idx_lt m hi c _) k]
  rw [show (blocks m c t).codesF = fun j k => a4 m c (ix3 (row t) j k) from funext fun j => funext fun k => rowOf4 m c t j k,
    show (blocks m c t).scaleF = fun j g => a5 m c (ix3 (row t) j g) from funext fun j => funext fun k => rowOf5 m c t j k,
    show (blocks m c t).kropeF = fun j r => a6 m c (ix3 (row t) j r) from funext fun j => funext fun k => rowOf6 m c t j k,
    show (blocks m c t).xF h = fun k => a0 m c (ix4 (row t) (0 : Fin 1) h k) from funext fun k => rowOf0 m c t h k,
    show (blocks m c t).qF h = fun r => a1 m c (ix4 (row t) (0 : Fin 1) h r) from funext fun k => rowOf1 m c t h k,
    show (blocks m c t).kvF = fun k => a2 m c (ix3 (row t) (0 : Fin 1) k) from funext fun k => rowOf2 m c t k,
    show (blocks m c t).krnF = fun k => a3 m c (ix3 (row t) (0 : Fin 1) k) from funext fun k => rowOf3 m c t k,
    show (blocks m c t).idxF = fun k => a7 m c (ix3 (row t) (0 : Fin 1) k) from funext fun k => rowOf7 m c t k]
  rfl

/-- An index of the result's block is given by its head and column. -/
theorem idx_out (y : S1x1x128x512.Idx) : y = ix4 (0 : Fin 1) (0 : Fin 1) (y 2 : Fin 128) (y 3 : Fin 512) := funext fun a => by
  match a with
  | ⟨0, _⟩ => exact Subsingleton.elim (α := Fin 1) _ _
  | ⟨1, _⟩ => exact Subsingleton.elim (α := Fin 1) _ _
  | ⟨2, _⟩ => rfl
  | ⟨3, _⟩ => rfl

/-- The result array. -/
theorem array_eq (hi : Cert.Pre_KernelIdeal m) : (dats (F := Ideal) m 0 c).arrAt 8 cfg0.N = (G m c : S64x1x128x512.Idx → EReal) := by
  refine (dats (F := Ideal) m 0 c).arrAt_eq_of_cover 8 (G m c : S64x1x128x512.Idx → EReal) (fun t _ => ?_) (fun i => ?_)
  · funext y
    show (blocks m c t).out y = G m c (((cfg0.win 8).blk t).view.emb y)
    obtain ⟨h, k, rfl⟩ : ∃ (h : Fin 128) (k : Fin 512), y = ix4 (0 : Fin 1) (0 : Fin 1) h k := ⟨_, _, idx_out y⟩
    exact (out_apply m c hi t h k).trans (congrArg (G m c) (emb8 t h k).symm)
  · refine ⟨⟨(i 0 : Fin 64).val, (i 0 : Fin 64).isLt⟩, flush0_8 _, ?_⟩
    have h := ((cfg0.win 8).blk ⟨(i 0 : Fin 64).val, (i 0 : Fin 64).isLt⟩).view.emb_mem_set (ix4 (0 : Fin 1) (0 : Fin 1) (i 2 : Fin 128) (i 3 : Fin 512))
    have e : ((cfg0.win 8).blk ⟨(i 0 : Fin 64).val, (i 0 : Fin 64).isLt⟩).view.emb (ix4 (0 : Fin 1) (0 : Fin 1) (i 2 : Fin 128) (i 3 : Fin 512)) = i := by
      refine (emb8 _ _ _).trans (funext fun a => ?_)
      match a with
      | ⟨0, _⟩ => rfl
      | ⟨1, _⟩ => exact Subsingleton.elim (α := Fin 1) _ _
      | ⟨2, _⟩ => rfl
      | ⟨3, _⟩ => rfl
    rwa [e] at h

end Cert.KernelIdeal.Hand

end

end
-- ==== Proof.RefGather.lean ====
module

public import proofs.«01_k».proof.Proof.Gen.ReferenceIdeal.Read

@[expose] public section

set_option maxRecDepth 16384

/-! The reference's three gathers, each read at an index: row `b`'s table at the position the index
words give, both components clamped to their axis. -/

noncomputable section

namespace Cert.ReferenceIdeal.Hand

open Cert.ReferenceIdeal Cert.ReferenceIdeal.Gen Idealize.ShloMosaic Idealize.ShloMosaic.TcCoe ValueIdx

/-- The gather of the codes at an index. -/
theorem gather_codes {α : Type} (x : S64x2048x512.Idx → α) (idx : IVec S64x1x512x2 32) (b : Fin 64) (k : Fin 512) (c : Fin 512) :
    Host.gather gather_S64x2048x512_S64x1x512x2_S64x1x512x512_3_01_n_n_01_3_11512 x idx (ix4 b (0 : Fin 1) k c)
      = x (ix3 (⟨min (idx (ix4 b (0 : Fin 1) k (0 : Fin 2))).toInt.toNat 63, by omega⟩ : Fin 64)
          (⟨min (idx (ix4 b (0 : Fin 1) k (1 : Fin 2))).toInt.toNat 2047, by omega⟩ : Fin 2048) c) := by
  unfold Host.gather
  refine congrArg x (funext fun a => Fin.ext ?_)
  have h0 : gather_S64x2048x512_S64x1x512x2_S64x1x512x512_3_01_n_n_01_3_11512.siIdx (ix4 b (0 : Fin 1) k c) (⟨0, by decide⟩ : Fin 2) = ix4 b (0 : Fin 1) k (0 : Fin 2) := by
    funext a; match a with
    | ⟨0, _⟩ => rfl
    | ⟨1, _⟩ => rfl
    | ⟨2, _⟩ => rfl
    | ⟨3, _⟩ => rfl
  have h1 : gather_S64x2048x512_S64x1x512x2_S64x1x512x512_3_01_n_n_01_3_11512.siIdx (ix4 b (0 : Fin 1) k c) (⟨1, by decide⟩ : Fin 2) = ix4 b (0 : Fin 1) k (1 : Fin 2) := by
    funext a; match a with
    | ⟨0, _⟩ => rfl
    | ⟨1, _⟩ => rfl
    | ⟨2, _⟩ => rfl
    | ⟨3, _⟩ => rfl
  match a with
  | ⟨0, _⟩ =>
    exact congrArg (fun z => min (idx z).toInt.toNat 63) h0
  | ⟨1, _⟩ =>
    exact congrArg (fun z => min (idx z).toInt.toNat 2047) h1
  | ⟨2, _⟩ =>
    show 0 + 0 + c.val = c.val
    omega

/-- The gather of the scales at an index. -/
theorem gather_scale {α : Type} (x : S64x2048x4.Idx → α) (idx : IVec S64x1x512x2 32) (b : Fin 64) (k : Fin 512) (c : Fin 4) :
    Host.gather gather_S64x2048x4_S64x1x512x2_S64x1x512x4_3_01_n_n_01_3_114 x idx (ix4 b (0 : Fin 1) k c)
      = x (ix3 (⟨min (idx (ix4 b (0 : Fin 1) k (0 : Fin 2))).toInt.toNat 63, by omega⟩ : Fin 64)
          (⟨min (idx (ix4 b (0 : Fin 1) k (1 : Fin 2))).toInt.toNat 2047, by omega⟩ : Fin 2048) c) := by
  unfold Host.gather
  refine congrArg x (funext fun a => Fin.ext ?_)
  have h0 : gather_S64x2048x4_S64x1x512x2_S64x1x512x4_3_01_n_n_01_3_114.siIdx (ix4 b (0 : Fin 1) k c) (⟨0, by decide⟩ : Fin 2) = ix4 b (0 : Fin 1) k (0 : Fin 2) := by
    funext a; match a with
    | ⟨0, _⟩ => rfl
    | ⟨1, _⟩ => rfl
    | ⟨2, _⟩ => rfl
    | ⟨3, _⟩ => rfl
  have h1 : gather_S64x2048x4_S64x1x512x2_S64x1x512x4_3_01_n_n_01_3_114.siIdx (ix4 b (0 : Fin 1) k c) (⟨1, by decide⟩ : Fin 2) = ix4 b (0 : Fin 1) k (1 : Fin 2) := by
    funext a; match a with
    | ⟨0, _⟩ => rfl
    | ⟨1, _⟩ => rfl
    | ⟨2, _⟩ => rfl
    | ⟨3, _⟩ => rfl
  match a with
  | ⟨0, _⟩ =>
    exact congrArg (fun z => min (idx z).toInt.toNat 63) h0
  | ⟨1, _⟩ =>
    exact congrArg (fun z => min (idx z).toInt.toNat 2047) h1
  | ⟨2, _⟩ =>
    show 0 + 0 + c.val = c.val
    omega

/-- The gather of the rope keys at an index. -/
theorem gather_krope {α : Type} (x : S64x2048x64.Idx → α) (idx : IVec S64x1x512x2 32) (b : Fin 64) (k : Fin 512) (c : Fin 64) :
    Host.gather gather_S64x2048x64_S64x1x512x2_S64x1x512x64_3_01_n_n_01_3_1164 x idx (ix4 b (0 : Fin 1) k c)
      = x (ix3 (⟨min (idx (ix4 b (0 : Fin 1) k (0 : Fin 2))).toInt.toNat 63, by omega⟩ : Fin 64)
          (⟨min (idx (ix4 b (0 : Fin 1) k (1 : Fin 2))).toInt.toNat 2047, by omega⟩ : Fin 2048) c) := by
  unfold Host.gather
  refine congrArg x (funext fun a => Fin.ext ?_)
  have h0 : gather_S64x2048x64_S64x1x512x2_S64x1x512x64_3_01_n_n_01_3_1164.siIdx (ix4 b (0 : Fin 1) k c) (⟨0, by decide⟩ : Fin 2) = ix4 b (0 : Fin 1) k (0 : Fin 2) := by
    funext a; match a with
    | ⟨0, _⟩ => rfl
    | ⟨1, _⟩ => rfl
    | ⟨2, _⟩ => rfl
    | ⟨3, _⟩ => rfl
  have h1 : gather_S64x2048x64_S64x1x512x2_S64x1x512x64_3_01_n_n_01_3_1164.siIdx (ix4 b (0 : Fin 1) k c) (⟨1, by decide⟩ : Fin 2) = ix4 b (0 : Fin 1) k (1 : Fin 2) := by
    funext a; match a with
    | ⟨0, _⟩ => rfl
    | ⟨1, _⟩ => rfl
    | ⟨2, _⟩ => rfl
    | ⟨3, _⟩ => rfl
  match a with
  | ⟨0, _⟩ =>
    exact congrArg (fun z => min (idx z).toInt.toNat 63) h0
  | ⟨1, _⟩ =>
    exact congrArg (fun z => min (idx z).toInt.toNat 2047) h1
  | ⟨2, _⟩ =>
    show 0 + 0 + c.val = c.val
    omega

end Cert.ReferenceIdeal.Hand

end

end
-- ==== Proof.RefTable.lean ====
module

public import proofs.«01_k».proof.Proof.RefGather
public import proofs.«01_k».proof.Proof.Spec

@[expose] public section

set_option maxRecDepth 16384

/-! What the reference gathers, read at an index. -/

noncomputable section

namespace Cert.ReferenceIdeal.Hand

open Cert.ReferenceIdeal Cert.ReferenceIdeal.Gen Cert.ReferenceIdeal.Read Idealize.ShloMosaic Idealize.ShloMosaic.TcCoe ValueIdx
open Cert.Spec (pos)

/-- The operands' types. -/
abbrev A0 := (⟨S64x1x128x512, .bf16⟩ : BufTy).Contents (Elt Ideal)
abbrev A1 := (⟨S64x1x128x64, .bf16⟩ : BufTy).Contents (Elt Ideal)
abbrev A2 := (⟨S64x1x512, .bf16⟩ : BufTy).Contents (Elt Ideal)
abbrev A3 := (⟨S64x1x64, .bf16⟩ : BufTy).Contents (Elt Ideal)
abbrev A5 := (⟨S64x2048x4, .f32⟩ : BufTy).Contents (Elt Ideal)
abbrev A6 := (⟨S64x2048x64, .bf16⟩ : BufTy).Contents (Elt Ideal)
abbrev A7 := (⟨S64x1x512, .i32⟩ : BufTy).Contents (Elt Ideal)
abbrev R0 := (⟨S64x2048x512, .bf16⟩ : BufTy).Contents (Elt Ideal)
abbrev E0 := (⟨S_, .f32⟩ : BufTy).Contents (Elt Ideal)

/-- The batch component of a start index. -/
def wb (b : Fin 64) : BitVec 32 :=
  Scalar.select (IntOp.cmpi .slt (BitVec.ofNat 32 b.val) 0#32) (IntOp.addi (BitVec.ofNat 32 b.val) 64#32) (BitVec.ofNat 32 b.val)

/-- The position component of a start index. -/
def wi (w : BitVec 32) : BitVec 32 :=
  Scalar.select (IntOp.cmpi .slt (IntOp.maxsi w 0#32) 0#32) (IntOp.addi (IntOp.maxsi w 0#32) 2048#32) (IntOp.maxsi w 0#32)

/-- The row's word reads as the row. -/
theorem wb_toNat (b : Fin 64) : (wb b).toInt.toNat = b.val := by
  revert b; unfold wb; decide +kernel

/-- The larger of two words, read as a number. -/
theorem maxsi_toInt (x y : BitVec 32) : (IntOp.maxsi x y).toInt = max x.toInt y.toInt := by
  unfold IntOp.maxsi
  by_cases hs : y.slt x = true
  · rw [if_pos hs]; rw [BitVec.slt_iff_toInt_lt] at hs; omega
  · rw [if_neg hs]; rw [BitVec.slt_iff_toInt_lt] at hs; omega

/-- The position's word reads as the selected position, or zero when it is negative. -/
theorem wi_toNat (w : BitVec 32) : (wi w).toInt.toNat = w.toInt.toNat := by
  have h0 : (0#32 : BitVec 32).toInt = 0 := by decide
  have hm : (IntOp.maxsi w 0#32).toInt = max w.toInt 0 := by rw [maxsi_toInt, h0]
  have hs : IntOp.cmpi .slt (IntOp.maxsi w 0#32) 0#32 = 0#1 := by
    have : (IntOp.maxsi w 0#32).slt 0#32 = false := by
      rw [Bool.eq_false_iff]; intro h
      rw [BitVec.slt_iff_toInt_lt, hm, h0] at h
      omega
    simp [IntOp.cmpi, this]
  unfold wi
  rw [hs]
  show (IntOp.maxsi w 0#32).toInt.toNat = _
  rw [hm]
  omega

/-- The row numbers for the gather of the codes, at an index. -/
theorem v17_apply (b : Fin 64) (k : Fin 512) :
    val_main_v17 (F := Ideal) (ix4 b (0 : Fin 1) k (0 : Fin 1)) = wb b := by
  simp only [val_main_v17_apply, val_main_v16_apply, val_main_v10_apply, val_main_v7_apply, val_main_v9_apply, val_main_v3_apply, val_main_v2_apply, val_main_v6_apply, val_main_v8_apply, val_main_c_0_apply, val_main_c_1_apply]
  rfl

/-- The positions for the gather of the codes, at an index. -/
theorem v18_apply (x7 : A7) (b : Fin 64) (k : Fin 512) :
    val_main_v18 (F := Ideal) x7 (ix4 b (0 : Fin 1) k (0 : Fin 1)) = wi (x7 (ix3 b (0 : Fin 1) k)) := by
  simp only [val_main_v18_apply, val_main_v15_apply, val_main_v12_apply, val_main_v14_apply, val_main_v5_apply, val_main_v11_apply, val_main_v13_apply, val_main_v4_apply, val_main_c_apply, val_main_c_2_apply, val_main_c_3_apply]
  have e : idx_main_v18 (ix4 b (0 : Fin 1) k (0 : Fin 1)) = ix3 b (0 : Fin 1) k := by
    funext a; match a with
    | ⟨0, _⟩ => rfl
    | ⟨1, _⟩ => rfl
    | ⟨2, _⟩ => rfl
  rw [e]
  rfl

/-- The first index word for the gather of the codes is the row. -/
theorem v19_apply0 (x7 : A7) (b : Fin 64) (k : Fin 512) :
    val_main_v19 (F := Ideal) x7 (ix4 b (0 : Fin 1) k (0 : Fin 2)) = wb b := by
  unfold val_main_v19
  refine (concatenate_pair_apply_left (t := S64x1x512x2) (s₁ := S64x1x512x1) (s₂ := S64x1x512x1) 3 (val_main_v17 (F := Ideal)) (val_main_v18 (F := Ideal) x7) concatenates_S64x1x512x1_S64x1x512x1_S64x1x512x2_d3 (ix4 b (0 : Fin 1) k (0 : Fin 2)) rfl (ix4 b (0 : Fin 1) k (0 : Fin 1)) (fun a => ?_)).trans (v17_apply b k)
  match a with
  | ⟨0, _⟩ => rfl
  | ⟨1, _⟩ => rfl
  | ⟨2, _⟩ => rfl
  | ⟨3, _⟩ => rfl

/-- The second index word for the gather of the codes is the position. -/
theorem v19_apply1 (x7 : A7) (b : Fin 64) (k : Fin 512) :
    val_main_v19 (F := Ideal) x7 (ix4 b (0 : Fin 1) k (1 : Fin 2)) = wi (x7 (ix3 b (0 : Fin 1) k)) := by
  unfold val_main_v19
  refine (concatenate_pair_apply_right (t := S64x1x512x2) (s₁ := S64x1x512x1) (s₂ := S64x1x512x1) 3 (val_main_v17 (F := Ideal)) (val_main_v18 (F := Ideal) x7) concatenates_S64x1x512x1_S64x1x512x1_S64x1x512x2_d3 (ix4 b (0 : Fin 1) k (1 : Fin 2)) rfl rfl (ix4 b (0 : Fin 1) k (0 : Fin 1)) (fun a ha => ?_) rfl).trans (v18_apply x7 b k)
  match a with
  | ⟨0, _⟩ => rfl
  | ⟨1, _⟩ => rfl
  | ⟨2, _⟩ => rfl
  | ⟨3, _⟩ => exact absurd rfl ha

/-- The gathered codes: row `b`'s table at the position selection `k` names. -/
theorem v20_apply (x7 : A7) (tab : R0) (b : Fin 64) (k : Fin 512) (c : Fin 512) :
    val_main_v20 (F := Ideal) x7 tab (ix4 b (0 : Fin 1) k c)
      = tab (ix3 b (pos (x7 (ix3 b (0 : Fin 1) k)).toInt.toNat) c) := by
  unfold val_main_v20
  rw [gather_codes]
  refine congrArg tab ?_
  funext a
  match a with
  | ⟨0, _⟩ =>
    refine Fin.ext ?_
    show min (val_main_v19 (F := Ideal) x7 (ix4 b (0 : Fin 1) k (0 : Fin 2))).toInt.toNat 63 = b.val
    rw [v19_apply0, wb_toNat]
    have := b.isLt
    omega
  | ⟨1, _⟩ =>
    refine Fin.ext ?_
    show min (val_main_v19 (F := Ideal) x7 (ix4 b (0 : Fin 1) k (1 : Fin 2))).toInt.toNat 2047 = min _ 2047
    rw [v19_apply1, wi_toNat]
  | ⟨2, _⟩ => rfl

/-- The row numbers for the gather of the scales, at an index. -/
theorem v32_apply (b : Fin 64) (k : Fin 512) :
    val_main_v32 (F := Ideal) (ix4 b (0 : Fin 1) k (0 : Fin 1)) = wb b := by
  simp only [val_main_v32_apply, val_main_v31_apply, val_main_v25_apply, val_main_v22_apply, val_main_v24_apply, val_main_v3_apply, val_main_v2_apply, val_main_v21_apply, val_main_v23_apply, val_main_c_4_apply, val_main_c_5_apply]
  rfl

/-- The positions for the gather of the scales, at an index. -/
theorem v33_apply (x7 : A7) (b : Fin 64) (k : Fin 512) :
    val_main_v33 (F := Ideal) x7 (ix4 b (0 : Fin 1) k (0 : Fin 1)) = wi (x7 (ix3 b (0 : Fin 1) k)) := by
  simp only [val_main_v33_apply, val_main_v30_apply, val_main_v27_apply, val_main_v29_apply, val_main_v5_apply, val_main_v26_apply, val_main_v28_apply, val_main_v4_apply, val_main_c_apply, val_main_c_6_apply, val_main_c_7_apply]
  have e : idx_main_v33 (ix4 b (0 : Fin 1) k (0 : Fin 1)) = ix3 b (0 : Fin 1) k := by
    funext a; match a with
    | ⟨0, _⟩ => rfl
    | ⟨1, _⟩ => rfl
    | ⟨2, _⟩ => rfl
  rw [e]
  rfl

/-- The first index word for the gather of the scales is the row. -/
theorem v34_apply0 (x7 : A7) (b : Fin 64) (k : Fin 512) :
    val_main_v34 (F := Ideal) x7 (ix4 b (0 : Fin 1) k (0 : Fin 2)) = wb b := by
  unfold val_main_v34
  refine (concatenate_pair_apply_left (t := S64x1x512x2) (s₁ := S64x1x512x1) (s₂ := S64x1x512x1) 3 (val_main_v32 (F := Ideal)) (val_main_v33 (F := Ideal) x7) concatenates_S64x1x512x1_S64x1x512x1_S64x1x512x2_d3 (ix4 b (0 : Fin 1) k (0 : Fin 2)) rfl (ix4 b (0 : Fin 1) k (0 : Fin 1)) (fun a => ?_)).trans (v32_apply b k)
  match a with
  | ⟨0, _⟩ => rfl
  | ⟨1, _⟩ => rfl
  | ⟨2, _⟩ => rfl
  | ⟨3, _⟩ => rfl

/-- The second index word for the gather of the scales is the position. -/
theorem v34_apply1 (x7 : A7) (b : Fin 64) (k : Fin 512) :
    val_main_v34 (F := Ideal) x7 (ix4 b (0 : Fin 1) k (1 : Fin 2)) = wi (x7 (ix3 b (0 : Fin 1) k)) := by
  unfold val_main_v34
  refine (concatenate_pair_apply_right (t := S64x1x512x2) (s₁ := S64x1x512x1) (s₂ := S64x1x512x1) 3 (val_main_v32 (F := Ideal)) (val_main_v33 (F := Ideal) x7) concatenates_S64x1x512x1_S64x1x512x1_S64x1x512x2_d3 (ix4 b (0 : Fin 1) k (1 : Fin 2)) rfl rfl (ix4 b (0 : Fin 1) k (0 : Fin 1)) (fun a ha => ?_) rfl).trans (v33_apply x7 b k)
  match a with
  | ⟨0, _⟩ => rfl
  | ⟨1, _⟩ => rfl
  | ⟨2, _⟩ => rfl
  | ⟨3, _⟩ => exact absurd rfl ha

/-- The gathered scales: row `b`'s table at the position selection `k` names. -/
theorem v35_apply (x7 : A7) (tab : A5) (b : Fin 64) (k : Fin 512) (c : Fin 4) :
    val_main_v35 (F := Ideal) tab x7 (ix4 b (0 : Fin 1) k c)
      = tab (ix3 b (pos (x7 (ix3 b (0 : Fin 1) k)).toInt.toNat) c) := by
  unfold val_main_v35
  rw [gather_scale]
  refine congrArg tab ?_
  funext a
  match a with
  | ⟨0, _⟩ =>
    refine Fin.ext ?_
    show min (val_main_v34 (F := Ideal) x7 (ix4 b (0 : Fin 1) k (0 : Fin 2))).toInt.toNat 63 = b.val
    rw [v34_apply0, wb_toNat]
    have := b.isLt
    omega
  | ⟨1, _⟩ =>
    refine Fin.ext ?_
    show min (val_main_v34 (F := Ideal) x7 (ix4 b (0 : Fin 1) k (1 : Fin 2))).toInt.toNat 2047 = min _ 2047
    rw [v34_apply1, wi_toNat]
  | ⟨2, _⟩ => rfl

/-- The row numbers for the gather of the rope keys, at an index. -/
theorem v47_apply (b : Fin 64) (k : Fin 512) :
    val_main_v47 (F := Ideal) (ix4 b (0 : Fin 1) k (0 : Fin 1)) = wb b := by
  simp only [val_main_v47_apply, val_main_v46_apply, val_main_v40_apply, val_main_v37_apply, val_main_v39_apply, val_main_v3_apply, val_main_v2_apply, val_main_v36_apply, val_main_v38_apply, val_main_c_8_apply, val_main_c_9_apply]
  rfl

/-- The positions for the gather of the rope keys, at an index. -/
theorem v48_apply (x7 : A7) (b : Fin 64) (k : Fin 512) :
    val_main_v48 (F := Ideal) x7 (ix4 b (0 : Fin 1) k (0 : Fin 1)) = wi (x7 (ix3 b (0 : Fin 1) k)) := by
  simp only [val_main_v48_apply, val_main_v45_apply, val_main_v42_apply, val_main_v44_apply, val_main_v5_apply, val_main_v41_apply, val_main_v43_apply, val_main_v4_apply, val_main_c_apply, val_main_c_10_apply, val_main_c_11_apply]
  have e : idx_main_v48 (ix4 b (0 : Fin 1) k (0 : Fin 1)) = ix3 b (0 : Fin 1) k := by
    funext a; match a with
    | ⟨0, _⟩ => rfl
    | ⟨1, _⟩ => rfl
    | ⟨2, _⟩ => rfl
  rw [e]
  rfl

/-- The first index word for the gather of the rope keys is the row. -/
theorem v49_apply0 (x7 : A7) (b : Fin 64) (k : Fin 512) :
    val_main_v49 (F := Ideal) x7 (ix4 b (0 : Fin 1) k (0 : Fin 2)) = wb b := by
  unfold val_main_v49
  refine (concatenate_pair_apply_left (t := S64x1x512x2) (s₁ := S64x1x512x1) (s₂ := S64x1x512x1) 3 (val_main_v47 (F := Ideal)) (val_main_v48 (F := Ideal) x7) concatenates_S64x1x512x1_S64x1x512x1_S64x1x512x2_d3 (ix4 b (0 : Fin 1) k (0 : Fin 2)) rfl (ix4 b (0 : Fin 1) k (0 : Fin 1)) (fun a => ?_)).trans (v47_apply b k)
  match a with
  | ⟨0, _⟩ => rfl
  | ⟨1, _⟩ => rfl
  | ⟨2, _⟩ => rfl
  | ⟨3, _⟩ => rfl

/-- The second index word for the gather of the rope keys is the position. -/
theorem v49_apply1 (x7 : A7) (b : Fin 64) (k : Fin 512) :
    val_main_v49 (F := Ideal) x7 (ix4 b (0 : Fin 1) k (1 : Fin 2)) = wi (x7 (ix3 b (0 : Fin 1) k)) := by
  unfold val_main_v49
  refine (concatenate_pair_apply_right (t := S64x1x512x2) (s₁ := S64x1x512x1) (s₂ := S64x1x512x1) 3 (val_main_v47 (F := Ideal)) (val_main_v48 (F := Ideal) x7) concatenates_S64x1x512x1_S64x1x512x1_S64x1x512x2_d3 (ix4 b (0 : Fin 1) k (1 : Fin 2)) rfl rfl (ix4 b (0 : Fin 1) k (0 : Fin 1)) (fun a ha => ?_) rfl).trans (v48_apply x7 b k)
  match a with
  | ⟨0, _⟩ => rfl
  | ⟨1, _⟩ => rfl
  | ⟨2, _⟩ => rfl
  | ⟨3, _⟩ => exact absurd rfl ha

/-- The gathered rope keys: row `b`'s table at the position selection `k` names. -/
theorem v50_apply (x7 : A7) (tab : A6) (b : Fin 64) (k : Fin 512) (c : Fin 64) :
    val_main_v50 (F := Ideal) tab x7 (ix4 b (0 : Fin 1) k c)
      = tab (ix3 b (pos (x7 (ix3 b (0 : Fin 1) k)).toInt.toNat) c) := by
  unfold val_main_v50
  rw [gather_krope]
  refine congrArg tab ?_
  funext a
  match a with
  | ⟨0, _⟩ =>
    refine Fin.ext ?_
    show min (val_main_v49 (F := Ideal) x7 (ix4 b (0 : Fin 1) k (0 : Fin 2))).toInt.toNat 63 = b.val
    rw [v49_apply0, wb_toNat]
    have := b.isLt
    omega
  | ⟨1, _⟩ =>
    refine Fin.ext ?_
    show min (val_main_v49 (F := Ideal) x7 (ix4 b (0 : Fin 1) k (1 : Fin 2))).toInt.toNat 2047 = min _ 2047
    rw [v49_apply1, wi_toNat]
  | ⟨2, _⟩ => rfl

end Cert.ReferenceIdeal.Hand

end

end
-- ==== Proof.RefRegion.lean ====
module

public import proofs.«01_k».proof.Proof.RefTable
public import proofs.«01_k».proof.Proof.Spec
public import proofs.«01_k».proof.Proof.Gen.ReferenceIdeal.Run
public import Idealize.ShloMosaic.Lib.Pipeline.ValueKit

@[expose] public section

set_option maxRecDepth 16384

/-! The reference's two values made before its host operations: the widened codes and the scale. -/

noncomputable section

namespace Cert.ReferenceIdeal.Hand

open Cert.ReferenceIdeal Cert.ReferenceIdeal.Gen Cert.ReferenceIdeal.Value Idealize.ShloMosaic Idealize.ShloMosaic.TcCoe

variable (m : (ℓ : Loc nD τ sig) → Buf (Elt Ideal) ℓ)

/-- Three zero offsets. -/
theorem hz3 : (![0, 0, 0] : Fin 3 → Nat) = fun _ => 0 := funext fun a => by fin_cases a <;> rfl

/-- What the widening leaves is what it reads: over the extended reals a change of format is the identity. -/
theorem out0_1_eq (x : Vec Ideal S64x2048x512 .fp8e4m3) (y : S64x2048x512.Idx) : out0_1 (F := Ideal) x y = x y := by
  unfold out0_1
  rw [View.canon_unit_zero hz3, View.ld_unit_zero hz3]
  rfl

/-- The block read is the whole array. -/
theorem emb_in (t : Fin cfg0.N) (j : S64x2048x512.Idx) : ((cfg0.win 0).blk t).view.emb j = j := by
  funext a; apply Fin.ext
  match a with
  | ⟨0, _⟩ => show 0 * 64 + 1 * (j 0).val = (j 0).val; omega
  | ⟨1, _⟩ => show 0 * 2048 + 1 * (j 1).val = (j 1).val; omega
  | ⟨2, _⟩ => show 0 * 512 + 1 * (j 2).val = (j 2).val; omega

/-- The block written is the whole array. -/
theorem emb_out (t : Fin cfg0.N) (j : S64x2048x512.Idx) : ((cfg0.win 1).blk t).view.emb j = j := by
  funext a; apply Fin.ext
  match a with
  | ⟨0, _⟩ => show 0 * 64 + 1 * (j 0).val = (j 0).val; omega
  | ⟨1, _⟩ => show 0 * 2048 + 1 * (j 1).val = (j 1).val; omega
  | ⟨2, _⟩ => show 0 * 512 + 1 * (j 2).val = (j 2).val; omega

/-- The codes as extended reals. -/
def codesOf (c : Dev nD) : S64x2048x512.Idx → EReal := m ((c : Thread nD τ).loc main_arg4)

/-- The widened codes are the codes. -/
theorem widened (c : Dev nD) (y : S64x2048x512.Idx) : reg_main_v1 (F := Ideal) m c y = codesOf m c y := by
  have key : (dats (F := Ideal) m 0 c).arrAt 1 cfg0.N = (codesOf m c : S64x2048x512.Idx → EReal) := by
    refine (dats (F := Ideal) m 0 c).arrAt_eq_of_cover 1 (codesOf m c : S64x2048x512.Idx → EReal) (fun t _ => ?_)
      (fun i => ⟨(⟨0, by decide⟩ : Fin cfg0.N), flush0_1 _, by
        have h := ((cfg0.win 1).blk (⟨0, by decide⟩ : Fin cfg0.N)).view.emb_mem_set i
        rwa [emb_out] at h⟩)
    funext j
    show (dats (F := Ideal) m 0 c).after 1 t j = codesOf m c (((cfg0.win 1).blk t).view.emb j)
    rw [after0_1, emb_out]
    refine (out0_1_eq _ j).trans ?_
    show V m c main_arg4 (((cfg0.win 0).blk t).view.emb j) = _
    rw [emb_in, V_main_arg4]
    rfl
  exact congrFun key y

/-- The scale. -/
theorem scale_eq (i : S_.Idx) : (Host.rsqrt (constant (F := Ideal) S_ .f32 0x43400000#32)) i = Spec.sigma := by
  show Ideal.rsqrt (Ideal.ofBits .f32 0x43400000#32) = _
  have e : Ideal.ofBits .f32 0x43400000#32 = ((192 : ℝ) : EReal) := by
    simp [Ideal.ofBits, Ideal.ieee]
    rw [← EReal.coe_mul]
    norm_num
  rw [e]
  unfold Spec.sigma
  show (if (192 : ℝ) < 0 then (⊥ : EReal) else if (192 : ℝ) = 0 then ⊤ else (((Real.sqrt 192)⁻¹ : ℝ) : EReal)) = _
  rw [if_neg (by norm_num), if_neg (by norm_num)]

end Cert.ReferenceIdeal.Hand

end

end
-- ==== Proof.RefValue.lean ====
module

public import proofs.«01_k».proof.Proof.RefTable
public import Idealize.ShloMosaic.Lib.IdealHost

@[expose] public section

set_option maxRecDepth 16384

/-! The reference's result, read at an index. -/

noncomputable section

namespace Cert.ReferenceIdeal.Hand

open Cert.ReferenceIdeal Cert.ReferenceIdeal.Gen Cert.ReferenceIdeal.Read Idealize.ShloMosaic Idealize.ShloMosaic.TcCoe ValueIdx
open Cert.Spec (pos)

/-- The word of minus infinity. -/
theorem ofBits_neg_inf : Ideal.ofBits .f32 0xFF800000#32 = ⊥ := by
  simp [Ideal.ofBits, Ideal.ieee]

/-- The word of minus infinity. -/
theorem neg_inf_word : FloatOps.ofBits (F := Ideal) .f32 0xFF800000#32 = (⊥ : EReal) := ofBits_neg_inf
/-- The word of zero. -/
theorem zero_word : FloatOps.ofBits (F := Ideal) .f32 0x00000000#32 = (0 : EReal) := Ideal.ofBits_zero_f32
/-- The word of one. -/
theorem one_word : FloatOps.ofBits (F := Ideal) .f32 0x3F800000#32 = (1 : EReal) := Ideal.ofBits_one_f32

variable (x0 : A0) (x1 : A1) (x2 : A2) (x3 : A3) (x5 : A5) (x6 : A6) (x7 : A7) (r0 : R0) (e0 : E0)
  (b : Fin 64) (h : Fin 128)

/-- The gathered latent entry of selection `k`. -/
theorem lat_apply (k c : Fin 512) :
    val_main_v56 (F := Ideal) x5 x7 r0 (ix4 b (0 : Fin 1) k c)
      = Spec.lat (fun j c => r0 (ix3 b j c)) (fun j g => x5 (ix3 b j g)) (Spec.at_ (fun k => x7 (ix3 b (0 : Fin 1) k)) k) c := by
  have hb := b.isLt
  have hk := k.isLt
  have hc := c.isLt
  rw [val_main_v56_apply, val_main_v55_apply, val_main_v51_apply, val_main_v54_apply, val_main_v53_apply, val_main_v52_apply]
  have e1 : idx_main_v51 (idx_main_v56 (ix4 b (0 : Fin 1) k c)) = ix4 b (0 : Fin 1) k c := by
    funext a
    match a with
    | ⟨0, _⟩ => exact Fin.ext (by show (((((((b.val * 1 + 0) * 512 + k.val) * 512 + c.val) / 262144 * 1 + 0) * 512 + (((b.val * 1 + 0) * 512 + k.val) * 512 + c.val) / 512 % 512) * 4 + (((b.val * 1 + 0) * 512 + k.val) * 512 + c.val) / 128 % 4) * 128 + (((b.val * 1 + 0) * 512 + k.val) * 512 + c.val) % 128) / 262144 = b.val; omega)
    | ⟨1, _⟩ => rfl
    | ⟨2, _⟩ => exact Fin.ext (by show (((((((b.val * 1 + 0) * 512 + k.val) * 512 + c.val) / 262144 * 1 + 0) * 512 + (((b.val * 1 + 0) * 512 + k.val) * 512 + c.val) / 512 % 512) * 4 + (((b.val * 1 + 0) * 512 + k.val) * 512 + c.val) / 128 % 4) * 128 + (((b.val * 1 + 0) * 512 + k.val) * 512 + c.val) % 128) / 512 % 512 = k.val; omega)
    | ⟨3, _⟩ => exact Fin.ext (by show (((((((b.val * 1 + 0) * 512 + k.val) * 512 + c.val) / 262144 * 1 + 0) * 512 + (((b.val * 1 + 0) * 512 + k.val) * 512 + c.val) / 512 % 512) * 4 + (((b.val * 1 + 0) * 512 + k.val) * 512 + c.val) / 128 % 4) * 128 + (((b.val * 1 + 0) * 512 + k.val) * 512 + c.val) % 128) % 512 = c.val; omega)
  have e2 : idx_main_v53 (idx_main_v54 (idx_main_v56 (ix4 b (0 : Fin 1) k c))) = ix4 b (0 : Fin 1) k (⟨c.val / 128, by omega⟩ : Fin 4) := by
    funext a
    match a with
    | ⟨0, _⟩ => exact Fin.ext (by show (((b.val * 1 + 0) * 512 + k.val) * 512 + c.val) / 262144 = b.val; omega)
    | ⟨1, _⟩ => rfl
    | ⟨2, _⟩ => exact Fin.ext (by show (((b.val * 1 + 0) * 512 + k.val) * 512 + c.val) / 512 % 512 = k.val; omega)
    | ⟨3, _⟩ => exact Fin.ext (by show (((b.val * 1 + 0) * 512 + k.val) * 512 + c.val) / 128 % 4 = c.val / 128; omega)
  rw [e1, e2, v20_apply, v35_apply]
  rfl

/-- The score of selection `k` before the mask. -/
theorem score_apply (he : ∀ i, e0 i = Spec.sigma) (k : Fin 512) :
    val_main_v61 (F := Ideal) x0 x1 x5 x6 x7 r0 e0 (ix4 b (0 : Fin 1) h k)
      = Spec.score (fun j c => r0 (ix3 b j c)) (fun j g => x5 (ix3 b j g)) (fun j r => x6 (ix3 b j r)) (fun c => x0 (ix4 b (0 : Fin 1) h c)) (fun r => x1 (ix4 b (0 : Fin 1) h r)) (Spec.at_ (fun k => x7 (ix3 b (0 : Fin 1) k)) k) := by
  rw [val_main_v61_apply, val_main_v59_apply, val_main_v57_apply, val_main_v58_apply, val_main_v60_apply]
  show (_ + _) * e0 _ = _
  rw [he]
  unfold Spec.score Spec.raw
  congr 2
  · refine Finset.sum_congr rfl fun c _ => ?_
    refine congrArg₂ (· * ·) (congrArg x0 (funext fun a => by match a with | ⟨0, _⟩ => rfl | ⟨1, _⟩ => rfl | ⟨2, _⟩ => rfl | ⟨3, _⟩ => rfl)) ?_
    refine (congrArg (val_main_v56 (F := Ideal) x5 x7 r0) (funext fun a => by match a with | ⟨0, _⟩ => rfl | ⟨1, _⟩ => rfl | ⟨2, _⟩ => rfl | ⟨3, _⟩ => rfl)).trans (lat_apply x5 x7 r0 b k c)
  · refine Finset.sum_congr rfl fun r _ => ?_
    refine congrArg₂ (· * ·) (congrArg x1 (funext fun a => by match a with | ⟨0, _⟩ => rfl | ⟨1, _⟩ => rfl | ⟨2, _⟩ => rfl | ⟨3, _⟩ => rfl)) ?_
    refine (congrArg (val_main_v50 (F := Ideal) x6 x7) (funext fun a => by match a with | ⟨0, _⟩ => rfl | ⟨1, _⟩ => rfl | ⟨2, _⟩ => rfl | ⟨3, _⟩ => rfl)).trans (v50_apply x7 x6 b k r)

/-- The comparison with zero, as a bit. -/
theorem sge_zero (w : BitVec 32) : IntOp.cmpi .sge w 0#32 = if 0 ≤ w.toInt then 1#1 else 0#1 := by
  have h0 : (0#32 : BitVec 32).toInt = 0 := by decide
  by_cases hw : 0 ≤ w.toInt
  · have : (0#32 : BitVec 32).sle w = true := by rw [BitVec.sle_iff_toInt_le, h0]; exact hw
    rw [if_pos hw]; simp [IntOp.cmpi, this]
  · have : (0#32 : BitVec 32).sle w = false := by
      rw [Bool.eq_false_iff]; intro e; rw [BitVec.sle_iff_toInt_le, h0] at e; exact hw e
    rw [if_neg hw]; simp [IntOp.cmpi, this]

/-- The masked score of selection `k`. -/
theorem sr_apply (he : ∀ i, e0 i = Spec.sigma) (k : Fin 512) :
    val_main_v65 (F := Ideal) x0 x1 x5 x6 x7 r0 e0 (ix4 b (0 : Fin 1) h k) = Softmax.sr (Spec.valid (fun k => x7 (ix3 b (0 : Fin 1) k))) (Spec.at_ (fun k => x7 (ix3 b (0 : Fin 1) k))) (Spec.score (fun j c => r0 (ix3 b j c)) (fun j g => x5 (ix3 b j g)) (fun j r => x6 (ix3 b j r)) (fun c => x0 (ix4 b (0 : Fin 1) h c)) (fun r => x1 (ix4 b (0 : Fin 1) h r))) k := by
  rw [val_main_v65_apply, score_apply x0 x1 x5 x6 x7 r0 e0 b h he k, val_main_call0_v1_apply, val_main_v64_apply, val_main_v63_apply,
    val_main_v62_apply, val_main_c_12_apply, sge_zero, val_main_call0_v2_apply, val_main_call0_v0_apply, val_main_cst_13_apply, neg_inf_word]
  have e : idx_main_v64 (idx_main_call0_v1 (ix4 b (0 : Fin 1) h k)) = ix3 b (0 : Fin 1) k := (funext fun a => by match a with | ⟨0, _⟩ => rfl | ⟨1, _⟩ => rfl | ⟨2, _⟩ => rfl)
  rw [e]
  unfold Softmax.sr
  show Scalar.select (if Spec.valid (fun k => x7 (ix3 b (0 : Fin 1) k)) k then _ else _) _ _ = _
  by_cases hv : Spec.valid (fun k => x7 (ix3 b (0 : Fin 1) k)) k
  · rw [if_pos hv, if_pos hv]; rfl
  · rw [if_neg hv, if_neg hv]; rfl

/-- The new token's score: its mask holds. -/
theorem s0_apply (he : ∀ i, e0 i = Spec.sigma) :
    val_main_v74 (F := Ideal) x0 x1 x2 x3 e0 (ix4 b (0 : Fin 1) h (0 : Fin 1)) = Spec.score0 (fun c => x0 (ix4 b (0 : Fin 1) h c)) (fun r => x1 (ix4 b (0 : Fin 1) h r)) (fun c => x2 (ix3 b (0 : Fin 1) c)) (fun r => x3 (ix3 b (0 : Fin 1) r)) := by
  have hm : val_main_call2_v1 (F := Ideal) (ix4 b (0 : Fin 1) h (0 : Fin 1)) = 1#1 := by
    simp only [val_main_call2_v1_apply, val_main_v73_apply, val_main_v72_apply, val_main_call1_v4_apply, val_main_call1_v2_apply,
      val_main_call1_v0_apply, val_main_call1_v1_apply, val_main_call1_c_apply, val_main_call1_v3_apply, val_main_v71_apply,
      val_main_c_14_apply, val_main_call1_v5_apply]
    rfl
  rw [val_main_v74_apply, hm]
  show val_main_v70 (F := Ideal) x0 x1 x2 x3 e0 _ = _
  rw [val_main_v70_apply, val_main_v68_apply, val_main_v66_apply, val_main_v67_apply, val_main_v69_apply]
  show (_ + _) * e0 _ = _
  rw [he]
  unfold Spec.score0 Spec.raw0
  congr 2
  · refine Finset.sum_congr rfl fun c _ => ?_
    exact congrArg₂ (· * ·) (congrArg x0 (funext fun a => by match a with | ⟨0, _⟩ => rfl | ⟨1, _⟩ => rfl | ⟨2, _⟩ => rfl | ⟨3, _⟩ => rfl)) (congrArg x2 (funext fun a => by match a with | ⟨0, _⟩ => rfl | ⟨1, _⟩ => rfl | ⟨2, _⟩ => rfl))
  · refine Finset.sum_congr rfl fun c _ => ?_
    exact congrArg₂ (· * ·) (congrArg x1 (funext fun a => by match a with | ⟨0, _⟩ => rfl | ⟨1, _⟩ => rfl | ⟨2, _⟩ => rfl | ⟨3, _⟩ => rfl)) (congrArg x3 (funext fun a => by match a with | ⟨0, _⟩ => rfl | ⟨1, _⟩ => rfl | ⟨2, _⟩ => rfl))

/-- A maximum taken from minus infinity is the supremum. -/
theorem fold_max_bot {n : ℕ} (f : Fin n → EReal) : (Finset.univ : Finset (Fin n)).fold max ⊥ f = Finset.univ.sup f := rfl

/-- A maximum over one element is that element. -/
theorem fold_max_one (f : Fin 1 → EReal) : (Finset.univ : Finset (Fin 1)).fold max ⊥ f = f 0 := by
  rw [fold_max_bot, Finset.univ_unique, Finset.sup_singleton]; rfl

/-- The maximum over the selections. -/
theorem v75_apply (he : ∀ i, e0 i = Spec.sigma) :
    val_main_v75 (F := Ideal) x0 x1 x5 x6 x7 r0 e0 (ix3 b (0 : Fin 1) h) = Finset.univ.sup (Softmax.sr (Spec.valid (fun k => x7 (ix3 b (0 : Fin 1) k))) (Spec.at_ (fun k => x7 (ix3 b (0 : Fin 1) k))) (Spec.score (fun j c => r0 (ix3 b j c)) (fun j g => x5 (ix3 b j g)) (fun j r => x6 (ix3 b j r)) (fun c => x0 (ix4 b (0 : Fin 1) h c)) (fun r => x1 (ix4 b (0 : Fin 1) h r)))) := by
  unfold val_main_v75
  refine (Host.reduce_eq_fold_single (max : EReal → EReal → EReal) _ _ reducesTo_S64x1x128x512_S64x1x128_d3 (by decide) h_S_ _).trans ?_
  rw [val_main_cst_16_apply, neg_inf_word]
  refine (fold_max_bot (n := 512) _).trans (Finset.sup_congr rfl fun k _ => ?_)
  refine (congrArg (val_main_v65 (F := Ideal) x0 x1 x5 x6 x7 r0 e0) ?_).trans (sr_apply x0 x1 x5 x6 x7 r0 e0 b h he k)
  exact (funext fun a => by match a with | ⟨0, _⟩ => rfl | ⟨1, _⟩ => rfl | ⟨2, _⟩ => rfl | ⟨3, _⟩ => rfl)

/-- The maximum over the one new token. -/
theorem v77_apply (he : ∀ i, e0 i = Spec.sigma) :
    val_main_v77 (F := Ideal) x0 x1 x2 x3 e0 (ix3 b (0 : Fin 1) h) = Spec.score0 (fun c => x0 (ix4 b (0 : Fin 1) h c)) (fun r => x1 (ix4 b (0 : Fin 1) h r)) (fun c => x2 (ix3 b (0 : Fin 1) c)) (fun r => x3 (ix3 b (0 : Fin 1) r)) := by
  unfold val_main_v77
  refine (Host.reduce_eq_fold_single (max : EReal → EReal → EReal) _ _ reducesTo_S64x1x128x1_S64x1x128_d3 (by decide) h_S_ _).trans ?_
  rw [val_main_cst_17_apply, neg_inf_word]
  refine (fold_max_one _).trans ?_
  refine (congrArg (val_main_v74 (F := Ideal) x0 x1 x2 x3 e0) ?_).trans (s0_apply x0 x1 x2 x3 e0 b h he)
  exact (funext fun a => by match a with | ⟨0, _⟩ => rfl | ⟨1, _⟩ => rfl | ⟨2, _⟩ => rfl | ⟨3, _⟩ => rfl)

/-- The maximum. -/
theorem m_apply (he : ∀ i, e0 i = Spec.sigma) :
    val_main_v79 (F := Ideal) x0 x1 x2 x3 x5 x6 x7 r0 e0 (ix4 b (0 : Fin 1) h (0 : Fin 1)) = Softmax.mR (Spec.valid (fun k => x7 (ix3 b (0 : Fin 1) k))) (Spec.at_ (fun k => x7 (ix3 b (0 : Fin 1) k))) (Spec.score (fun j c => r0 (ix3 b j c)) (fun j g => x5 (ix3 b j g)) (fun j r => x6 (ix3 b j r)) (fun c => x0 (ix4 b (0 : Fin 1) h c)) (fun r => x1 (ix4 b (0 : Fin 1) h r))) (Spec.score0 (fun c => x0 (ix4 b (0 : Fin 1) h c)) (fun r => x1 (ix4 b (0 : Fin 1) h r)) (fun c => x2 (ix3 b (0 : Fin 1) c)) (fun r => x3 (ix3 b (0 : Fin 1) r))) := by
  rw [val_main_v79_apply, val_main_v76_apply, val_main_v78_apply]
  have e1 : idx_main_v76 (ix4 b (0 : Fin 1) h (0 : Fin 1)) = ix3 b (0 : Fin 1) h := (funext fun a => by match a with | ⟨0, _⟩ => rfl | ⟨1, _⟩ => rfl | ⟨2, _⟩ => rfl)
  have e2 : idx_main_v78 (ix4 b (0 : Fin 1) h (0 : Fin 1)) = ix3 b (0 : Fin 1) h := (funext fun a => by match a with | ⟨0, _⟩ => rfl | ⟨1, _⟩ => rfl | ⟨2, _⟩ => rfl)
  rw [e1, e2, v75_apply x0 x1 x5 x6 x7 r0 e0 b h he, v77_apply x0 x1 x2 x3 e0 b h he]
  rfl

/-- The exponential of selection `k`. -/
theorem e_apply (he : ∀ i, e0 i = Spec.sigma) (k : Fin 512) :
    val_main_v82 (F := Ideal) x0 x1 x2 x3 x5 x6 x7 r0 e0 (ix4 b (0 : Fin 1) h k)
      = Ideal.exp (Softmax.sr (Spec.valid (fun k => x7 (ix3 b (0 : Fin 1) k))) (Spec.at_ (fun k => x7 (ix3 b (0 : Fin 1) k))) (Spec.score (fun j c => r0 (ix3 b j c)) (fun j g => x5 (ix3 b j g)) (fun j r => x6 (ix3 b j r)) (fun c => x0 (ix4 b (0 : Fin 1) h c)) (fun r => x1 (ix4 b (0 : Fin 1) h r))) k - Softmax.mR (Spec.valid (fun k => x7 (ix3 b (0 : Fin 1) k))) (Spec.at_ (fun k => x7 (ix3 b (0 : Fin 1) k))) (Spec.score (fun j c => r0 (ix3 b j c)) (fun j g => x5 (ix3 b j g)) (fun j r => x6 (ix3 b j r)) (fun c => x0 (ix4 b (0 : Fin 1) h c)) (fun r => x1 (ix4 b (0 : Fin 1) h r))) (Spec.score0 (fun c => x0 (ix4 b (0 : Fin 1) h c)) (fun r => x1 (ix4 b (0 : Fin 1) h r)) (fun c => x2 (ix3 b (0 : Fin 1) c)) (fun r => x3 (ix3 b (0 : Fin 1) r)))) := by
  rw [val_main_v82_apply, val_main_v81_apply, val_main_v80_apply, sr_apply x0 x1 x5 x6 x7 r0 e0 b h he k]
  have e1 : idx_main_v80 (ix4 b (0 : Fin 1) h k) = ix4 b (0 : Fin 1) h (0 : Fin 1) := (funext fun a => by match a with | ⟨0, _⟩ => rfl | ⟨1, _⟩ => rfl | ⟨2, _⟩ => rfl | ⟨3, _⟩ => rfl)
  rw [e1, m_apply x0 x1 x2 x3 x5 x6 x7 r0 e0 b h he]
  rfl

/-- The exponential of the new token. -/
theorem e0_apply (he : ∀ i, e0 i = Spec.sigma) :
    val_main_v84 (F := Ideal) x0 x1 x2 x3 x5 x6 x7 r0 e0 (ix4 b (0 : Fin 1) h (0 : Fin 1))
      = Ideal.exp (Spec.score0 (fun c => x0 (ix4 b (0 : Fin 1) h c)) (fun r => x1 (ix4 b (0 : Fin 1) h r)) (fun c => x2 (ix3 b (0 : Fin 1) c)) (fun r => x3 (ix3 b (0 : Fin 1) r)) - Softmax.mR (Spec.valid (fun k => x7 (ix3 b (0 : Fin 1) k))) (Spec.at_ (fun k => x7 (ix3 b (0 : Fin 1) k))) (Spec.score (fun j c => r0 (ix3 b j c)) (fun j g => x5 (ix3 b j g)) (fun j r => x6 (ix3 b j r)) (fun c => x0 (ix4 b (0 : Fin 1) h c)) (fun r => x1 (ix4 b (0 : Fin 1) h r))) (Spec.score0 (fun c => x0 (ix4 b (0 : Fin 1) h c)) (fun r => x1 (ix4 b (0 : Fin 1) h r)) (fun c => x2 (ix3 b (0 : Fin 1) c)) (fun r => x3 (ix3 b (0 : Fin 1) r)))) := by
  rw [val_main_v84_apply, val_main_v83_apply, s0_apply x0 x1 x2 x3 e0 b h he, m_apply x0 x1 x2 x3 x5 x6 x7 r0 e0 b h he]
  rfl

/-- The inverse of the denominator. -/
theorem inv_apply (he : ∀ i, e0 i = Spec.sigma) :
    val_main_v91 (F := Ideal) x0 x1 x2 x3 x5 x6 x7 r0 e0 (ix4 b (0 : Fin 1) h (0 : Fin 1))
      = Ideal.div 1 (Softmax.lR (Spec.valid (fun k => x7 (ix3 b (0 : Fin 1) k))) (Spec.at_ (fun k => x7 (ix3 b (0 : Fin 1) k))) (Spec.score (fun j c => r0 (ix3 b j c)) (fun j g => x5 (ix3 b j g)) (fun j r => x6 (ix3 b j r)) (fun c => x0 (ix4 b (0 : Fin 1) h c)) (fun r => x1 (ix4 b (0 : Fin 1) h r))) (Spec.score0 (fun c => x0 (ix4 b (0 : Fin 1) h c)) (fun r => x1 (ix4 b (0 : Fin 1) h r)) (fun c => x2 (ix3 b (0 : Fin 1) c)) (fun r => x3 (ix3 b (0 : Fin 1) r)))) := by
  rw [val_main_v91_apply, val_main_v90_apply, val_main_cst_20_apply, val_main_v89_apply, val_main_v86_apply, val_main_v88_apply]
  have e1 : idx_main_v86 (ix4 b (0 : Fin 1) h (0 : Fin 1)) = ix3 b (0 : Fin 1) h := (funext fun a => by match a with | ⟨0, _⟩ => rfl | ⟨1, _⟩ => rfl | ⟨2, _⟩ => rfl)
  have e2 : idx_main_v88 (ix4 b (0 : Fin 1) h (0 : Fin 1)) = ix3 b (0 : Fin 1) h := (funext fun a => by match a with | ⟨0, _⟩ => rfl | ⟨1, _⟩ => rfl | ⟨2, _⟩ => rfl)
  rw [e1, e2, val_main_v85_apply, val_main_v87_apply, val_main_cst_18_apply, val_main_cst_19_apply, zero_word, one_word]
  show Ideal.div 1 ((0 + _) + (0 + _)) = _
  rw [zero_add, zero_add, Finset.univ_unique (α := Fin 1), Finset.sum_singleton]
  unfold Softmax.lR
  refine congrArg (Ideal.div 1) (congrArg₂ (· + ·) (Finset.sum_congr rfl fun k _ => ?_) ?_)
  · exact (congrArg (val_main_v82 (F := Ideal) x0 x1 x2 x3 x5 x6 x7 r0 e0) (funext fun a => by match a with | ⟨0, _⟩ => rfl | ⟨1, _⟩ => rfl | ⟨2, _⟩ => rfl | ⟨3, _⟩ => rfl)).trans (e_apply x0 x1 x2 x3 x5 x6 x7 r0 e0 b h he k)
  · exact (congrArg (val_main_v84 (F := Ideal) x0 x1 x2 x3 x5 x6 x7 r0 e0) (funext fun a => by match a with | ⟨0, _⟩ => rfl | ⟨1, _⟩ => rfl | ⟨2, _⟩ => rfl | ⟨3, _⟩ => rfl)).trans (e0_apply x0 x1 x2 x3 x5 x6 x7 r0 e0 b h he)

/-- The reference's result at row `b`, head `h`, column `c`. -/
theorem result_apply (he : ∀ i, e0 i = Spec.sigma) (c : Fin 512) :
    val_main_v100 (F := Ideal) x0 x1 x2 x3 x5 x6 x7 r0 e0 (ix4 b (0 : Fin 1) h c)
      = Spec.result (fun j c => r0 (ix3 b j c)) (fun j g => x5 (ix3 b j g)) (fun j r => x6 (ix3 b j r)) (fun c => x0 (ix4 b (0 : Fin 1) h c)) (fun r => x1 (ix4 b (0 : Fin 1) h r)) (fun c => x2 (ix3 b (0 : Fin 1) c)) (fun r => x3 (ix3 b (0 : Fin 1) r)) (fun k => x7 (ix3 b (0 : Fin 1) k)) c := by
  rw [val_main_v100_apply, val_main_v99_apply, val_main_v97_apply, val_main_v98_apply]
  show (_ + _ : EReal) = _
  rw [Finset.univ_unique (α := Fin 1), Finset.sum_singleton]
  unfold Spec.result Softmax.outR
  refine congrArg₂ (· + ·) (Finset.sum_congr rfl fun k _ => ?_) ?_
  · refine congrArg₂ (· * ·) ?_ ((congrArg (val_main_v56 (F := Ideal) x5 x7 r0) (funext fun a => by match a with | ⟨0, _⟩ => rfl | ⟨1, _⟩ => rfl | ⟨2, _⟩ => rfl | ⟨3, _⟩ => rfl)).trans (lat_apply x5 x7 r0 b k c))
    rw [val_main_v94_apply, val_main_v93_apply, val_main_v92_apply]
    refine congrArg₂ (· * ·) ((congrArg (val_main_v82 (F := Ideal) x0 x1 x2 x3 x5 x6 x7 r0 e0) (funext fun a => by match a with | ⟨0, _⟩ => rfl | ⟨1, _⟩ => rfl | ⟨2, _⟩ => rfl | ⟨3, _⟩ => rfl)).trans (e_apply x0 x1 x2 x3 x5 x6 x7 r0 e0 b h he k)) ?_
    exact (congrArg (val_main_v91 (F := Ideal) x0 x1 x2 x3 x5 x6 x7 r0 e0) (funext fun a => by match a with | ⟨0, _⟩ => rfl | ⟨1, _⟩ => rfl | ⟨2, _⟩ => rfl | ⟨3, _⟩ => rfl)).trans (inv_apply x0 x1 x2 x3 x5 x6 x7 r0 e0 b h he)
  · refine congrArg₂ (· * ·) ?_ (congrArg x2 (funext fun a => by match a with | ⟨0, _⟩ => rfl | ⟨1, _⟩ => rfl | ⟨2, _⟩ => rfl))
    rw [val_main_v96_apply, val_main_v95_apply]
    refine congrArg₂ (· * ·) ((congrArg (val_main_v84 (F := Ideal) x0 x1 x2 x3 x5 x6 x7 r0 e0) (funext fun a => by match a with | ⟨0, _⟩ => rfl | ⟨1, _⟩ => rfl | ⟨2, _⟩ => rfl | ⟨3, _⟩ => rfl)).trans (e0_apply x0 x1 x2 x3 x5 x6 x7 r0 e0 b h he)) ?_
    exact (congrArg (val_main_v91 (F := Ideal) x0 x1 x2 x3 x5 x6 x7 r0 e0) (funext fun a => by match a with | ⟨0, _⟩ => rfl | ⟨1, _⟩ => rfl | ⟨2, _⟩ => rfl | ⟨3, _⟩ => rfl)).trans (inv_apply x0 x1 x2 x3 x5 x6 x7 r0 e0 b h he)

end Cert.ReferenceIdeal.Hand

end

end
-- ==== Proof.Algebraic.lean ====
module

public import proofs.«01_k».proof.Proof.KerArray
public import proofs.«01_k».proof.Proof.RefRegion
public import proofs.«01_k».proof.Proof.RefValue
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read

@[expose] public section

set_option maxRecDepth 16384

/-! Kernel and reference end with equal results. -/

noncomputable section

open Idealize.ShloMosaic hiding ix1 ix2 ix3 ix4
open Idealize.ShloMosaic.TcCoe ValueIdx

namespace Cert.KernelIdeal.Hand

open Cert.KernelIdeal Cert.KernelIdeal.Gen
open Idealize.ShloMosaic.Pipeline (Dat Cfg Window)

/-- The kernel's run: the result is the attention formula over the arguments, and the arguments end as launched. -/
theorem run_value (m : (ℓ : Loc nD τ sig) → Buf (Elt Ideal) ℓ) (ρ : Dev nD → PrngReg) (hi : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v3) = (G m c : S64x1x128x512.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ ⟨h, _⟩ c => ⟨((h c).1 8).trans (array_eq m c hi),
      ((h c).1 0).trans (((dats m 0 c).arrAt_in 0 rfl _).trans (V_main_arg0 m c)),
      ((h c).2 main_arg1 (Pipeline.mem_restRefs_of main_arg1 (by decide) (by decide))).trans (V_main_arg1 m c),
      ((h c).1 2).trans (((dats m 0 c).arrAt_in 2 rfl _).trans (V_main_arg2 m c)),
      ((h c).1 3).trans (((dats m 0 c).arrAt_in 3 rfl _).trans (V_main_arg3 m c)),
      ((h c).1 4).trans (((dats m 0 c).arrAt_in 4 rfl _).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 7).trans (((dats m 0 c).arrAt_in 7 rfl _).trans (V_main_arg7 m c))⟩) (run_main m ρ (top_lt m hi))

end Cert.KernelIdeal.Hand

namespace Cert.ReferenceIdeal.Hand

open Cert.ReferenceIdeal Cert.ReferenceIdeal.Gen Cert.ReferenceIdeal.Value Cert.ReferenceIdeal.Read

variable (m : (ℓ : Loc nD τ sig) → Buf (Elt Ideal) ℓ) (c : Dev nD)

/-! The reference's arguments. -/
def a0 : S64x1x128x512.Idx → EReal := m ((c : Thread nD τ).loc main_arg0)
def a1 : S64x1x128x64.Idx → EReal := m ((c : Thread nD τ).loc main_arg1)
def a2 : S64x1x512.Idx → EReal := m ((c : Thread nD τ).loc main_arg2)
def a3 : S64x1x64.Idx → EReal := m ((c : Thread nD τ).loc main_arg3)
def a5 : S64x2048x4.Idx → EReal := m ((c : Thread nD τ).loc main_arg5)
def a6 : S64x2048x64.Idx → EReal := m ((c : Thread nD τ).loc main_arg6)
def a7 : S64x1x512.Idx → BitVec 32 := m ((c : Thread nD τ).loc main_arg7)

/-- The reference's result at an index, as the attention formula over row `i 0` of the arguments. -/
def G (i : S64x1x128x512.Idx) : EReal :=
  Spec.result (fun j k => codesOf m c (ix3 (i 0 : Fin 64) j k)) (fun j g => a5 m c (ix3 (i 0 : Fin 64) j g)) (fun j r => a6 m c (ix3 (i 0 : Fin 64) j r))
    (fun k => a0 m c (ix4 (i 0 : Fin 64) (0 : Fin 1) (i 2 : Fin 128) k)) (fun r => a1 m c (ix4 (i 0 : Fin 64) (0 : Fin 1) (i 2 : Fin 128) r))
    (fun k => a2 m c (ix3 (i 0 : Fin 64) (0 : Fin 1) k)) (fun r => a3 m c (ix3 (i 0 : Fin 64) (0 : Fin 1) r))
    (fun k => a7 m c (ix3 (i 0 : Fin 64) (0 : Fin 1) k)) (i 3 : Fin 512)

/-- The reference's stages over the arguments give the attention formula. -/
theorem val_eq : val_main_v100 (F := Ideal) (a0 m c) (a1 m c) (a2 m c) (a3 m c) (a5 m c) (a6 m c) (a7 m c) (reg_main_v1 (F := Ideal) m c)
    (Host.rsqrt (constant (F := Ideal) S_ .f32 0x43400000#32)) = G m c := by
  funext i
  obtain ⟨b, h, k, rfl⟩ : ∃ (b : Fin 64) (h : Fin 128) (k : Fin 512), i = ix4 b (0 : Fin 1) h k :=
    ⟨(i 0 : Fin 64), (i 2 : Fin 128), (i 3 : Fin 512), funext fun a => by
      match a with
      | ⟨0, _⟩ => rfl
      | ⟨1, _⟩ => exact Subsingleton.elim (α := Fin 1) _ _
      | ⟨2, _⟩ => rfl
      | ⟨3, _⟩ => rfl⟩
  refine (result_apply (a0 m c) (a1 m c) (a2 m c) (a3 m c) (a5 m c) (a6 m c) (a7 m c) (reg_main_v1 (F := Ideal) m c) _ b h scale_eq k).trans ?_
  rw [show (fun j k => reg_main_v1 (F := Ideal) m c (ix3 b j k)) = fun j k => codesOf m c (ix3 b j k) from
    funext fun j => funext fun k => widened m c _]
  rfl

/-- The reference's term for its result is the attention formula. -/
theorem exit_eq : val_main_v100 (F := Ideal) (exitV m c (Proc.devRef .tc main_arg0)) (exitV m c (Proc.devRef .tc main_arg1)) (exitV m c (Proc.devRef .tc main_arg2))
    (exitV m c (Proc.devRef .tc main_arg3)) (exitV m c (Proc.devRef .tc main_arg5)) (exitV m c (Proc.devRef .tc main_arg6)) (exitV m c (Proc.devRef .tc main_arg7))
    (exitV m c (Proc.devRef .tc main_v1)) (exitV m c (Proc.devRef .tc main_v0)) = G m c := by
  rw [exit_main_arg0, exit_main_arg1, exit_main_arg2, exit_main_arg3, exit_main_arg5, exit_main_arg6, exit_main_arg7, exit_main_v1, exit_main_v0]
  exact val_eq m c

/-- The reference's run: the result is the attention formula over the arguments, and the arguments end as launched. -/
theorem run_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v100) = (G m c : S64x1x128x512.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans ((val_main_v100_eq (exitV m c)).trans (exit_eq m c)), (h c).2⟩) (run (F := Ideal) m ρ)

end Cert.ReferenceIdeal.Hand

namespace Cert.Value

/-- From memories agreeing on the arguments the two formulas agree. -/
theorem formulas_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : Cert.ReferenceIdeal.Hand.a0 m' c = Cert.KernelIdeal.Hand.a0 m c) (h1 : Cert.ReferenceIdeal.Hand.a1 m' c = Cert.KernelIdeal.Hand.a1 m c)
    (h2 : Cert.ReferenceIdeal.Hand.a2 m' c = Cert.KernelIdeal.Hand.a2 m c) (h3 : Cert.ReferenceIdeal.Hand.a3 m' c = Cert.KernelIdeal.Hand.a3 m c)
    (h4 : Cert.ReferenceIdeal.Hand.codesOf m' c = Cert.KernelIdeal.Hand.a4 m c) (h5 : Cert.ReferenceIdeal.Hand.a5 m' c = Cert.KernelIdeal.Hand.a5 m c)
    (h6 : Cert.ReferenceIdeal.Hand.a6 m' c = Cert.KernelIdeal.Hand.a6 m c) (h7 : Cert.ReferenceIdeal.Hand.a7 m' c = Cert.KernelIdeal.Hand.a7 m c) :
    Cert.ReferenceIdeal.Hand.G m' c = Cert.KernelIdeal.Hand.G m c := by
  funext i
  unfold Cert.ReferenceIdeal.Hand.G Cert.KernelIdeal.Hand.G
  rw [h0, h1, h2, h3, h4, h5, h6, h7]

/-- Kernel and reference, over the extended reals, end with equal results and unchanged arguments. -/
theorem algebraic : Cert.algebraic_KernelIdeal_ReferenceIdeal := by
  intro m g m' g' hi hargs
  refine ⟨fun c => Cert.KernelIdeal.Hand.G m c, Cert.KernelIdeal.Hand.run_value m g hi, ?_⟩
  refine (θ_run Cert.ReferenceIdeal.defs _ _).mono (fun r h c => ⟨(h c).1.trans ?_, (h c).2⟩) (Cert.ReferenceIdeal.Hand.run_value m' g')
  obtain ⟨h0, h1, h2, h3, h4, h5, h6, h7⟩ := hargs c
  exact formulas_eq m m' c h0 h1 h2 h3 h4 h5 h6 h7

end Cert.Value

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import proofs.«01_k».proof.Proof.Machine.Top
public import proofs.«01_k».proof.Proof.Machine.Point
public import proofs.«01_k».proof.Proof.Top
public import proofs.«01_k».proof.Proof.Point
public import proofs.«01_k».proof.Proof.Gen.ReferenceIdeal.Run
public import proofs.«01_k».proof.Proof.Gen.ReferenceIdeal.Read
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  fun m ρ h => Cert.Kernel.Hand.quiescent m ρ (Cert.Kernel.Hand.top_lt m h),
  fun m ρ h => Cert.KernelIdeal.Hand.quiescent m ρ (Cert.KernelIdeal.Hand.top_lt m h),
  fun m ρ _ => Cert.ReferenceIdeal.Gen.frame m ρ,
  fun m ρ _ => Cert.ReferenceIdeal.Gen.frame m ρ,
  ⟨IdealRules.named_const.statement Cert.KernelIdeal.κ "log2e" .f32 0x3FB8AA3B#32 _ rfl,
   IdealRules.named_const.statement Cert.KernelIdeal.κ "score_scale_log2e" .f32 0x3DD53B95#32 _ rfl⟩,
  Cert.Value.algebraic⟩

end Cert.Proof

end
